-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_arguments [hPre_finite_arguments : Cert.Pre_finite_arguments.Facts] (m : (ℓ : Loc Cert.AttnIdeal.nD Cert.AttnIdeal.τ Cert.AttnIdeal.sig) → Buf (Elt Ideal) ℓ) : Prop :=
  ∀ c : Dev Cert.AttnIdeal.nD,
    (Cert.Pre_finite_arguments.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))) = (fun _ => 1#1)

def Pre_RefIdeal (m : (ℓ : Loc Cert.RefIdeal.nD Cert.RefIdeal.τ Cert.RefIdeal.sig) → Buf (Elt Ideal) ℓ) : Prop :=
  True

def Pre_RefIdeal_finite_arguments [hPre_finite_arguments : Cert.Pre_finite_arguments.Facts] (m : (ℓ : Loc Cert.RefIdeal.nD Cert.RefIdeal.τ Cert.RefIdeal.sig) → Buf (Elt Ideal) ℓ) : Prop :=
  ∀ c : Dev Cert.RefIdeal.nD,
    (Cert.Pre_finite_arguments.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_finite_arguments [hAttnIdeal : Cert.AttnIdeal.Facts] [hPre_finite_arguments : Cert.Pre_finite_arguments.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_arguments m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8))
      ∧ r.2.sem = fun _ => 0)

def quiescent_RefIdeal_pre_finite_arguments [hRefIdeal : Cert.RefIdeal.Facts] [hPre_finite_arguments : Cert.Pre_finite_arguments.Facts] : Prop :=
  ∀ (m : (ℓ : Loc Cert.RefIdeal.nD Cert.RefIdeal.τ Cert.RefIdeal.sig) → Buf (Elt Ideal) ℓ) (g : Dev Cert.RefIdeal.nD → PrngReg), Pre_RefIdeal_finite_arguments m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def preserves_Attn_AttnIdeal : Prop :=
  IdealRules.named_const.Statement Cert.AttnIdeal.κ "mask" .f32 0xF149F2CA#32 ⊥

def algebraic_AttnIdeal_RefIdeal_pre_finite_arguments [hAttnIdeal : Cert.AttnIdeal.Facts] [hRefIdeal : Cert.RefIdeal.Facts] [hPre_finite_arguments : Cert.Pre_finite_arguments.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefIdeal.nD Cert.RefIdeal.τ Cert.RefIdeal.sig) → Buf (Elt Ideal) ℓ) (g' : Dev Cert.RefIdeal.nD → PrngReg), Pre_AttnIdeal_finite_arguments m →
    (∀ c : Dev Cert.AttnIdeal.nD,
      m' ((c.tc : Thread Cert.RefIdeal.nD Cert.RefIdeal.τ).loc Cert.RefIdeal.main_arg0) = m ((c.tc : Thread Cert.AttnIdeal.nD Cert.AttnIdeal.τ).loc Cert.AttnIdeal.main_arg0)
      ∧ m' ((c.tc : Thread Cert.RefIdeal.nD Cert.RefIdeal.τ).loc Cert.RefIdeal.main_arg1) = m ((c.tc : Thread Cert.AttnIdeal.nD Cert.AttnIdeal.τ).loc Cert.AttnIdeal.main_arg1)
      ∧ m' ((c.tc : Thread Cert.RefIdeal.nD Cert.RefIdeal.τ).loc Cert.RefIdeal.main_arg2) = m ((c.tc : Thread Cert.AttnIdeal.nD Cert.AttnIdeal.τ).loc Cert.AttnIdeal.main_arg2)
      ∧ m' ((c.tc : Thread Cert.RefIdeal.nD Cert.RefIdeal.τ).loc Cert.RefIdeal.main_arg3) = m ((c.tc : Thread Cert.AttnIdeal.nD Cert.AttnIdeal.τ).loc Cert.AttnIdeal.main_arg3)
      ∧ m' ((c.tc : Thread Cert.RefIdeal.nD Cert.RefIdeal.τ).loc Cert.RefIdeal.main_arg4) = m ((c.tc : Thread Cert.AttnIdeal.nD Cert.AttnIdeal.τ).loc Cert.AttnIdeal.main_arg4)
      ∧ m' ((c.tc : Thread Cert.RefIdeal.nD Cert.RefIdeal.τ).loc Cert.RefIdeal.main_arg5) = m ((c.tc : Thread Cert.AttnIdeal.nD Cert.AttnIdeal.τ).loc Cert.AttnIdeal.main_arg5)
      ∧ m' ((c.tc : Thread Cert.RefIdeal.nD Cert.RefIdeal.τ).loc Cert.RefIdeal.main_arg6) = m ((c.tc : Thread Cert.AttnIdeal.nD Cert.AttnIdeal.τ).loc Cert.AttnIdeal.main_arg6)
      ∧ m' ((c.tc : Thread Cert.RefIdeal.nD Cert.RefIdeal.τ).loc Cert.RefIdeal.main_arg7) = m ((c.tc : Thread Cert.AttnIdeal.nD Cert.AttnIdeal.τ).loc Cert.AttnIdeal.main_arg7)
      ∧ m' ((c.tc : Thread Cert.RefIdeal.nD Cert.RefIdeal.τ).loc Cert.RefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v15)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v15) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v94) = v0 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v50) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def Claim : Prop :=
  ∃ (hAttn : Cert.Attn.Facts) (hAttnIdeal : Cert.AttnIdeal.Facts) (hRefIdeal : Cert.RefIdeal.Facts) (hMlp : Cert.Mlp.Facts) (hMlpIdeal : Cert.MlpIdeal.Facts) (hMlpRefIdeal : Cert.MlpRefIdeal.Facts) (hPre_finite_arguments : Cert.Pre_finite_arguments.Facts),
    quiescent_Attn (hAttn := hAttn)
    ∧ quiescent_AttnIdeal (hAttnIdeal := hAttnIdeal)
    ∧ quiescent_AttnIdeal_pre_finite_arguments (hAttnIdeal := hAttnIdeal) (hPre_finite_arguments := hPre_finite_arguments)
    ∧ quiescent_RefIdeal (hRefIdeal := hRefIdeal)
    ∧ quiescent_RefIdeal_pre_finite_arguments (hRefIdeal := hRefIdeal) (hPre_finite_arguments := hPre_finite_arguments)
    ∧ quiescent_Mlp (hMlp := hMlp)
    ∧ quiescent_MlpIdeal (hMlpIdeal := hMlpIdeal)
    ∧ quiescent_MlpRefIdeal (hMlpRefIdeal := hMlpRefIdeal)
    ∧ preserves_Attn_AttnIdeal
    ∧ algebraic_AttnIdeal_RefIdeal_pre_finite_arguments (hAttnIdeal := hAttnIdeal) (hRefIdeal := hRefIdeal) (hPre_finite_arguments := hPre_finite_arguments)
    ∧ preserves_Mlp_MlpIdeal
    ∧ algebraic_MlpIdeal_MlpRefIdeal (hMlpIdeal := hMlpIdeal) (hMlpRefIdeal := hMlpRefIdeal)
-- ==== Pre_finite_arguments.lean ====
abbrev S4x8x16x512x128 : Shape := ⟨5, ![4, 8, 16, 512, 128]⟩
abbrev S4x8x16x256x128 : Shape := ⟨5, ![4, 8, 16, 256, 128]⟩
abbrev S4x8x16x128x256 : Shape := ⟨5, ![4, 8, 16, 128, 256]⟩
abbrev S1x64 : Shape := ⟨2, ![1, 64]⟩
abbrev S1x128 : Shape := ⟨2, ![1, 128]⟩
abbrev S_ : Shape := ⟨0, ![]⟩
abbrev S4x4x16x512x128 : Shape := ⟨5, ![4, 4, 16, 512, 128]⟩
abbrev S4x4x16x256x128 : Shape := ⟨5, ![4, 4, 16, 256, 128]⟩
abbrev S4x4x16x128x256 : Shape := ⟨5, ![4, 4, 16, 128, 256]⟩
abbrev S4x4x16x256x64 : Shape := ⟨5, ![4, 4, 16, 256, 64]⟩

class Facts : Prop where
  slices_S4x8x16x512x128_S4x4x16x512x128_0_0_0_0_0 : S4x8x16x512x128.Slices ![0, 0, 0, 0, 0] S4x4x16x512x128
  bitsLt_bf16_f32 : FTy.bits .bf16 < FTy.bits .f32
  bcast_S_S4x4x16x512x128 : S_.BroadcastsInDim S4x4x16x512x128 (![] : Fin 0 → Fin S4x4x16x512x128.rank)
  reducesTo_S4x4x16x512x128_S_d0_1_2_3_4 : S4x4x16x512x128.ReducesTo [0, 1, 2, 3, 4] S_
  h_S_ : 0 < S_.numel
  slices_S4x8x16x256x128_S4x4x16x256x128_0_0_0_0_0 : S4x8x16x256x128.Slices ![0, 0, 0, 0, 0] S4x4x16x256x128
  bcast_S_S4x4x16x256x128 : S_.BroadcastsInDim S4x4x16x256x128 (![] : Fin 0 → Fin S4x4x16x256x128.rank)
  reducesTo_S4x4x16x256x128_S_d0_1_2_3_4 : S4x4x16x256x128.ReducesTo [0, 1, 2, 3, 4] S_
  slices_S4x8x16x128x256_S4x4x16x128x256_0_0_0_0_0 : S4x8x16x128x256.Slices ![0, 0, 0, 0, 0] S4x4x16x128x256
  bcast_S_S4x4x16x128x256 : S_.BroadcastsInDim S4x4x16x128x256 (![] : Fin 0 → Fin S4x4x16x128x256.rank)
  reducesTo_S4x4x16x128x256_S_d0_1_2_3_4 : S4x4x16x128x256.ReducesTo [0, 1, 2, 3, 4] S_
  bcast_S_S1x64 : S_.BroadcastsInDim S1x64 (![] : Fin 0 → Fin S1x64.rank)
  reducesTo_S1x64_S_d0_1 : S1x64.ReducesTo [0, 1] S_
  reducesTo_S_S_d : S_.ReducesTo [] S_
  slices_S4x4x16x512x128_S4x4x16x256x64_0_0_0_0_64 : S4x4x16x512x128.Slices ![0, 0, 0, 0, 64] S4x4x16x256x64
  bcast_S_S4x4x16x256x64 : S_.BroadcastsInDim S4x4x16x256x64 (![] : Fin 0 → Fin S4x4x16x256x64.rank)
  reducesTo_S4x4x16x256x64_S_d0_1_2_3_4 : S4x4x16x256x64.ReducesTo [0, 1, 2, 3, 4] S_
  slices_S4x4x16x512x128_S4x4x16x256x64_0_0_0_256_0 : S4x4x16x512x128.Slices ![0, 0, 0, 256, 0] S4x4x16x256x64

variable [Facts]

def fn_part3 {F : FTy → Type} [FloatOps F] (main_v49 : IVec S_ 1) (main_v51 : FVec F S4x4x16x256x64 .f32) (main_v52 : FVec F S4x4x16x256x64 .f32) : IVec S_ 1 :=
  let main_v53 : IVec S4x4x16x256x64 1 := cmpf .oeq main_v51 main_v52
  let main_c_17 : IVec S_ 1 := constantI S_ 1 1#1
  let main_v54 : IVec S_ 1 := (fun x v => Host.reduce IntOp.andi x v reducesTo_S4x4x16x256x64_S_d0_1_2_3_4 h_S_) main_v53 main_c_17
  let main_v55 : IVec S_ 1 := andi main_v49 main_v54
  main_v55

def fn_part2 {F : FTy → Type} [FloatOps F] (main_arg8 : FVec F S_ .f32) (main_v0 : FVec F S4x4x16x512x128 .bf16) (main_v34 : IVec S_ 1) (main_v35 : FVec F S1x64 .f32) : IVec S_ 1 :=
  let main_cst_10 : FVec F S_ .f32 := constant S_ .f32 0x7F800000#32
  let main_v36 : FVec F S1x64 .f32 := broadcastInDim S1x64 ![] bcast_S_S1x64 main_cst_10
  let main_v37 : IVec S1x64 1 := cmpf .olt main_v35 main_v36
  let main_c_11 : IVec S_ 1 := constantI S_ 1 1#1
  let main_v38 : IVec S_ 1 := (fun x v => Host.reduce IntOp.andi x v reducesTo_S1x64_S_d0_1 h_S_) main_v37 main_c_11
  let main_v39 : IVec S_ 1 := andi main_v34 main_v38
  let main_v40 : FVec F S_ .f32 := Host.absf main_arg8
  let main_cst_12 : FVec F S_ .f32 := constant S_ .f32 0x7F800000#32
  let main_v41 : IVec S_ 1 := cmpf .olt main_v40 main_cst_12
  let main_c_13 : IVec S_ 1 := constantI S_ 1 1#1
  let main_v42 : IVec S_ 1 := (fun x v => Host.reduce IntOp.andi x v reducesTo_S_S_d h_S_) main_v41 main_c_13
  let main_v43 : IVec S_ 1 := andi main_v39 main_v42
  let main_v44 : FVec F S4x4x16x256x64 .bf16 := (extractStridedSlice S4x4x16x256x64 ![0, 0, 0, 0, 64] · slices_S4x4x16x512x128_S4x4x16x256x64_0_0_0_0_64) main_v0
  let main_v45 : FVec F S4x4x16x256x64 .f32 := (extf .f32 · bitsLt_bf16_f32) main_v44
  let main_cst_14 : FVec F S_ .f32 := constant S_ .f32 0x00000000#32
  let main_v46 : FVec F S4x4x16x256x64 .f32 := broadcastInDim S4x4x16x256x64 ![] bcast_S_S4x4x16x256x64 main_cst_14
  let main_v47 : IVec S4x4x16x256x64 1 := cmpf .oeq main_v45 main_v46
  let main_c_15 : IVec S_ 1 := constantI S_ 1 1#1
  let main_v48 : IVec S_ 1 := (fun x v => Host.reduce IntOp.andi x v reducesTo_S4x4x16x256x64_S_d0_1_2_3_4 h_S_) main_v47 main_c_15
  let main_v49 : IVec S_ 1 := andi main_v43 main_v48
  let main_v50 : FVec F S4x4x16x256x64 .bf16 := (extractStridedSlice S4x4x16x256x64 ![0, 0, 0, 256, 0] · slices_S4x4x16x512x128_S4x4x16x256x64_0_0_0_256_0) main_v0
  let main_v51 : FVec F S4x4x16x256x64 .f32 := (extf .f32 · bitsLt_bf16_f32) main_v50
  let main_cst_16 : FVec F S_ .f32 := constant S_ .f32 0x00000000#32
  let main_v52 : FVec F S4x4x16x256x64 .f32 := broadcastInDim S4x4x16x256x64 ![] bcast_S_S4x4x16x256x64 main_cst_16
  fn_part3 (F := F) main_v49 main_v51 main_v52

def fn_part1 {F : FTy → Type} [FloatOps F] (main_arg3 : FVec F S1x64 .f32) (main_arg4 : FVec F S1x64 .f32) (main_arg5 : FVec F S1x64 .f32) (main_arg6 : FVec F S1x64 .f32) (main_arg8 : FVec F S_ .f32) (main_v0 : FVec F S4x4x16x512x128 .bf16) (main_v12 : IVec S_ 1) (main_v17 : IVec S4x4x16x128x256 1) (main_c_3 : IVec S_ 1) : IVec S_ 1 :=
  let main_v18 : IVec S_ 1 := (fun x v => Host.reduce IntOp.andi x v reducesTo_S4x4x16x128x256_S_d0_1_2_3_4 h_S_) main_v17 main_c_3
  let main_v19 : IVec S_ 1 := andi main_v12 main_v18
  let main_v20 : FVec F S1x64 .f32 := Host.absf main_arg3
  let main_cst_4 : FVec F S_ .f32 := constant S_ .f32 0x7F800000#32
  let main_v21 : FVec F S1x64 .f32 := broadcastInDim S1x64 ![] bcast_S_S1x64 main_cst_4
  let main_v22 : IVec S1x64 1 := cmpf .olt main_v20 main_v21
  let main_c_5 : IVec S_ 1 := constantI S_ 1 1#1
  let main_v23 : IVec S_ 1 := (fun x v => Host.reduce IntOp.andi x v reducesTo_S1x64_S_d0_1 h_S_) main_v22 main_c_5
  let main_v24 : IVec S_ 1 := andi main_v19 main_v23
  let main_v25 : FVec F S1x64 .f32 := Host.absf main_arg4
  let main_cst_6 : FVec F S_ .f32 := constant S_ .f32 0x7F800000#32
  let main_v26 : FVec F S1x64 .f32 := broadcastInDim S1x64 ![] bcast_S_S1x64 main_cst_6
  let main_v27 : IVec S1x64 1 := cmpf .olt main_v25 main_v26
  let main_c_7 : IVec S_ 1 := constantI S_ 1 1#1
  let main_v28 : IVec S_ 1 := (fun x v => Host.reduce IntOp.andi x v reducesTo_S1x64_S_d0_1 h_S_) main_v27 main_c_7
  let main_v29 : IVec S_ 1 := andi main_v24 main_v28
  let main_v30 : FVec F S1x64 .f32 := Host.absf main_arg5
  let main_cst_8 : FVec F S_ .f32 := constant S_ .f32 0x7F800000#32
  let main_v31 : FVec F S1x64 .f32 := broadcastInDim S1x64 ![] bcast_S_S1x64 main_cst_8
  let main_v32 : IVec S1x64 1 := cmpf .olt main_v30 main_v31
  let main_c_9 : IVec S_ 1 := constantI S_ 1 1#1
  let main_v33 : IVec S_ 1 := (fun x v => Host.reduce IntOp.andi x v reducesTo_S1x64_S_d0_1 h_S_) main_v32 main_c_9
  let main_v34 : IVec S_ 1 := andi main_v29 main_v33
  let main_v35 : FVec F S1x64 .f32 := Host.absf main_arg6
  fn_part2 (F := F) main_arg8 main_v0 main_v34 main_v35

def fn {F : FTy → Type} [FloatOps F] (main_arg0 : FVec F S4x8x16x512x128 .bf16) (main_arg1 : FVec F S4x8x16x256x128 .bf16) (main_arg2 : FVec F S4x8x16x128x256 .bf16) (main_arg3 : FVec F S1x64 .f32) (main_arg4 : FVec F S1x64 .f32) (main_arg5 : FVec F S1x64 .f32) (main_arg6 : FVec F S1x64 .f32) (main_arg7 : FVec F S1x128 .f32) (main_arg8 : FVec F S_ .f32) : IVec S_ 1 :=
  let main_v0 : FVec F S4x4x16x512x128 .bf16 := (extractStridedSlice S4x4x16x512x128 ![0, 0, 0, 0, 0] · slices_S4x8x16x512x128_S4x4x16x512x128_0_0_0_0_0) main_arg0
  let main_v1 : FVec F S4x4x16x512x128 .f32 := (extf .f32 · bitsLt_bf16_f32) main_v0
  let main_v2 : FVec F S4x4x16x512x128 .f32 := Host.absf main_v1
  let main_cst : FVec F S_ .f32 := constant S_ .f32 0x7F800000#32
  let main_v3 : FVec F S4x4x16x512x128 .f32 := broadcastInDim S4x4x16x512x128 ![] bcast_S_S4x4x16x512x128 main_cst
  let main_v4 : IVec S4x4x16x512x128 1 := cmpf .olt main_v2 main_v3
  let main_c : IVec S_ 1 := constantI S_ 1 1#1
  let main_v5 : IVec S_ 1 := (fun x v => Host.reduce IntOp.andi x v reducesTo_S4x4x16x512x128_S_d0_1_2_3_4 h_S_) main_v4 main_c
  let main_v6 : FVec F S4x4x16x256x128 .bf16 := (extractStridedSlice S4x4x16x256x128 ![0, 0, 0, 0, 0] · slices_S4x8x16x256x128_S4x4x16x256x128_0_0_0_0_0) main_arg1
  let main_v7 : FVec F S4x4x16x256x128 .f32 := (extf .f32 · bitsLt_bf16_f32) main_v6
  let main_v8 : FVec F S4x4x16x256x128 .f32 := Host.absf main_v7
  let main_cst_0 : FVec F S_ .f32 := constant S_ .f32 0x7F800000#32
  let main_v9 : FVec F S4x4x16x256x128 .f32 := broadcastInDim S4x4x16x256x128 ![] bcast_S_S4x4x16x256x128 main_cst_0
  let main_v10 : IVec S4x4x16x256x128 1 := cmpf .olt main_v8 main_v9
  let main_c_1 : IVec S_ 1 := constantI S_ 1 1#1
  let main_v11 : IVec S_ 1 := (fun x v => Host.reduce IntOp.andi x v reducesTo_S4x4x16x256x128_S_d0_1_2_3_4 h_S_) main_v10 main_c_1
  let main_v12 : IVec S_ 1 := andi main_v5 main_v11
  let main_v13 : FVec F S4x4x16x128x256 .bf16 := (extractStridedSlice S4x4x16x128x256 ![0, 0, 0, 0, 0] · slices_S4x8x16x128x256_S4x4x16x128x256_0_0_0_0_0) main_arg2
  let main_v14 : FVec F S4x4x16x128x256 .f32 := (extf .f32 · bitsLt_bf16_f32) main_v13
  let main_v15 : FVec F S4x4x16x128x256 .f32 := Host.absf main_v14
  let main_cst_2 : FVec F S_ .f32 := constant S_ .f32 0x7F800000#32
  let main_v16 : FVec F S4x4x16x128x256 .f32 := broadcastInDim S4x4x16x128x256 ![] bcast_S_S4x4x16x128x256 main_cst_2
  let main_v17 : IVec S4x4x16x128x256 1 := cmpf .olt main_v15 main_v16
  let main_c_3 : IVec S_ 1 := constantI S_ 1 1#1
  fn_part1 (F := F) main_arg3 main_arg4 main_arg5 main_arg6 main_arg8 main_v0 main_v12 main_v17 main_c_3
-- ==== Attn.lean ====
abbrev S4x8x16x512x128 : Shape := ⟨5, ![4, 8, 16, 512, 128]⟩
abbrev S4x8x16x256x128 : Shape := ⟨5, ![4, 8, 16, 256, 128]⟩
abbrev S4x8x16x128x256 : Shape := ⟨5, ![4, 8, 16, 128, 256]⟩
abbrev S1x64 : Shape := ⟨2, ![1, 64]⟩
abbrev S1x128 : Shape := ⟨2, ![1, 128]⟩
abbrev S_ : Shape := ⟨0, ![]⟩
abbrev S136 : Shape := ⟨1, ![136]⟩
abbrev S64 : Shape := ⟨1, ![64]⟩
abbrev S4x64 : Shape := ⟨2, ![4, 64]⟩
abbrev S128 : Shape := ⟨1, ![128]⟩
abbrev S128x1 : Shape := ⟨2, ![128, 1]⟩
abbrev S1x128x1x1 : Shape := ⟨4, ![1, 128, 1, 1]⟩
abbrev S1x128x256x1 : Shape := ⟨4, ![1, 128, 256, 1]⟩
abbrev S128x256 : Shape := ⟨2, ![128, 256]⟩
abbrev S1x512 : Shape := ⟨2, ![1, 512]⟩
abbrev S4x4x16x128x256 : Shape := ⟨5, ![4, 4, 16, 128, 256]⟩
abbrev S1x1x16x512x128 : Shape := ⟨5, ![1, 1, 16, 512, 128]⟩
abbrev S1x1x16x256x128 : Shape := ⟨5, ![1, 1, 16, 256, 128]⟩
abbrev S1x1x16x128x256 : Shape := ⟨5, ![1, 1, 16, 128, 256]⟩
abbrev S16x1x512 : Shape := ⟨3, ![16, 1, 512]⟩
abbrev S16x128x512 : Shape := ⟨3, ![16, 128, 512]⟩
abbrev S7x256x512 : Shape := ⟨3, ![7, 256, 512]⟩
abbrev S256x512 : Shape := ⟨2, ![256, 512]⟩
abbrev S1x1x512 : Shape := ⟨3, ![1, 1, 512]⟩
abbrev S128x512 : Shape := ⟨2, ![128, 512]⟩
abbrev S1x128x512 : Shape := ⟨3, ![1, 128, 512]⟩
abbrev S1 : Shape := ⟨1, ![1]⟩
abbrev S1x1x1x256x128 : Shape := ⟨5, ![1, 1, 1, 256, 128]⟩
abbrev S256x128 : Shape := ⟨2, ![256, 128]⟩
abbrev S1x1x1x512x128 : Shape := ⟨5, ![1, 1, 1, 512, 128]⟩
abbrev S512x128 : Shape := ⟨2, ![512, 128]⟩
abbrev S1x256x512 : Shape := ⟨3, ![1, 256, 512]⟩
abbrev S512 : Shape := ⟨1, ![512]⟩
abbrev S1x1x1x128x256 : Shape := ⟨5, ![1, 1, 1, 128, 256]⟩
abbrev S1x1 : Shape := ⟨2, ![1, 1]⟩
abbrev S256 : Shape := ⟨1, ![256]⟩
abbrev S1x256 : Shape := ⟨2, ![1, 256]⟩

abbrev nBuf : Space → Nat
  | .hbm => 25
  | .vmem => 15
  | .smem => 3
  | _ => 0

abbrev bufTy : (tb : Table) → Fin (tcTables nBuf tb) → BufTy
  | .hbm, ⟨0, _⟩ => ⟨S4x8x16x512x128, .bf16⟩
  | .hbm, ⟨1, _⟩ => ⟨S4x8x16x256x128, .bf16⟩
  | .hbm, ⟨2, _⟩ => ⟨S4x8x16x128x256, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S4x64, .f32⟩
  | .hbm, ⟨18, _⟩ => ⟨S128, .f32⟩
  | .hbm, ⟨19, _⟩ => ⟨S128x1, .f32⟩
  | .hbm, ⟨20, _⟩ => ⟨S1x128x1x1, .f32⟩
  | .hbm, ⟨21, _⟩ => ⟨S1x128x256x1, .f32⟩
  | .hbm, ⟨22, _⟩ => ⟨S128x256, .f32⟩
  | .hbm, ⟨23, _⟩ => ⟨S1x512, .f32⟩
  | .hbm, ⟨24, _⟩ => ⟨S4x4x16x128x256, .bf16⟩
  | .local _ .vmem, ⟨0, _⟩ => ⟨S1x1x16x512x128, .bf16⟩
  | .local _ .vmem, ⟨1, _⟩ => ⟨S1x1x16x512x128, .bf16⟩
  | .local _ .vmem, ⟨2, _⟩ => ⟨S1x1x16x256x128, .bf16⟩
  | .local _ .vmem, ⟨3, _⟩ => ⟨S1x1x16x256x128, .bf16⟩
  | .local _ .vmem, ⟨4, _⟩ => ⟨S1x1x16x128x256, .bf16⟩
  | .local _ .vmem, ⟨5, _⟩ => ⟨S1x1x16x128x256, .bf16⟩
  | .local _ .vmem, ⟨6, _⟩ => ⟨S1x512, .f32⟩
  | .local _ .vmem, ⟨7, _⟩ => ⟨S4x64, .f32⟩
  | .local _ .vmem, ⟨8, _⟩ => ⟨S128x256, .f32⟩
  | .local _ .vmem, ⟨9, _⟩ => ⟨S1x1x16x128x256, .bf16⟩
  | .local _ .vmem, ⟨10, _⟩ => ⟨S1x1x16x128x256, .bf16⟩
  | .local _ .vmem, ⟨11, _⟩ => ⟨S16x1x512, .f32⟩
  | .local _ .vmem, ⟨12, _⟩ => ⟨S16x1x512, .f32⟩
  | .local _ .vmem, ⟨13, _⟩ => ⟨S16x128x512, .f32⟩
  | .local _ .vmem, ⟨14, _⟩ => ⟨S7x256x512, .f32⟩
  | .local _ .smem, ⟨0, _⟩ => ⟨S136, .i32⟩
  | .local _ .smem, ⟨1, _⟩ => ⟨S136, .i32⟩
  | .local _ .smem, ⟨2, _⟩ => ⟨S136, .i32⟩
  | _, _ => ⟨S4x8x16x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 4], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

@[reducible] def k0_t1_loop : Scf.Loop 32 :=
  let c0_i32 : BitVec 32 := 0#32
  let c4_i32 : BitVec 32 := 4#32
  let v133 : BitVec 32 := Scalar.addi c0_i32 c4_i32
  let c1_i32 : BitVec 32 := 1#32
  ⟨c0_i32, v133, c1_i32⟩
def k0_off1 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c0_i32_405 : BitVec 32 := 0#32
  let v664 : BitVec 32 := Scalar.addi v663 c0_i32_405
  let v665 : Index := Scalar.indexCast v664
  ![v665.toNat]
def k0_off2 (v666 : BitVec 32) : Fin 5 → Nat :=
  let c0_406 : Index := 0#32
  let c0_407 : Index := 0#32
  let v667 : Index := Scalar.indexCast v666
  let c0_408 : Index := 0#32
  let c0_409 : Index := 0#32
  ![0, 0, v667.toNat, 0, 0]

def k0_chk1 (v666 : BitVec 32) : Prop :=
  (∀ a, (k0_off2 v666) a + S1x1x1x256x128.size a ≤ S1x1x16x256x128.size a)
theorem k0_off2_inb : ∀ (v666 : BitVec 32) (k0_hw1 : k0_chk1 v666), ∀ a, (k0_off2 v666) a + S1x1x1x256x128.size a ≤ S1x1x16x256x128.size a := fun v666 k0_hw1 => k0_hw1

def k0_off3 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c0_i32_405 : BitVec 32 := 0#32
  let v664 : BitVec 32 := Scalar.addi v663 c0_i32_405
  let v670 : Index := Scalar.indexCast v664
  ![v670.toNat]
def k0_off4 (v671 : BitVec 32) : Fin 5 → Nat :=
  let c0_410 : Index := 0#32
  let c0_411 : Index := 0#32
  let v672 : Index := Scalar.indexCast v671
  let c0_412 : Index := 0#32
  let c0_413 : Index := 0#32
  ![0, 0, v672.toNat, 0, 0]

def k0_chk2 (v671 : BitVec 32) : Prop :=
  (∀ a, (k0_off4 v671) a + S1x1x1x512x128.size a ≤ S1x1x16x512x128.size a)
theorem k0_off4_inb : ∀ (v671 : BitVec 32) (k0_hw2 : k0_chk2 v671), ∀ a, (k0_off4 v671) a + S1x1x1x512x128.size a ≤ S1x1x16x512x128.size a := fun v671 k0_hw2 => k0_hw2

def k0_off5 (k0_t1 : Fin k0_t1_loop.trips) (c0_i32_405 : BitVec 32) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let v664 : BitVec 32 := Scalar.addi v663 c0_i32_405
  let v676 : Index := Scalar.indexCast v664
  ![v676.toNat]
def k0_off6 (v687 : BitVec 32) : Fin 5 → Nat :=
  let c0_420 : Index := 0#32
  let c0_421 : Index := 0#32
  let v688 : Index := Scalar.indexCast v687
  let c0_422 : Index := 0#32
  let c0_423 : Index := 0#32
  ![0, 0, v688.toNat, 0, 0]

def k0_chk3 (v687 : BitVec 32) : Prop :=
  (∀ a, (k0_off6 v687) a + S1x1x1x256x128.size a ≤ S1x1x16x256x128.size a)
theorem k0_off6_inb : ∀ (v687 : BitVec 32) (k0_hw3 : k0_chk3 v687), ∀ a, (k0_off6 v687) a + S1x1x1x256x128.size a ≤ S1x1x16x256x128.size a := fun v687 k0_hw3 => k0_hw3

def k0_off7 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c1_i32_419 : BitVec 32 := 1#32
  let v685 : BitVec 32 := Scalar.addi v663 c1_i32_419
  let v691 : Index := Scalar.indexCast v685
  ![v691.toNat]
def k0_off8 (v692 : BitVec 32) : Fin 5 → Nat :=
  let c0_424 : Index := 0#32
  let c0_425 : Index := 0#32
  let v693 : Index := Scalar.indexCast v692
  let c0_426 : Index := 0#32
  let c0_427 : Index := 0#32
  ![0, 0, v693.toNat, 0, 0]

def k0_chk4 (v692 : BitVec 32) : Prop :=
  (∀ a, (k0_off8 v692) a + S1x1x1x512x128.size a ≤ S1x1x16x512x128.size a)
theorem k0_off8_inb : ∀ (v692 : BitVec 32) (k0_hw4 : k0_chk4 v692), ∀ a, (k0_off8 v692) a + S1x1x1x512x128.size a ≤ S1x1x16x512x128.size a := fun v692 k0_hw4 => k0_hw4

def k0_off9 (k0_t1 : Fin k0_t1_loop.trips) (c1_i32_419 : BitVec 32) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let v685 : BitVec 32 := Scalar.addi v663 c1_i32_419
  let v697 : Index := Scalar.indexCast v685
  ![v697.toNat]
def k0_off10 (v708 : BitVec 32) : Fin 5 → Nat :=
  let c0_433 : Index := 0#32
  let c0_434 : Index := 0#32
  let v709 : Index := Scalar.indexCast v708
  let c0_435 : Index := 0#32
  let c0_436 : Index := 0#32
  ![0, 0, v709.toNat, 0, 0]

def k0_chk5 (v708 : BitVec 32) : Prop :=
  (∀ a, (k0_off10 v708) a + S1x1x1x256x128.size a ≤ S1x1x16x256x128.size a)
theorem k0_off10_inb : ∀ (v708 : BitVec 32) (k0_hw5 : k0_chk5 v708), ∀ a, (k0_off10 v708) a + S1x1x1x256x128.size a ≤ S1x1x16x256x128.size a := fun v708 k0_hw5 => k0_hw5

def k0_off11 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c2_i32 : BitVec 32 := 2#32
  let v706 : BitVec 32 := Scalar.addi v663 c2_i32
  let v712 : Index := Scalar.indexCast v706
  ![v712.toNat]
def k0_off12 (v713 : BitVec 32) : Fin 5 → Nat :=
  let c0_437 : Index := 0#32
  let c0_438 : Index := 0#32
  let v714 : Index := Scalar.indexCast v713
  let c0_439 : Index := 0#32
  let c0_440 : Index := 0#32
  ![0, 0, v714.toNat, 0, 0]

def k0_chk6 (v713 : BitVec 32) : Prop :=
  (∀ a, (k0_off12 v713) a + S1x1x1x512x128.size a ≤ S1x1x16x512x128.size a)
theorem k0_off12_inb : ∀ (v713 : BitVec 32) (k0_hw6 : k0_chk6 v713), ∀ a, (k0_off12 v713) a + S1x1x1x512x128.size a ≤ S1x1x16x512x128.size a := fun v713 k0_hw6 => k0_hw6

def k0_off13 (k0_t1 : Fin k0_t1_loop.trips) (c2_i32 : BitVec 32) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let v706 : BitVec 32 := Scalar.addi v663 c2_i32
  let v718 : Index := Scalar.indexCast v706
  ![v718.toNat]
def k0_off14 (v729 : BitVec 32) : Fin 5 → Nat :=
  let c0_446 : Index := 0#32
  let c0_447 : Index := 0#32
  let v730 : Index := Scalar.indexCast v729
  let c0_448 : Index := 0#32
  let c0_449 : Index := 0#32
  ![0, 0, v730.toNat, 0, 0]

def k0_chk7 (v729 : BitVec 32) : Prop :=
  (∀ a, (k0_off14 v729) a + S1x1x1x256x128.size a ≤ S1x1x16x256x128.size a)
theorem k0_off14_inb : ∀ (v729 : BitVec 32) (k0_hw7 : k0_chk7 v729), ∀ a, (k0_off14 v729) a + S1x1x1x256x128.size a ≤ S1x1x16x256x128.size a := fun v729 k0_hw7 => k0_hw7

def k0_off15 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c3_i32 : BitVec 32 := 3#32
  let v727 : BitVec 32 := Scalar.addi v663 c3_i32
  let v733 : Index := Scalar.indexCast v727
  ![v733.toNat]
def k0_off16 (v734 : BitVec 32) : Fin 5 → Nat :=
  let c0_450 : Index := 0#32
  let c0_451 : Index := 0#32
  let v735 : Index := Scalar.indexCast v734
  let c0_452 : Index := 0#32
  let c0_453 : Index := 0#32
  ![0, 0, v735.toNat, 0, 0]

def k0_chk8 (v734 : BitVec 32) : Prop :=
  (∀ a, (k0_off16 v734) a + S1x1x1x512x128.size a ≤ S1x1x16x512x128.size a)
theorem k0_off16_inb : ∀ (v734 : BitVec 32) (k0_hw8 : k0_chk8 v734), ∀ a, (k0_off16 v734) a + S1x1x1x512x128.size a ≤ S1x1x16x512x128.size a := fun v734 k0_hw8 => k0_hw8

def k0_off17 (k0_t1 : Fin k0_t1_loop.trips) (c3_i32 : BitVec 32) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let v727 : BitVec 32 := Scalar.addi v663 c3_i32
  let v739 : Index := Scalar.indexCast v727
  ![v739.toNat]
def k0_off18 (v750 : BitVec 32) : Fin 5 → Nat :=
  let c0_460 : Index := 0#32
  let c0_461 : Index := 0#32
  let v751 : Index := Scalar.indexCast v750
  let c0_462 : Index := 0#32
  let c0_463 : Index := 0#32
  ![0, 0, v751.toNat, 0, 0]

def k0_chk9 (v750 : BitVec 32) : Prop :=
  (∀ a, (k0_off18 v750) a + S1x1x1x256x128.size a ≤ S1x1x16x256x128.size a)
theorem k0_off18_inb : ∀ (v750 : BitVec 32) (k0_hw9 : k0_chk9 v750), ∀ a, (k0_off18 v750) a + S1x1x1x256x128.size a ≤ S1x1x16x256x128.size a := fun v750 k0_hw9 => k0_hw9

def k0_off19 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c4_i32_459 : BitVec 32 := 4#32
  let v748 : BitVec 32 := Scalar.addi v663 c4_i32_459
  let v754 : Index := Scalar.indexCast v748
  ![v754.toNat]
def k0_off20 (v755 : BitVec 32) : Fin 5 → Nat :=
  let c0_464 : Index := 0#32
  let c0_465 : Index := 0#32
  let v756 : Index := Scalar.indexCast v755
  let c0_466 : Index := 0#32
  let c0_467 : Index := 0#32
  ![0, 0, v756.toNat, 0, 0]

def k0_chk10 (v755 : BitVec 32) : Prop :=
  (∀ a, (k0_off20 v755) a + S1x1x1x512x128.size a ≤ S1x1x16x512x128.size a)
theorem k0_off20_inb : ∀ (v755 : BitVec 32) (k0_hw10 : k0_chk10 v755), ∀ a, (k0_off20 v755) a + S1x1x1x512x128.size a ≤ S1x1x16x512x128.size a := fun v755 k0_hw10 => k0_hw10

def k0_off21 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c5_i32 : BitVec 32 := 5#32
  let v763 : BitVec 32 := Scalar.addi v663 c5_i32
  let v764 : Index := Scalar.indexCast v763
  ![v764.toNat]
def k0_off22 (v765 : BitVec 32) : Fin 5 → Nat :=
  let c0_472 : Index := 0#32
  let c0_473 : Index := 0#32
  let v766 : Index := Scalar.indexCast v765
  let c0_474 : Index := 0#32
  let c0_475 : Index := 0#32
  ![0, 0, v766.toNat, 0, 0]

def k0_chk11 (v765 : BitVec 32) : Prop :=
  (∀ a, (k0_off22 v765) a + S1x1x1x256x128.size a ≤ S1x1x16x256x128.size a)
theorem k0_off22_inb : ∀ (v765 : BitVec 32) (k0_hw11 : k0_chk11 v765), ∀ a, (k0_off22 v765) a + S1x1x1x256x128.size a ≤ S1x1x16x256x128.size a := fun v765 k0_hw11 => k0_hw11

def k0_off23 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c5_i32 : BitVec 32 := 5#32
  let v763 : BitVec 32 := Scalar.addi v663 c5_i32
  let v769 : Index := Scalar.indexCast v763
  ![v769.toNat]
def k0_off24 (v770 : BitVec 32) : Fin 5 → Nat :=
  let c0_476 : Index := 0#32
  let c0_477 : Index := 0#32
  let v771 : Index := Scalar.indexCast v770
  let c0_478 : Index := 0#32
  let c0_479 : Index := 0#32
  ![0, 0, v771.toNat, 0, 0]

def k0_chk12 (v770 : BitVec 32) : Prop :=
  (∀ a, (k0_off24 v770) a + S1x1x1x512x128.size a ≤ S1x1x16x512x128.size a)
theorem k0_off24_inb : ∀ (v770 : BitVec 32) (k0_hw12 : k0_chk12 v770), ∀ a, (k0_off24 v770) a + S1x1x1x512x128.size a ≤ S1x1x16x512x128.size a := fun v770 k0_hw12 => k0_hw12

def k0_off25 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c0_i32_484 : BitVec 32 := 0#32
  let v778 : BitVec 32 := Scalar.addi v663 c0_i32_484
  let c6_i32 : BitVec 32 := 6#32
  let v779 : BitVec 32 := Scalar.addi v778 c6_i32
  let v780 : Index := Scalar.indexCast v779
  ![v780.toNat]
def k0_off26 (v781 : BitVec 32) : Fin 5 → Nat :=
  let c0_485 : Index := 0#32
  let c0_486 : Index := 0#32
  let v782 : Index := Scalar.indexCast v781
  let c0_487 : Index := 0#32
  let c0_488 : Index := 0#32
  ![0, 0, v782.toNat, 0, 0]

def k0_chk13 (v781 : BitVec 32) : Prop :=
  (∀ a, (k0_off26 v781) a + S1x1x1x256x128.size a ≤ S1x1x16x256x128.size a)
theorem k0_off26_inb : ∀ (v781 : BitVec 32) (k0_hw13 : k0_chk13 v781), ∀ a, (k0_off26 v781) a + S1x1x1x256x128.size a ≤ S1x1x16x256x128.size a := fun v781 k0_hw13 => k0_hw13

def k0_off27 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c0_i32_484 : BitVec 32 := 0#32
  let v778 : BitVec 32 := Scalar.addi v663 c0_i32_484
  let c6_i32 : BitVec 32 := 6#32
  let v779 : BitVec 32 := Scalar.addi v778 c6_i32
  let v785 : Index := Scalar.indexCast v779
  ![v785.toNat]
def k0_off28 (v786 : BitVec 32) : Fin 5 → Nat :=
  let c0_489 : Index := 0#32
  let c0_490 : Index := 0#32
  let v787 : Index := Scalar.indexCast v786
  let c0_491 : Index := 0#32
  let c0_492 : Index := 0#32
  ![0, 0, v787.toNat, 0, 0]

def k0_chk14 (v786 : BitVec 32) : Prop :=
  (∀ a, (k0_off28 v786) a + S1x1x1x512x128.size a ≤ S1x1x16x512x128.size a)
theorem k0_off28_inb : ∀ (v786 : BitVec 32) (k0_hw14 : k0_chk14 v786), ∀ a, (k0_off28 v786) a + S1x1x1x512x128.size a ≤ S1x1x16x512x128.size a := fun v786 k0_hw14 => k0_hw14

def k0_off29 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c0_i32_497 : BitVec 32 := 0#32
  let v794 : BitVec 32 := Scalar.addi v663 c0_i32_497
  let v795 : Index := Scalar.indexCast v794
  ![v795.toNat]
def k0_off30 (v798 : BitVec 32) : Fin 5 → Nat :=
  let c0_504 : Index := 0#32
  let c0_505 : Index := 0#32
  let v809 : Index := Scalar.indexCast v798
  let c0_506 : Index := 0#32
  let c0_507 : Index := 0#32
  ![0, 0, v809.toNat, 0, 0]

def k0_chk15 (v798 : BitVec 32) : Prop :=
  (∀ a, (k0_off30 v798) a + S1x1x1x128x256.size a ≤ S1x1x16x128x256.size a)
theorem k0_off30_inb : ∀ (v798 : BitVec 32) (k0_hw15 : k0_chk15 v798), ∀ a, (k0_off30 v798) a + S1x1x1x128x256.size a ≤ S1x1x16x128x256.size a := fun v798 k0_hw15 => k0_hw15

def k0_off31 (v796 : BitVec 32) : Fin 3 → Nat :=
  let v813 : Index := Scalar.indexCast v796
  let c0_509 : Index := 0#32
  let c0_510 : Index := 0#32
  ![v813.toNat, 0, 0]

def k0_off32 (v796 : BitVec 32) : Fin 3 → Nat :=
  let v821 : Index := Scalar.indexCast v796
  let c0_513 : Index := 0#32
  let c0_514 : Index := 0#32
  ![v821.toNat, 0, 0]

def k0_chk16 (v796 : BitVec 32) : Prop :=
  (∀ a, (k0_off31 v796) a + S1x1x512.size a ≤ S16x1x512.size a) ∧
  (∀ a, (k0_off32 v796) a + S1x128x512.size a ≤ S16x128x512.size a)
theorem k0_off31_inb : ∀ (v796 : BitVec 32) (k0_hw16 : k0_chk16 v796), ∀ a, (k0_off31 v796) a + S1x1x512.size a ≤ S16x1x512.size a := fun v796 k0_hw16 => k0_hw16.1
theorem k0_off32_inb : ∀ (v796 : BitVec 32) (k0_hw16 : k0_chk16 v796), ∀ a, (k0_off32 v796) a + S1x128x512.size a ≤ S16x128x512.size a := fun v796 k0_hw16 => k0_hw16.2

def k0_off33 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c1_i32_517 : BitVec 32 := 1#32
  let v829 : BitVec 32 := Scalar.addi v663 c1_i32_517
  let c6_i32_518 : BitVec 32 := 6#32
  let v830 : BitVec 32 := Scalar.addi v829 c6_i32_518
  let v831 : Index := Scalar.indexCast v830
  ![v831.toNat]
def k0_off34 (v832 : BitVec 32) : Fin 5 → Nat :=
  let c0_519 : Index := 0#32
  let c0_520 : Index := 0#32
  let v833 : Index := Scalar.indexCast v832
  let c0_521 : Index := 0#32
  let c0_522 : Index := 0#32
  ![0, 0, v833.toNat, 0, 0]

def k0_chk17 (v832 : BitVec 32) : Prop :=
  (∀ a, (k0_off34 v832) a + S1x1x1x256x128.size a ≤ S1x1x16x256x128.size a)
theorem k0_off34_inb : ∀ (v832 : BitVec 32) (k0_hw17 : k0_chk17 v832), ∀ a, (k0_off34 v832) a + S1x1x1x256x128.size a ≤ S1x1x16x256x128.size a := fun v832 k0_hw17 => k0_hw17

def k0_off35 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c1_i32_517 : BitVec 32 := 1#32
  let v829 : BitVec 32 := Scalar.addi v663 c1_i32_517
  let c6_i32_518 : BitVec 32 := 6#32
  let v830 : BitVec 32 := Scalar.addi v829 c6_i32_518
  let v836 : Index := Scalar.indexCast v830
  ![v836.toNat]
def k0_off36 (v837 : BitVec 32) : Fin 5 → Nat :=
  let c0_523 : Index := 0#32
  let c0_524 : Index := 0#32
  let v838 : Index := Scalar.indexCast v837
  let c0_525 : Index := 0#32
  let c0_526 : Index := 0#32
  ![0, 0, v838.toNat, 0, 0]

def k0_chk18 (v837 : BitVec 32) : Prop :=
  (∀ a, (k0_off36 v837) a + S1x1x1x512x128.size a ≤ S1x1x16x512x128.size a)
theorem k0_off36_inb : ∀ (v837 : BitVec 32) (k0_hw18 : k0_chk18 v837), ∀ a, (k0_off36 v837) a + S1x1x1x512x128.size a ≤ S1x1x16x512x128.size a := fun v837 k0_hw18 => k0_hw18

def k0_off37 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c1_i32_531 : BitVec 32 := 1#32
  let v845 : BitVec 32 := Scalar.addi v663 c1_i32_531
  let v846 : Index := Scalar.indexCast v845
  ![v846.toNat]
def k0_off38 (v849 : BitVec 32) : Fin 5 → Nat :=
  let c0_538 : Index := 0#32
  let c0_539 : Index := 0#32
  let v860 : Index := Scalar.indexCast v849
  let c0_540 : Index := 0#32
  let c0_541 : Index := 0#32
  ![0, 0, v860.toNat, 0, 0]

def k0_chk19 (v849 : BitVec 32) : Prop :=
  (∀ a, (k0_off38 v849) a + S1x1x1x128x256.size a ≤ S1x1x16x128x256.size a)
theorem k0_off38_inb : ∀ (v849 : BitVec 32) (k0_hw19 : k0_chk19 v849), ∀ a, (k0_off38 v849) a + S1x1x1x128x256.size a ≤ S1x1x16x128x256.size a := fun v849 k0_hw19 => k0_hw19

def k0_off39 (v847 : BitVec 32) : Fin 3 → Nat :=
  let v864 : Index := Scalar.indexCast v847
  let c0_543 : Index := 0#32
  let c0_544 : Index := 0#32
  ![v864.toNat, 0, 0]

def k0_off40 (v847 : BitVec 32) : Fin 3 → Nat :=
  let v872 : Index := Scalar.indexCast v847
  let c0_547 : Index := 0#32
  let c0_548 : Index := 0#32
  ![v872.toNat, 0, 0]

def k0_chk20 (v847 : BitVec 32) : Prop :=
  (∀ a, (k0_off39 v847) a + S1x1x512.size a ≤ S16x1x512.size a) ∧
  (∀ a, (k0_off40 v847) a + S1x128x512.size a ≤ S16x128x512.size a)
theorem k0_off39_inb : ∀ (v847 : BitVec 32) (k0_hw20 : k0_chk20 v847), ∀ a, (k0_off39 v847) a + S1x1x512.size a ≤ S16x1x512.size a := fun v847 k0_hw20 => k0_hw20.1
theorem k0_off40_inb : ∀ (v847 : BitVec 32) (k0_hw20 : k0_chk20 v847), ∀ a, (k0_off40 v847) a + S1x128x512.size a ≤ S16x128x512.size a := fun v847 k0_hw20 => k0_hw20.2

def k0_off41 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c2_i32_551 : BitVec 32 := 2#32
  let v880 : BitVec 32 := Scalar.addi v663 c2_i32_551
  let c6_i32_552 : BitVec 32 := 6#32
  let v881 : BitVec 32 := Scalar.addi v880 c6_i32_552
  let v882 : Index := Scalar.indexCast v881
  ![v882.toNat]
def k0_off42 (v883 : BitVec 32) : Fin 5 → Nat :=
  let c0_553 : Index := 0#32
  let c0_554 : Index := 0#32
  let v884 : Index := Scalar.indexCast v883
  let c0_555 : Index := 0#32
  let c0_556 : Index := 0#32
  ![0, 0, v884.toNat, 0, 0]

def k0_chk21 (v883 : BitVec 32) : Prop :=
  (∀ a, (k0_off42 v883) a + S1x1x1x256x128.size a ≤ S1x1x16x256x128.size a)
theorem k0_off42_inb : ∀ (v883 : BitVec 32) (k0_hw21 : k0_chk21 v883), ∀ a, (k0_off42 v883) a + S1x1x1x256x128.size a ≤ S1x1x16x256x128.size a := fun v883 k0_hw21 => k0_hw21

def k0_off43 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c2_i32_551 : BitVec 32 := 2#32
  let v880 : BitVec 32 := Scalar.addi v663 c2_i32_551
  let c6_i32_552 : BitVec 32 := 6#32
  let v881 : BitVec 32 := Scalar.addi v880 c6_i32_552
  let v887 : Index := Scalar.indexCast v881
  ![v887.toNat]
def k0_off44 (v888 : BitVec 32) : Fin 5 → Nat :=
  let c0_557 : Index := 0#32
  let c0_558 : Index := 0#32
  let v889 : Index := Scalar.indexCast v888
  let c0_559 : Index := 0#32
  let c0_560 : Index := 0#32
  ![0, 0, v889.toNat, 0, 0]

def k0_chk22 (v888 : BitVec 32) : Prop :=
  (∀ a, (k0_off44 v888) a + S1x1x1x512x128.size a ≤ S1x1x16x512x128.size a)
theorem k0_off44_inb : ∀ (v888 : BitVec 32) (k0_hw22 : k0_chk22 v888), ∀ a, (k0_off44 v888) a + S1x1x1x512x128.size a ≤ S1x1x16x512x128.size a := fun v888 k0_hw22 => k0_hw22

def k0_off45 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c2_i32_565 : BitVec 32 := 2#32
  let v896 : BitVec 32 := Scalar.addi v663 c2_i32_565
  let v897 : Index := Scalar.indexCast v896
  ![v897.toNat]
def k0_off46 (v900 : BitVec 32) : Fin 5 → Nat :=
  let c0_572 : Index := 0#32
  let c0_573 : Index := 0#32
  let v911 : Index := Scalar.indexCast v900
  let c0_574 : Index := 0#32
  let c0_575 : Index := 0#32
  ![0, 0, v911.toNat, 0, 0]

def k0_chk23 (v900 : BitVec 32) : Prop :=
  (∀ a, (k0_off46 v900) a + S1x1x1x128x256.size a ≤ S1x1x16x128x256.size a)
theorem k0_off46_inb : ∀ (v900 : BitVec 32) (k0_hw23 : k0_chk23 v900), ∀ a, (k0_off46 v900) a + S1x1x1x128x256.size a ≤ S1x1x16x128x256.size a := fun v900 k0_hw23 => k0_hw23

def k0_off47 (v898 : BitVec 32) : Fin 3 → Nat :=
  let v915 : Index := Scalar.indexCast v898
  let c0_577 : Index := 0#32
  let c0_578 : Index := 0#32
  ![v915.toNat, 0, 0]

def k0_off48 (v898 : BitVec 32) : Fin 3 → Nat :=
  let v923 : Index := Scalar.indexCast v898
  let c0_581 : Index := 0#32
  let c0_582 : Index := 0#32
  ![v923.toNat, 0, 0]

def k0_chk24 (v898 : BitVec 32) : Prop :=
  (∀ a, (k0_off47 v898) a + S1x1x512.size a ≤ S16x1x512.size a) ∧
  (∀ a, (k0_off48 v898) a + S1x128x512.size a ≤ S16x128x512.size a)
theorem k0_off47_inb : ∀ (v898 : BitVec 32) (k0_hw24 : k0_chk24 v898), ∀ a, (k0_off47 v898) a + S1x1x512.size a ≤ S16x1x512.size a := fun v898 k0_hw24 => k0_hw24.1
theorem k0_off48_inb : ∀ (v898 : BitVec 32) (k0_hw24 : k0_chk24 v898), ∀ a, (k0_off48 v898) a + S1x128x512.size a ≤ S16x128x512.size a := fun v898 k0_hw24 => k0_hw24.2

def k0_off49 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c3_i32_585 : BitVec 32 := 3#32
  let v931 : BitVec 32 := Scalar.addi v663 c3_i32_585
  let c6_i32_586 : BitVec 32 := 6#32
  let v932 : BitVec 32 := Scalar.addi v931 c6_i32_586
  let v933 : Index := Scalar.indexCast v932
  ![v933.toNat]
def k0_off50 (v934 : BitVec 32) : Fin 5 → Nat :=
  let c0_587 : Index := 0#32
  let c0_588 : Index := 0#32
  let v935 : Index := Scalar.indexCast v934
  let c0_589 : Index := 0#32
  let c0_590 : Index := 0#32
  ![0, 0, v935.toNat, 0, 0]

def k0_chk25 (v934 : BitVec 32) : Prop :=
  (∀ a, (k0_off50 v934) a + S1x1x1x256x128.size a ≤ S1x1x16x256x128.size a)
theorem k0_off50_inb : ∀ (v934 : BitVec 32) (k0_hw25 : k0_chk25 v934), ∀ a, (k0_off50 v934) a + S1x1x1x256x128.size a ≤ S1x1x16x256x128.size a := fun v934 k0_hw25 => k0_hw25

def k0_off51 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c3_i32_585 : BitVec 32 := 3#32
  let v931 : BitVec 32 := Scalar.addi v663 c3_i32_585
  let c6_i32_586 : BitVec 32 := 6#32
  let v932 : BitVec 32 := Scalar.addi v931 c6_i32_586
  let v938 : Index := Scalar.indexCast v932
  ![v938.toNat]
def k0_off52 (v939 : BitVec 32) : Fin 5 → Nat :=
  let c0_591 : Index := 0#32
  let c0_592 : Index := 0#32
  let v940 : Index := Scalar.indexCast v939
  let c0_593 : Index := 0#32
  let c0_594 : Index := 0#32
  ![0, 0, v940.toNat, 0, 0]

def k0_chk26 (v939 : BitVec 32) : Prop :=
  (∀ a, (k0_off52 v939) a + S1x1x1x512x128.size a ≤ S1x1x16x512x128.size a)
theorem k0_off52_inb : ∀ (v939 : BitVec 32) (k0_hw26 : k0_chk26 v939), ∀ a, (k0_off52 v939) a + S1x1x1x512x128.size a ≤ S1x1x16x512x128.size a := fun v939 k0_hw26 => k0_hw26

def k0_off53 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c3_i32_599 : BitVec 32 := 3#32
  let v947 : BitVec 32 := Scalar.addi v663 c3_i32_599
  let v948 : Index := Scalar.indexCast v947
  ![v948.toNat]
def k0_off54 (v951 : BitVec 32) : Fin 5 → Nat :=
  let c0_606 : Index := 0#32
  let c0_607 : Index := 0#32
  let v962 : Index := Scalar.indexCast v951
  let c0_608 : Index := 0#32
  let c0_609 : Index := 0#32
  ![0, 0, v962.toNat, 0, 0]

def k0_chk27 (v951 : BitVec 32) : Prop :=
  (∀ a, (k0_off54 v951) a + S1x1x1x128x256.size a ≤ S1x1x16x128x256.size a)
theorem k0_off54_inb : ∀ (v951 : BitVec 32) (k0_hw27 : k0_chk27 v951), ∀ a, (k0_off54 v951) a + S1x1x1x128x256.size a ≤ S1x1x16x128x256.size a := fun v951 k0_hw27 => k0_hw27

def k0_off55 (v949 : BitVec 32) : Fin 3 → Nat :=
  let v966 : Index := Scalar.indexCast v949
  let c0_611 : Index := 0#32
  let c0_612 : Index := 0#32
  ![v966.toNat, 0, 0]

def k0_off56 (v949 : BitVec 32) : Fin 3 → Nat :=
  let v974 : Index := Scalar.indexCast v949
  let c0_615 : Index := 0#32
  let c0_616 : Index := 0#32
  ![v974.toNat, 0, 0]

def k0_chk28 (v949 : BitVec 32) : Prop :=
  (∀ a, (k0_off55 v949) a + S1x1x512.size a ≤ S16x1x512.size a) ∧
  (∀ a, (k0_off56 v949) a + S1x128x512.size a ≤ S16x128x512.size a)
theorem k0_off55_inb : ∀ (v949 : BitVec 32) (k0_hw28 : k0_chk28 v949), ∀ a, (k0_off55 v949) a + S1x1x512.size a ≤ S16x1x512.size a := fun v949 k0_hw28 => k0_hw28.1
theorem k0_off56_inb : ∀ (v949 : BitVec 32) (k0_hw28 : k0_chk28 v949), ∀ a, (k0_off56 v949) a + S1x128x512.size a ≤ S16x128x512.size a := fun v949 k0_hw28 => k0_hw28.2

def k0_off57 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c4_i32_619 : BitVec 32 := 4#32
  let v982 : BitVec 32 := Scalar.addi v663 c4_i32_619
  let c6_i32_620 : BitVec 32 := 6#32
  let v983 : BitVec 32 := Scalar.addi v982 c6_i32_620
  let v984 : Index := Scalar.indexCast v983
  ![v984.toNat]
def k0_off58 (v985 : BitVec 32) : Fin 5 → Nat :=
  let c0_621 : Index := 0#32
  let c0_622 : Index := 0#32
  let v986 : Index := Scalar.indexCast v985
  let c0_623 : Index := 0#32
  let c0_624 : Index := 0#32
  ![0, 0, v986.toNat, 0, 0]

def k0_chk29 (v985 : BitVec 32) : Prop :=
  (∀ a, (k0_off58 v985) a + S1x1x1x256x128.size a ≤ S1x1x16x256x128.size a)
theorem k0_off58_inb : ∀ (v985 : BitVec 32) (k0_hw29 : k0_chk29 v985), ∀ a, (k0_off58 v985) a + S1x1x1x256x128.size a ≤ S1x1x16x256x128.size a := fun v985 k0_hw29 => k0_hw29

def k0_off59 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c4_i32_619 : BitVec 32 := 4#32
  let v982 : BitVec 32 := Scalar.addi v663 c4_i32_619
  let c6_i32_620 : BitVec 32 := 6#32
  let v983 : BitVec 32 := Scalar.addi v982 c6_i32_620
  let v989 : Index := Scalar.indexCast v983
  ![v989.toNat]
def k0_off60 (v990 : BitVec 32) : Fin 5 → Nat :=
  let c0_625 : Index := 0#32
  let c0_626 : Index := 0#32
  let v991 : Index := Scalar.indexCast v990
  let c0_627 : Index := 0#32
  let c0_628 : Index := 0#32
  ![0, 0, v991.toNat, 0, 0]

def k0_chk30 (v990 : BitVec 32) : Prop :=
  (∀ a, (k0_off60 v990) a + S1x1x1x512x128.size a ≤ S1x1x16x512x128.size a)
theorem k0_off60_inb : ∀ (v990 : BitVec 32) (k0_hw30 : k0_chk30 v990), ∀ a, (k0_off60 v990) a + S1x1x1x512x128.size a ≤ S1x1x16x512x128.size a := fun v990 k0_hw30 => k0_hw30

def k0_off61 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c4_i32_633 : BitVec 32 := 4#32
  let v998 : BitVec 32 := Scalar.addi v663 c4_i32_633
  let v999 : Index := Scalar.indexCast v998
  ![v999.toNat]
def k0_off62 (v1002 : BitVec 32) : Fin 5 → Nat :=
  let c0_640 : Index := 0#32
  let c0_641 : Index := 0#32
  let v1013 : Index := Scalar.indexCast v1002
  let c0_642 : Index := 0#32
  let c0_643 : Index := 0#32
  ![0, 0, v1013.toNat, 0, 0]

def k0_chk31 (v1002 : BitVec 32) : Prop :=
  (∀ a, (k0_off62 v1002) a + S1x1x1x128x256.size a ≤ S1x1x16x128x256.size a)
theorem k0_off62_inb : ∀ (v1002 : BitVec 32) (k0_hw31 : k0_chk31 v1002), ∀ a, (k0_off62 v1002) a + S1x1x1x128x256.size a ≤ S1x1x16x128x256.size a := fun v1002 k0_hw31 => k0_hw31

def k0_off63 (v1000 : BitVec 32) : Fin 3 → Nat :=
  let v1017 : Index := Scalar.indexCast v1000
  let c0_645 : Index := 0#32
  let c0_646 : Index := 0#32
  ![v1017.toNat, 0, 0]

def k0_off64 (v1000 : BitVec 32) : Fin 3 → Nat :=
  let v1025 : Index := Scalar.indexCast v1000
  let c0_649 : Index := 0#32
  let c0_650 : Index := 0#32
  ![v1025.toNat, 0, 0]

def k0_chk32 (v1000 : BitVec 32) : Prop :=
  (∀ a, (k0_off63 v1000) a + S1x1x512.size a ≤ S16x1x512.size a) ∧
  (∀ a, (k0_off64 v1000) a + S1x128x512.size a ≤ S16x128x512.size a)
theorem k0_off63_inb : ∀ (v1000 : BitVec 32) (k0_hw32 : k0_chk32 v1000), ∀ a, (k0_off63 v1000) a + S1x1x512.size a ≤ S16x1x512.size a := fun v1000 k0_hw32 => k0_hw32.1
theorem k0_off64_inb : ∀ (v1000 : BitVec 32) (k0_hw32 : k0_chk32 v1000), ∀ a, (k0_off64 v1000) a + S1x128x512.size a ≤ S16x128x512.size a := fun v1000 k0_hw32 => k0_hw32.2

def k0_off65 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c5_i32_653 : BitVec 32 := 5#32
  let v1033 : BitVec 32 := Scalar.addi v663 c5_i32_653
  let c6_i32_654 : BitVec 32 := 6#32
  let v1034 : BitVec 32 := Scalar.addi v1033 c6_i32_654
  let v1035 : Index := Scalar.indexCast v1034
  ![v1035.toNat]
def k0_off66 (v1036 : BitVec 32) : Fin 5 → Nat :=
  let c0_655 : Index := 0#32
  let c0_656 : Index := 0#32
  let v1037 : Index := Scalar.indexCast v1036
  let c0_657 : Index := 0#32
  let c0_658 : Index := 0#32
  ![0, 0, v1037.toNat, 0, 0]

def k0_chk33 (v1036 : BitVec 32) : Prop :=
  (∀ a, (k0_off66 v1036) a + S1x1x1x256x128.size a ≤ S1x1x16x256x128.size a)
theorem k0_off66_inb : ∀ (v1036 : BitVec 32) (k0_hw33 : k0_chk33 v1036), ∀ a, (k0_off66 v1036) a + S1x1x1x256x128.size a ≤ S1x1x16x256x128.size a := fun v1036 k0_hw33 => k0_hw33

def k0_off67 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c5_i32_653 : BitVec 32 := 5#32
  let v1033 : BitVec 32 := Scalar.addi v663 c5_i32_653
  let c6_i32_654 : BitVec 32 := 6#32
  let v1034 : BitVec 32 := Scalar.addi v1033 c6_i32_654
  let v1040 : Index := Scalar.indexCast v1034
  ![v1040.toNat]
def k0_off68 (v1041 : BitVec 32) : Fin 5 → Nat :=
  let c0_659 : Index := 0#32
  let c0_660 : Index := 0#32
  let v1042 : Index := Scalar.indexCast v1041
  let c0_661 : Index := 0#32
  let c0_662 : Index := 0#32
  ![0, 0, v1042.toNat, 0, 0]

def k0_chk34 (v1041 : BitVec 32) : Prop :=
  (∀ a, (k0_off68 v1041) a + S1x1x1x512x128.size a ≤ S1x1x16x512x128.size a)
theorem k0_off68_inb : ∀ (v1041 : BitVec 32) (k0_hw34 : k0_chk34 v1041), ∀ a, (k0_off68 v1041) a + S1x1x1x512x128.size a ≤ S1x1x16x512x128.size a := fun v1041 k0_hw34 => k0_hw34

def k0_off69 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c5_i32_667 : BitVec 32 := 5#32
  let v1049 : BitVec 32 := Scalar.addi v663 c5_i32_667
  let v1050 : Index := Scalar.indexCast v1049
  ![v1050.toNat]
def k0_off70 (v1053 : BitVec 32) : Fin 5 → Nat :=
  let c0_674 : Index := 0#32
  let c0_675 : Index := 0#32
  let v1064 : Index := Scalar.indexCast v1053
  let c0_676 : Index := 0#32
  let c0_677 : Index := 0#32
  ![0, 0, v1064.toNat, 0, 0]

def k0_chk35 (v1053 : BitVec 32) : Prop :=
  (∀ a, (k0_off70 v1053) a + S1x1x1x128x256.size a ≤ S1x1x16x128x256.size a)
theorem k0_off70_inb : ∀ (v1053 : BitVec 32) (k0_hw35 : k0_chk35 v1053), ∀ a, (k0_off70 v1053) a + S1x1x1x128x256.size a ≤ S1x1x16x128x256.size a := fun v1053 k0_hw35 => k0_hw35

def k0_off71 (v1051 : BitVec 32) : Fin 3 → Nat :=
  let v1068 : Index := Scalar.indexCast v1051
  let c0_679 : Index := 0#32
  let c0_680 : Index := 0#32
  ![v1068.toNat, 0, 0]

def k0_off72 (v1051 : BitVec 32) : Fin 3 → Nat :=
  let v1076 : Index := Scalar.indexCast v1051
  let c0_683 : Index := 0#32
  let c0_684 : Index := 0#32
  ![v1076.toNat, 0, 0]

def k0_chk36 (v1051 : BitVec 32) : Prop :=
  (∀ a, (k0_off71 v1051) a + S1x1x512.size a ≤ S16x1x512.size a) ∧
  (∀ a, (k0_off72 v1051) a + S1x128x512.size a ≤ S16x128x512.size a)
theorem k0_off71_inb : ∀ (v1051 : BitVec 32) (k0_hw36 : k0_chk36 v1051), ∀ a, (k0_off71 v1051) a + S1x1x512.size a ≤ S16x1x512.size a := fun v1051 k0_hw36 => k0_hw36.1
theorem k0_off72_inb : ∀ (v1051 : BitVec 32) (k0_hw36 : k0_chk36 v1051), ∀ a, (k0_off72 v1051) a + S1x128x512.size a ≤ S16x128x512.size a := fun v1051 k0_hw36 => k0_hw36.2

def k0_off73 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c6_i32_687 : BitVec 32 := 6#32
  let v1084 : BitVec 32 := Scalar.addi v663 c6_i32_687
  let c6_i32_688 : BitVec 32 := 6#32
  let v1085 : BitVec 32 := Scalar.addi v1084 c6_i32_688
  let v1086 : Index := Scalar.indexCast v1085
  ![v1086.toNat]
def k0_off74 (v1087 : BitVec 32) : Fin 5 → Nat :=
  let c0_689 : Index := 0#32
  let c0_690 : Index := 0#32
  let v1088 : Index := Scalar.indexCast v1087
  let c0_691 : Index := 0#32
  let c0_692 : Index := 0#32
  ![0, 0, v1088.toNat, 0, 0]

def k0_chk37 (v1087 : BitVec 32) : Prop :=
  (∀ a, (k0_off74 v1087) a + S1x1x1x256x128.size a ≤ S1x1x16x256x128.size a)
theorem k0_off74_inb : ∀ (v1087 : BitVec 32) (k0_hw37 : k0_chk37 v1087), ∀ a, (k0_off74 v1087) a + S1x1x1x256x128.size a ≤ S1x1x16x256x128.size a := fun v1087 k0_hw37 => k0_hw37

def k0_off75 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c6_i32_687 : BitVec 32 := 6#32
  let v1084 : BitVec 32 := Scalar.addi v663 c6_i32_687
  let c6_i32_688 : BitVec 32 := 6#32
  let v1085 : BitVec 32 := Scalar.addi v1084 c6_i32_688
  let v1091 : Index := Scalar.indexCast v1085
  ![v1091.toNat]
def k0_off76 (v1092 : BitVec 32) : Fin 5 → Nat :=
  let c0_693 : Index := 0#32
  let c0_694 : Index := 0#32
  let v1093 : Index := Scalar.indexCast v1092
  let c0_695 : Index := 0#32
  let c0_696 : Index := 0#32
  ![0, 0, v1093.toNat, 0, 0]

def k0_chk38 (v1092 : BitVec 32) : Prop :=
  (∀ a, (k0_off76 v1092) a + S1x1x1x512x128.size a ≤ S1x1x16x512x128.size a)
theorem k0_off76_inb : ∀ (v1092 : BitVec 32) (k0_hw38 : k0_chk38 v1092), ∀ a, (k0_off76 v1092) a + S1x1x1x512x128.size a ≤ S1x1x16x512x128.size a := fun v1092 k0_hw38 => k0_hw38

def k0_off77 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c6_i32_701 : BitVec 32 := 6#32
  let v1100 : BitVec 32 := Scalar.addi v663 c6_i32_701
  let v1101 : Index := Scalar.indexCast v1100
  ![v1101.toNat]
def k0_off78 (v1104 : BitVec 32) : Fin 5 → Nat :=
  let c0_708 : Index := 0#32
  let c0_709 : Index := 0#32
  let v1115 : Index := Scalar.indexCast v1104
  let c0_710 : Index := 0#32
  let c0_711 : Index := 0#32
  ![0, 0, v1115.toNat, 0, 0]

def k0_chk39 (v1104 : BitVec 32) : Prop :=
  (∀ a, (k0_off78 v1104) a + S1x1x1x128x256.size a ≤ S1x1x16x128x256.size a)
theorem k0_off78_inb : ∀ (v1104 : BitVec 32) (k0_hw39 : k0_chk39 v1104), ∀ a, (k0_off78 v1104) a + S1x1x1x128x256.size a ≤ S1x1x16x128x256.size a := fun v1104 k0_hw39 => k0_hw39

def k0_off79 (v1102 : BitVec 32) : Fin 3 → Nat :=
  let v1119 : Index := Scalar.indexCast v1102
  let c0_713 : Index := 0#32
  let c0_714 : Index := 0#32
  ![v1119.toNat, 0, 0]

def k0_off80 (v1102 : BitVec 32) : Fin 3 → Nat :=
  let v1127 : Index := Scalar.indexCast v1102
  let c0_717 : Index := 0#32
  let c0_718 : Index := 0#32
  ![v1127.toNat, 0, 0]

def k0_chk40 (v1102 : BitVec 32) : Prop :=
  (∀ a, (k0_off79 v1102) a + S1x1x512.size a ≤ S16x1x512.size a) ∧
  (∀ a, (k0_off80 v1102) a + S1x128x512.size a ≤ S16x128x512.size a)
theorem k0_off79_inb : ∀ (v1102 : BitVec 32) (k0_hw40 : k0_chk40 v1102), ∀ a, (k0_off79 v1102) a + S1x1x512.size a ≤ S16x1x512.size a := fun v1102 k0_hw40 => k0_hw40.1
theorem k0_off80_inb : ∀ (v1102 : BitVec 32) (k0_hw40 : k0_chk40 v1102), ∀ a, (k0_off80 v1102) a + S1x128x512.size a ≤ S16x128x512.size a := fun v1102 k0_hw40 => k0_hw40.2

def k0_off81 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c7_i32 : BitVec 32 := 7#32
  let v1135 : BitVec 32 := Scalar.addi v663 c7_i32
  let c6_i32_721 : BitVec 32 := 6#32
  let v1136 : BitVec 32 := Scalar.addi v1135 c6_i32_721
  let v1137 : Index := Scalar.indexCast v1136
  ![v1137.toNat]
def k0_off82 (v1138 : BitVec 32) : Fin 5 → Nat :=
  let c0_722 : Index := 0#32
  let c0_723 : Index := 0#32
  let v1139 : Index := Scalar.indexCast v1138
  let c0_724 : Index := 0#32
  let c0_725 : Index := 0#32
  ![0, 0, v1139.toNat, 0, 0]

def k0_chk41 (v1138 : BitVec 32) : Prop :=
  (∀ a, (k0_off82 v1138) a + S1x1x1x256x128.size a ≤ S1x1x16x256x128.size a)
theorem k0_off82_inb : ∀ (v1138 : BitVec 32) (k0_hw41 : k0_chk41 v1138), ∀ a, (k0_off82 v1138) a + S1x1x1x256x128.size a ≤ S1x1x16x256x128.size a := fun v1138 k0_hw41 => k0_hw41

def k0_off83 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c7_i32 : BitVec 32 := 7#32
  let v1135 : BitVec 32 := Scalar.addi v663 c7_i32
  let c6_i32_721 : BitVec 32 := 6#32
  let v1136 : BitVec 32 := Scalar.addi v1135 c6_i32_721
  let v1142 : Index := Scalar.indexCast v1136
  ![v1142.toNat]
def k0_off84 (v1143 : BitVec 32) : Fin 5 → Nat :=
  let c0_726 : Index := 0#32
  let c0_727 : Index := 0#32
  let v1144 : Index := Scalar.indexCast v1143
  let c0_728 : Index := 0#32
  let c0_729 : Index := 0#32
  ![0, 0, v1144.toNat, 0, 0]

def k0_chk42 (v1143 : BitVec 32) : Prop :=
  (∀ a, (k0_off84 v1143) a + S1x1x1x512x128.size a ≤ S1x1x16x512x128.size a)
theorem k0_off84_inb : ∀ (v1143 : BitVec 32) (k0_hw42 : k0_chk42 v1143), ∀ a, (k0_off84 v1143) a + S1x1x1x512x128.size a ≤ S1x1x16x512x128.size a := fun v1143 k0_hw42 => k0_hw42

def k0_off85 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c7_i32_734 : BitVec 32 := 7#32
  let v1151 : BitVec 32 := Scalar.addi v663 c7_i32_734
  let v1152 : Index := Scalar.indexCast v1151
  ![v1152.toNat]
def k0_off86 (v1155 : BitVec 32) : Fin 5 → Nat :=
  let c0_741 : Index := 0#32
  let c0_742 : Index := 0#32
  let v1166 : Index := Scalar.indexCast v1155
  let c0_743 : Index := 0#32
  let c0_744 : Index := 0#32
  ![0, 0, v1166.toNat, 0, 0]

def k0_chk43 (v1155 : BitVec 32) : Prop :=
  (∀ a, (k0_off86 v1155) a + S1x1x1x128x256.size a ≤ S1x1x16x128x256.size a)
theorem k0_off86_inb : ∀ (v1155 : BitVec 32) (k0_hw43 : k0_chk43 v1155), ∀ a, (k0_off86 v1155) a + S1x1x1x128x256.size a ≤ S1x1x16x128x256.size a := fun v1155 k0_hw43 => k0_hw43

def k0_off87 (v1153 : BitVec 32) : Fin 3 → Nat :=
  let v1170 : Index := Scalar.indexCast v1153
  let c0_746 : Index := 0#32
  let c0_747 : Index := 0#32
  ![v1170.toNat, 0, 0]

def k0_off88 (v1153 : BitVec 32) : Fin 3 → Nat :=
  let v1178 : Index := Scalar.indexCast v1153
  let c0_750 : Index := 0#32
  let c0_751 : Index := 0#32
  ![v1178.toNat, 0, 0]

def k0_chk44 (v1153 : BitVec 32) : Prop :=
  (∀ a, (k0_off87 v1153) a + S1x1x512.size a ≤ S16x1x512.size a) ∧
  (∀ a, (k0_off88 v1153) a + S1x128x512.size a ≤ S16x128x512.size a)
theorem k0_off87_inb : ∀ (v1153 : BitVec 32) (k0_hw44 : k0_chk44 v1153), ∀ a, (k0_off87 v1153) a + S1x1x512.size a ≤ S16x1x512.size a := fun v1153 k0_hw44 => k0_hw44.1
theorem k0_off88_inb : ∀ (v1153 : BitVec 32) (k0_hw44 : k0_chk44 v1153), ∀ a, (k0_off88 v1153) a + S1x128x512.size a ≤ S16x128x512.size a := fun v1153 k0_hw44 => k0_hw44.2

def k0_off89 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c8_i32 : BitVec 32 := 8#32
  let v1186 : BitVec 32 := Scalar.addi v663 c8_i32
  let c6_i32_754 : BitVec 32 := 6#32
  let v1187 : BitVec 32 := Scalar.addi v1186 c6_i32_754
  let v1188 : Index := Scalar.indexCast v1187
  ![v1188.toNat]
def k0_off90 (v1189 : BitVec 32) : Fin 5 → Nat :=
  let c0_755 : Index := 0#32
  let c0_756 : Index := 0#32
  let v1190 : Index := Scalar.indexCast v1189
  let c0_757 : Index := 0#32
  let c0_758 : Index := 0#32
  ![0, 0, v1190.toNat, 0, 0]

def k0_chk45 (v1189 : BitVec 32) : Prop :=
  (∀ a, (k0_off90 v1189) a + S1x1x1x256x128.size a ≤ S1x1x16x256x128.size a)
theorem k0_off90_inb : ∀ (v1189 : BitVec 32) (k0_hw45 : k0_chk45 v1189), ∀ a, (k0_off90 v1189) a + S1x1x1x256x128.size a ≤ S1x1x16x256x128.size a := fun v1189 k0_hw45 => k0_hw45

def k0_off91 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c8_i32 : BitVec 32 := 8#32
  let v1186 : BitVec 32 := Scalar.addi v663 c8_i32
  let c6_i32_754 : BitVec 32 := 6#32
  let v1187 : BitVec 32 := Scalar.addi v1186 c6_i32_754
  let v1193 : Index := Scalar.indexCast v1187
  ![v1193.toNat]
def k0_off92 (v1194 : BitVec 32) : Fin 5 → Nat :=
  let c0_759 : Index := 0#32
  let c0_760 : Index := 0#32
  let v1195 : Index := Scalar.indexCast v1194
  let c0_761 : Index := 0#32
  let c0_762 : Index := 0#32
  ![0, 0, v1195.toNat, 0, 0]

def k0_chk46 (v1194 : BitVec 32) : Prop :=
  (∀ a, (k0_off92 v1194) a + S1x1x1x512x128.size a ≤ S1x1x16x512x128.size a)
theorem k0_off92_inb : ∀ (v1194 : BitVec 32) (k0_hw46 : k0_chk46 v1194), ∀ a, (k0_off92 v1194) a + S1x1x1x512x128.size a ≤ S1x1x16x512x128.size a := fun v1194 k0_hw46 => k0_hw46

def k0_off93 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c8_i32_767 : BitVec 32 := 8#32
  let v1202 : BitVec 32 := Scalar.addi v663 c8_i32_767
  let v1203 : Index := Scalar.indexCast v1202
  ![v1203.toNat]
def k0_off94 (v1206 : BitVec 32) : Fin 5 → Nat :=
  let c0_774 : Index := 0#32
  let c0_775 : Index := 0#32
  let v1217 : Index := Scalar.indexCast v1206
  let c0_776 : Index := 0#32
  let c0_777 : Index := 0#32
  ![0, 0, v1217.toNat, 0, 0]

def k0_chk47 (v1206 : BitVec 32) : Prop :=
  (∀ a, (k0_off94 v1206) a + S1x1x1x128x256.size a ≤ S1x1x16x128x256.size a)
theorem k0_off94_inb : ∀ (v1206 : BitVec 32) (k0_hw47 : k0_chk47 v1206), ∀ a, (k0_off94 v1206) a + S1x1x1x128x256.size a ≤ S1x1x16x128x256.size a := fun v1206 k0_hw47 => k0_hw47

def k0_off95 (v1204 : BitVec 32) : Fin 3 → Nat :=
  let v1221 : Index := Scalar.indexCast v1204
  let c0_779 : Index := 0#32
  let c0_780 : Index := 0#32
  ![v1221.toNat, 0, 0]

def k0_off96 (v1204 : BitVec 32) : Fin 3 → Nat :=
  let v1229 : Index := Scalar.indexCast v1204
  let c0_783 : Index := 0#32
  let c0_784 : Index := 0#32
  ![v1229.toNat, 0, 0]

def k0_chk48 (v1204 : BitVec 32) : Prop :=
  (∀ a, (k0_off95 v1204) a + S1x1x512.size a ≤ S16x1x512.size a) ∧
  (∀ a, (k0_off96 v1204) a + S1x128x512.size a ≤ S16x128x512.size a)
theorem k0_off95_inb : ∀ (v1204 : BitVec 32) (k0_hw48 : k0_chk48 v1204), ∀ a, (k0_off95 v1204) a + S1x1x512.size a ≤ S16x1x512.size a := fun v1204 k0_hw48 => k0_hw48.1
theorem k0_off96_inb : ∀ (v1204 : BitVec 32) (k0_hw48 : k0_chk48 v1204), ∀ a, (k0_off96 v1204) a + S1x128x512.size a ≤ S16x128x512.size a := fun v1204 k0_hw48 => k0_hw48.2

def k0_off97 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c9_i32 : BitVec 32 := 9#32
  let v1237 : BitVec 32 := Scalar.addi v663 c9_i32
  let c6_i32_787 : BitVec 32 := 6#32
  let v1238 : BitVec 32 := Scalar.addi v1237 c6_i32_787
  let v1239 : Index := Scalar.indexCast v1238
  ![v1239.toNat]
def k0_off98 (v1240 : BitVec 32) : Fin 5 → Nat :=
  let c0_788 : Index := 0#32
  let c0_789 : Index := 0#32
  let v1241 : Index := Scalar.indexCast v1240
  let c0_790 : Index := 0#32
  let c0_791 : Index := 0#32
  ![0, 0, v1241.toNat, 0, 0]

def k0_chk49 (v1240 : BitVec 32) : Prop :=
  (∀ a, (k0_off98 v1240) a + S1x1x1x256x128.size a ≤ S1x1x16x256x128.size a)
theorem k0_off98_inb : ∀ (v1240 : BitVec 32) (k0_hw49 : k0_chk49 v1240), ∀ a, (k0_off98 v1240) a + S1x1x1x256x128.size a ≤ S1x1x16x256x128.size a := fun v1240 k0_hw49 => k0_hw49

def k0_off99 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c9_i32 : BitVec 32 := 9#32
  let v1237 : BitVec 32 := Scalar.addi v663 c9_i32
  let c6_i32_787 : BitVec 32 := 6#32
  let v1238 : BitVec 32 := Scalar.addi v1237 c6_i32_787
  let v1244 : Index := Scalar.indexCast v1238
  ![v1244.toNat]
def k0_off100 (v1245 : BitVec 32) : Fin 5 → Nat :=
  let c0_792 : Index := 0#32
  let c0_793 : Index := 0#32
  let v1246 : Index := Scalar.indexCast v1245
  let c0_794 : Index := 0#32
  let c0_795 : Index := 0#32
  ![0, 0, v1246.toNat, 0, 0]

def k0_chk50 (v1245 : BitVec 32) : Prop :=
  (∀ a, (k0_off100 v1245) a + S1x1x1x512x128.size a ≤ S1x1x16x512x128.size a)
theorem k0_off100_inb : ∀ (v1245 : BitVec 32) (k0_hw50 : k0_chk50 v1245), ∀ a, (k0_off100 v1245) a + S1x1x1x512x128.size a ≤ S1x1x16x512x128.size a := fun v1245 k0_hw50 => k0_hw50

def k0_off101 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c9_i32_800 : BitVec 32 := 9#32
  let v1253 : BitVec 32 := Scalar.addi v663 c9_i32_800
  let v1254 : Index := Scalar.indexCast v1253
  ![v1254.toNat]
def k0_off102 (v1257 : BitVec 32) : Fin 5 → Nat :=
  let c0_807 : Index := 0#32
  let c0_808 : Index := 0#32
  let v1268 : Index := Scalar.indexCast v1257
  let c0_809 : Index := 0#32
  let c0_810 : Index := 0#32
  ![0, 0, v1268.toNat, 0, 0]

def k0_chk51 (v1257 : BitVec 32) : Prop :=
  (∀ a, (k0_off102 v1257) a + S1x1x1x128x256.size a ≤ S1x1x16x128x256.size a)
theorem k0_off102_inb : ∀ (v1257 : BitVec 32) (k0_hw51 : k0_chk51 v1257), ∀ a, (k0_off102 v1257) a + S1x1x1x128x256.size a ≤ S1x1x16x128x256.size a := fun v1257 k0_hw51 => k0_hw51

def k0_off103 (v1255 : BitVec 32) : Fin 3 → Nat :=
  let v1272 : Index := Scalar.indexCast v1255
  let c0_812 : Index := 0#32
  let c0_813 : Index := 0#32
  ![v1272.toNat, 0, 0]

def k0_off104 (v1255 : BitVec 32) : Fin 3 → Nat :=
  let v1280 : Index := Scalar.indexCast v1255
  let c0_816 : Index := 0#32
  let c0_817 : Index := 0#32
  ![v1280.toNat, 0, 0]

def k0_chk52 (v1255 : BitVec 32) : Prop :=
  (∀ a, (k0_off103 v1255) a + S1x1x512.size a ≤ S16x1x512.size a) ∧
  (∀ a, (k0_off104 v1255) a + S1x128x512.size a ≤ S16x128x512.size a)
theorem k0_off103_inb : ∀ (v1255 : BitVec 32) (k0_hw52 : k0_chk52 v1255), ∀ a, (k0_off103 v1255) a + S1x1x512.size a ≤ S16x1x512.size a := fun v1255 k0_hw52 => k0_hw52.1
theorem k0_off104_inb : ∀ (v1255 : BitVec 32) (k0_hw52 : k0_chk52 v1255), ∀ a, (k0_off104 v1255) a + S1x128x512.size a ≤ S16x128x512.size a := fun v1255 k0_hw52 => k0_hw52.2

def k0_off105 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c10_i32 : BitVec 32 := 10#32
  let v1288 : BitVec 32 := Scalar.addi v663 c10_i32
  let c6_i32_820 : BitVec 32 := 6#32
  let v1289 : BitVec 32 := Scalar.addi v1288 c6_i32_820
  let v1290 : Index := Scalar.indexCast v1289
  ![v1290.toNat]
def k0_off106 (v1291 : BitVec 32) : Fin 5 → Nat :=
  let c0_821 : Index := 0#32
  let c0_822 : Index := 0#32
  let v1292 : Index := Scalar.indexCast v1291
  let c0_823 : Index := 0#32
  let c0_824 : Index := 0#32
  ![0, 0, v1292.toNat, 0, 0]

def k0_chk53 (v1291 : BitVec 32) : Prop :=
  (∀ a, (k0_off106 v1291) a + S1x1x1x256x128.size a ≤ S1x1x16x256x128.size a)
theorem k0_off106_inb : ∀ (v1291 : BitVec 32) (k0_hw53 : k0_chk53 v1291), ∀ a, (k0_off106 v1291) a + S1x1x1x256x128.size a ≤ S1x1x16x256x128.size a := fun v1291 k0_hw53 => k0_hw53

def k0_off107 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c10_i32 : BitVec 32 := 10#32
  let v1288 : BitVec 32 := Scalar.addi v663 c10_i32
  let c6_i32_820 : BitVec 32 := 6#32
  let v1289 : BitVec 32 := Scalar.addi v1288 c6_i32_820
  let v1295 : Index := Scalar.indexCast v1289
  ![v1295.toNat]
def k0_off108 (v1296 : BitVec 32) : Fin 5 → Nat :=
  let c0_825 : Index := 0#32
  let c0_826 : Index := 0#32
  let v1297 : Index := Scalar.indexCast v1296
  let c0_827 : Index := 0#32
  let c0_828 : Index := 0#32
  ![0, 0, v1297.toNat, 0, 0]

def k0_chk54 (v1296 : BitVec 32) : Prop :=
  (∀ a, (k0_off108 v1296) a + S1x1x1x512x128.size a ≤ S1x1x16x512x128.size a)
theorem k0_off108_inb : ∀ (v1296 : BitVec 32) (k0_hw54 : k0_chk54 v1296), ∀ a, (k0_off108 v1296) a + S1x1x1x512x128.size a ≤ S1x1x16x512x128.size a := fun v1296 k0_hw54 => k0_hw54

def k0_off109 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c10_i32_833 : BitVec 32 := 10#32
  let v1304 : BitVec 32 := Scalar.addi v663 c10_i32_833
  let v1305 : Index := Scalar.indexCast v1304
  ![v1305.toNat]
def k0_off110 (v1308 : BitVec 32) : Fin 5 → Nat :=
  let c0_840 : Index := 0#32
  let c0_841 : Index := 0#32
  let v1319 : Index := Scalar.indexCast v1308
  let c0_842 : Index := 0#32
  let c0_843 : Index := 0#32
  ![0, 0, v1319.toNat, 0, 0]

def k0_chk55 (v1308 : BitVec 32) : Prop :=
  (∀ a, (k0_off110 v1308) a + S1x1x1x128x256.size a ≤ S1x1x16x128x256.size a)
theorem k0_off110_inb : ∀ (v1308 : BitVec 32) (k0_hw55 : k0_chk55 v1308), ∀ a, (k0_off110 v1308) a + S1x1x1x128x256.size a ≤ S1x1x16x128x256.size a := fun v1308 k0_hw55 => k0_hw55

def k0_off111 (v1306 : BitVec 32) : Fin 3 → Nat :=
  let v1323 : Index := Scalar.indexCast v1306
  let c0_845 : Index := 0#32
  let c0_846 : Index := 0#32
  ![v1323.toNat, 0, 0]

def k0_off112 (v1306 : BitVec 32) : Fin 3 → Nat :=
  let v1331 : Index := Scalar.indexCast v1306
  let c0_849 : Index := 0#32
  let c0_850 : Index := 0#32
  ![v1331.toNat, 0, 0]

def k0_chk56 (v1306 : BitVec 32) : Prop :=
  (∀ a, (k0_off111 v1306) a + S1x1x512.size a ≤ S16x1x512.size a) ∧
  (∀ a, (k0_off112 v1306) a + S1x128x512.size a ≤ S16x128x512.size a)
theorem k0_off111_inb : ∀ (v1306 : BitVec 32) (k0_hw56 : k0_chk56 v1306), ∀ a, (k0_off111 v1306) a + S1x1x512.size a ≤ S16x1x512.size a := fun v1306 k0_hw56 => k0_hw56.1
theorem k0_off112_inb : ∀ (v1306 : BitVec 32) (k0_hw56 : k0_chk56 v1306), ∀ a, (k0_off112 v1306) a + S1x128x512.size a ≤ S16x128x512.size a := fun v1306 k0_hw56 => k0_hw56.2

def k0_off113 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c11_i32 : BitVec 32 := 11#32
  let v1339 : BitVec 32 := Scalar.addi v663 c11_i32
  let c6_i32_853 : BitVec 32 := 6#32
  let v1340 : BitVec 32 := Scalar.addi v1339 c6_i32_853
  let v1341 : Index := Scalar.indexCast v1340
  ![v1341.toNat]
def k0_off114 (v1342 : BitVec 32) : Fin 5 → Nat :=
  let c0_854 : Index := 0#32
  let c0_855 : Index := 0#32
  let v1343 : Index := Scalar.indexCast v1342
  let c0_856 : Index := 0#32
  let c0_857 : Index := 0#32
  ![0, 0, v1343.toNat, 0, 0]

def k0_chk57 (v1342 : BitVec 32) : Prop :=
  (∀ a, (k0_off114 v1342) a + S1x1x1x256x128.size a ≤ S1x1x16x256x128.size a)
theorem k0_off114_inb : ∀ (v1342 : BitVec 32) (k0_hw57 : k0_chk57 v1342), ∀ a, (k0_off114 v1342) a + S1x1x1x256x128.size a ≤ S1x1x16x256x128.size a := fun v1342 k0_hw57 => k0_hw57

def k0_off115 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c11_i32 : BitVec 32 := 11#32
  let v1339 : BitVec 32 := Scalar.addi v663 c11_i32
  let c6_i32_853 : BitVec 32 := 6#32
  let v1340 : BitVec 32 := Scalar.addi v1339 c6_i32_853
  let v1346 : Index := Scalar.indexCast v1340
  ![v1346.toNat]
def k0_off116 (v1347 : BitVec 32) : Fin 5 → Nat :=
  let c0_858 : Index := 0#32
  let c0_859 : Index := 0#32
  let v1348 : Index := Scalar.indexCast v1347
  let c0_860 : Index := 0#32
  let c0_861 : Index := 0#32
  ![0, 0, v1348.toNat, 0, 0]

def k0_chk58 (v1347 : BitVec 32) : Prop :=
  (∀ a, (k0_off116 v1347) a + S1x1x1x512x128.size a ≤ S1x1x16x512x128.size a)
theorem k0_off116_inb : ∀ (v1347 : BitVec 32) (k0_hw58 : k0_chk58 v1347), ∀ a, (k0_off116 v1347) a + S1x1x1x512x128.size a ≤ S1x1x16x512x128.size a := fun v1347 k0_hw58 => k0_hw58

def k0_off117 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c11_i32_866 : BitVec 32 := 11#32
  let v1355 : BitVec 32 := Scalar.addi v663 c11_i32_866
  let v1356 : Index := Scalar.indexCast v1355
  ![v1356.toNat]
def k0_off118 (v1359 : BitVec 32) : Fin 5 → Nat :=
  let c0_873 : Index := 0#32
  let c0_874 : Index := 0#32
  let v1370 : Index := Scalar.indexCast v1359
  let c0_875 : Index := 0#32
  let c0_876 : Index := 0#32
  ![0, 0, v1370.toNat, 0, 0]

def k0_chk59 (v1359 : BitVec 32) : Prop :=
  (∀ a, (k0_off118 v1359) a + S1x1x1x128x256.size a ≤ S1x1x16x128x256.size a)
theorem k0_off118_inb : ∀ (v1359 : BitVec 32) (k0_hw59 : k0_chk59 v1359), ∀ a, (k0_off118 v1359) a + S1x1x1x128x256.size a ≤ S1x1x16x128x256.size a := fun v1359 k0_hw59 => k0_hw59

def k0_off119 (v1357 : BitVec 32) : Fin 3 → Nat :=
  let v1374 : Index := Scalar.indexCast v1357
  let c0_878 : Index := 0#32
  let c0_879 : Index := 0#32
  ![v1374.toNat, 0, 0]

def k0_off120 (v1357 : BitVec 32) : Fin 3 → Nat :=
  let v1382 : Index := Scalar.indexCast v1357
  let c0_882 : Index := 0#32
  let c0_883 : Index := 0#32
  ![v1382.toNat, 0, 0]

def k0_chk60 (v1357 : BitVec 32) : Prop :=
  (∀ a, (k0_off119 v1357) a + S1x1x512.size a ≤ S16x1x512.size a) ∧
  (∀ a, (k0_off120 v1357) a + S1x128x512.size a ≤ S16x128x512.size a)
theorem k0_off119_inb : ∀ (v1357 : BitVec 32) (k0_hw60 : k0_chk60 v1357), ∀ a, (k0_off119 v1357) a + S1x1x512.size a ≤ S16x1x512.size a := fun v1357 k0_hw60 => k0_hw60.1
theorem k0_off120_inb : ∀ (v1357 : BitVec 32) (k0_hw60 : k0_chk60 v1357), ∀ a, (k0_off120 v1357) a + S1x128x512.size a ≤ S16x128x512.size a := fun v1357 k0_hw60 => k0_hw60.2

def k0_off121 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c12_i32 : BitVec 32 := 12#32
  let v1390 : BitVec 32 := Scalar.addi v663 c12_i32
  let c6_i32_886 : BitVec 32 := 6#32
  let v1391 : BitVec 32 := Scalar.addi v1390 c6_i32_886
  let v1392 : Index := Scalar.indexCast v1391
  ![v1392.toNat]
def k0_off122 (v1393 : BitVec 32) : Fin 5 → Nat :=
  let c0_887 : Index := 0#32
  let c0_888 : Index := 0#32
  let v1394 : Index := Scalar.indexCast v1393
  let c0_889 : Index := 0#32
  let c0_890 : Index := 0#32
  ![0, 0, v1394.toNat, 0, 0]

def k0_chk61 (v1393 : BitVec 32) : Prop :=
  (∀ a, (k0_off122 v1393) a + S1x1x1x256x128.size a ≤ S1x1x16x256x128.size a)
theorem k0_off122_inb : ∀ (v1393 : BitVec 32) (k0_hw61 : k0_chk61 v1393), ∀ a, (k0_off122 v1393) a + S1x1x1x256x128.size a ≤ S1x1x16x256x128.size a := fun v1393 k0_hw61 => k0_hw61

def k0_off123 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c12_i32 : BitVec 32 := 12#32
  let v1390 : BitVec 32 := Scalar.addi v663 c12_i32
  let c6_i32_886 : BitVec 32 := 6#32
  let v1391 : BitVec 32 := Scalar.addi v1390 c6_i32_886
  let v1397 : Index := Scalar.indexCast v1391
  ![v1397.toNat]
def k0_off124 (v1398 : BitVec 32) : Fin 5 → Nat :=
  let c0_891 : Index := 0#32
  let c0_892 : Index := 0#32
  let v1399 : Index := Scalar.indexCast v1398
  let c0_893 : Index := 0#32
  let c0_894 : Index := 0#32
  ![0, 0, v1399.toNat, 0, 0]

def k0_chk62 (v1398 : BitVec 32) : Prop :=
  (∀ a, (k0_off124 v1398) a + S1x1x1x512x128.size a ≤ S1x1x16x512x128.size a)
theorem k0_off124_inb : ∀ (v1398 : BitVec 32) (k0_hw62 : k0_chk62 v1398), ∀ a, (k0_off124 v1398) a + S1x1x1x512x128.size a ≤ S1x1x16x512x128.size a := fun v1398 k0_hw62 => k0_hw62

def k0_off125 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c12_i32_899 : BitVec 32 := 12#32
  let v1406 : BitVec 32 := Scalar.addi v663 c12_i32_899
  let v1407 : Index := Scalar.indexCast v1406
  ![v1407.toNat]
def k0_off126 (v1410 : BitVec 32) : Fin 5 → Nat :=
  let c0_906 : Index := 0#32
  let c0_907 : Index := 0#32
  let v1421 : Index := Scalar.indexCast v1410
  let c0_908 : Index := 0#32
  let c0_909 : Index := 0#32
  ![0, 0, v1421.toNat, 0, 0]

def k0_chk63 (v1410 : BitVec 32) : Prop :=
  (∀ a, (k0_off126 v1410) a + S1x1x1x128x256.size a ≤ S1x1x16x128x256.size a)
theorem k0_off126_inb : ∀ (v1410 : BitVec 32) (k0_hw63 : k0_chk63 v1410), ∀ a, (k0_off126 v1410) a + S1x1x1x128x256.size a ≤ S1x1x16x128x256.size a := fun v1410 k0_hw63 => k0_hw63

def k0_off127 (v1408 : BitVec 32) : Fin 3 → Nat :=
  let v1425 : Index := Scalar.indexCast v1408
  let c0_911 : Index := 0#32
  let c0_912 : Index := 0#32
  ![v1425.toNat, 0, 0]

def k0_off128 (v1408 : BitVec 32) : Fin 3 → Nat :=
  let v1433 : Index := Scalar.indexCast v1408
  let c0_915 : Index := 0#32
  let c0_916 : Index := 0#32
  ![v1433.toNat, 0, 0]

def k0_chk64 (v1408 : BitVec 32) : Prop :=
  (∀ a, (k0_off127 v1408) a + S1x1x512.size a ≤ S16x1x512.size a) ∧
  (∀ a, (k0_off128 v1408) a + S1x128x512.size a ≤ S16x128x512.size a)
theorem k0_off127_inb : ∀ (v1408 : BitVec 32) (k0_hw64 : k0_chk64 v1408), ∀ a, (k0_off127 v1408) a + S1x1x512.size a ≤ S16x1x512.size a := fun v1408 k0_hw64 => k0_hw64.1
theorem k0_off128_inb : ∀ (v1408 : BitVec 32) (k0_hw64 : k0_chk64 v1408), ∀ a, (k0_off128 v1408) a + S1x128x512.size a ≤ S16x128x512.size a := fun v1408 k0_hw64 => k0_hw64.2

def k0_off129 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c13_i32 : BitVec 32 := 13#32
  let v1441 : BitVec 32 := Scalar.addi v663 c13_i32
  let c6_i32_919 : BitVec 32 := 6#32
  let v1442 : BitVec 32 := Scalar.addi v1441 c6_i32_919
  let v1443 : Index := Scalar.indexCast v1442
  ![v1443.toNat]
def k0_off130 (v1444 : BitVec 32) : Fin 5 → Nat :=
  let c0_920 : Index := 0#32
  let c0_921 : Index := 0#32
  let v1445 : Index := Scalar.indexCast v1444
  let c0_922 : Index := 0#32
  let c0_923 : Index := 0#32
  ![0, 0, v1445.toNat, 0, 0]

def k0_chk65 (v1444 : BitVec 32) : Prop :=
  (∀ a, (k0_off130 v1444) a + S1x1x1x256x128.size a ≤ S1x1x16x256x128.size a)
theorem k0_off130_inb : ∀ (v1444 : BitVec 32) (k0_hw65 : k0_chk65 v1444), ∀ a, (k0_off130 v1444) a + S1x1x1x256x128.size a ≤ S1x1x16x256x128.size a := fun v1444 k0_hw65 => k0_hw65

def k0_off131 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c13_i32 : BitVec 32 := 13#32
  let v1441 : BitVec 32 := Scalar.addi v663 c13_i32
  let c6_i32_919 : BitVec 32 := 6#32
  let v1442 : BitVec 32 := Scalar.addi v1441 c6_i32_919
  let v1448 : Index := Scalar.indexCast v1442
  ![v1448.toNat]
def k0_off132 (v1449 : BitVec 32) : Fin 5 → Nat :=
  let c0_924 : Index := 0#32
  let c0_925 : Index := 0#32
  let v1450 : Index := Scalar.indexCast v1449
  let c0_926 : Index := 0#32
  let c0_927 : Index := 0#32
  ![0, 0, v1450.toNat, 0, 0]

def k0_chk66 (v1449 : BitVec 32) : Prop :=
  (∀ a, (k0_off132 v1449) a + S1x1x1x512x128.size a ≤ S1x1x16x512x128.size a)
theorem k0_off132_inb : ∀ (v1449 : BitVec 32) (k0_hw66 : k0_chk66 v1449), ∀ a, (k0_off132 v1449) a + S1x1x1x512x128.size a ≤ S1x1x16x512x128.size a := fun v1449 k0_hw66 => k0_hw66

def k0_off133 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c13_i32_932 : BitVec 32 := 13#32
  let v1457 : BitVec 32 := Scalar.addi v663 c13_i32_932
  let v1458 : Index := Scalar.indexCast v1457
  ![v1458.toNat]
def k0_off134 (v1461 : BitVec 32) : Fin 5 → Nat :=
  let c0_939 : Index := 0#32
  let c0_940 : Index := 0#32
  let v1472 : Index := Scalar.indexCast v1461
  let c0_941 : Index := 0#32
  let c0_942 : Index := 0#32
  ![0, 0, v1472.toNat, 0, 0]

def k0_chk67 (v1461 : BitVec 32) : Prop :=
  (∀ a, (k0_off134 v1461) a + S1x1x1x128x256.size a ≤ S1x1x16x128x256.size a)
theorem k0_off134_inb : ∀ (v1461 : BitVec 32) (k0_hw67 : k0_chk67 v1461), ∀ a, (k0_off134 v1461) a + S1x1x1x128x256.size a ≤ S1x1x16x128x256.size a := fun v1461 k0_hw67 => k0_hw67

def k0_off135 (v1459 : BitVec 32) : Fin 3 → Nat :=
  let v1476 : Index := Scalar.indexCast v1459
  let c0_944 : Index := 0#32
  let c0_945 : Index := 0#32
  ![v1476.toNat, 0, 0]

def k0_off136 (v1459 : BitVec 32) : Fin 3 → Nat :=
  let v1484 : Index := Scalar.indexCast v1459
  let c0_948 : Index := 0#32
  let c0_949 : Index := 0#32
  ![v1484.toNat, 0, 0]

def k0_chk68 (v1459 : BitVec 32) : Prop :=
  (∀ a, (k0_off135 v1459) a + S1x1x512.size a ≤ S16x1x512.size a) ∧
  (∀ a, (k0_off136 v1459) a + S1x128x512.size a ≤ S16x128x512.size a)
theorem k0_off135_inb : ∀ (v1459 : BitVec 32) (k0_hw68 : k0_chk68 v1459), ∀ a, (k0_off135 v1459) a + S1x1x512.size a ≤ S16x1x512.size a := fun v1459 k0_hw68 => k0_hw68.1
theorem k0_off136_inb : ∀ (v1459 : BitVec 32) (k0_hw68 : k0_chk68 v1459), ∀ a, (k0_off136 v1459) a + S1x128x512.size a ≤ S16x128x512.size a := fun v1459 k0_hw68 => k0_hw68.2

def k0_off137 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c14_i32 : BitVec 32 := 14#32
  let v1492 : BitVec 32 := Scalar.addi v663 c14_i32
  let c6_i32_952 : BitVec 32 := 6#32
  let v1493 : BitVec 32 := Scalar.addi v1492 c6_i32_952
  let v1494 : Index := Scalar.indexCast v1493
  ![v1494.toNat]
def k0_off138 (v1495 : BitVec 32) : Fin 5 → Nat :=
  let c0_953 : Index := 0#32
  let c0_954 : Index := 0#32
  let v1496 : Index := Scalar.indexCast v1495
  let c0_955 : Index := 0#32
  let c0_956 : Index := 0#32
  ![0, 0, v1496.toNat, 0, 0]

def k0_chk69 (v1495 : BitVec 32) : Prop :=
  (∀ a, (k0_off138 v1495) a + S1x1x1x256x128.size a ≤ S1x1x16x256x128.size a)
theorem k0_off138_inb : ∀ (v1495 : BitVec 32) (k0_hw69 : k0_chk69 v1495), ∀ a, (k0_off138 v1495) a + S1x1x1x256x128.size a ≤ S1x1x16x256x128.size a := fun v1495 k0_hw69 => k0_hw69

def k0_off139 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c14_i32 : BitVec 32 := 14#32
  let v1492 : BitVec 32 := Scalar.addi v663 c14_i32
  let c6_i32_952 : BitVec 32 := 6#32
  let v1493 : BitVec 32 := Scalar.addi v1492 c6_i32_952
  let v1499 : Index := Scalar.indexCast v1493
  ![v1499.toNat]
def k0_off140 (v1500 : BitVec 32) : Fin 5 → Nat :=
  let c0_957 : Index := 0#32
  let c0_958 : Index := 0#32
  let v1501 : Index := Scalar.indexCast v1500
  let c0_959 : Index := 0#32
  let c0_960 : Index := 0#32
  ![0, 0, v1501.toNat, 0, 0]

def k0_chk70 (v1500 : BitVec 32) : Prop :=
  (∀ a, (k0_off140 v1500) a + S1x1x1x512x128.size a ≤ S1x1x16x512x128.size a)
theorem k0_off140_inb : ∀ (v1500 : BitVec 32) (k0_hw70 : k0_chk70 v1500), ∀ a, (k0_off140 v1500) a + S1x1x1x512x128.size a ≤ S1x1x16x512x128.size a := fun v1500 k0_hw70 => k0_hw70

def k0_off141 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c14_i32_965 : BitVec 32 := 14#32
  let v1508 : BitVec 32 := Scalar.addi v663 c14_i32_965
  let v1509 : Index := Scalar.indexCast v1508
  ![v1509.toNat]
def k0_off142 (v1512 : BitVec 32) : Fin 5 → Nat :=
  let c0_972 : Index := 0#32
  let c0_973 : Index := 0#32
  let v1523 : Index := Scalar.indexCast v1512
  let c0_974 : Index := 0#32
  let c0_975 : Index := 0#32
  ![0, 0, v1523.toNat, 0, 0]

def k0_chk71 (v1512 : BitVec 32) : Prop :=
  (∀ a, (k0_off142 v1512) a + S1x1x1x128x256.size a ≤ S1x1x16x128x256.size a)
theorem k0_off142_inb : ∀ (v1512 : BitVec 32) (k0_hw71 : k0_chk71 v1512), ∀ a, (k0_off142 v1512) a + S1x1x1x128x256.size a ≤ S1x1x16x128x256.size a := fun v1512 k0_hw71 => k0_hw71

def k0_off143 (v1510 : BitVec 32) : Fin 3 → Nat :=
  let v1527 : Index := Scalar.indexCast v1510
  let c0_977 : Index := 0#32
  let c0_978 : Index := 0#32
  ![v1527.toNat, 0, 0]

def k0_off144 (v1510 : BitVec 32) : Fin 3 → Nat :=
  let v1535 : Index := Scalar.indexCast v1510
  let c0_981 : Index := 0#32
  let c0_982 : Index := 0#32
  ![v1535.toNat, 0, 0]

def k0_chk72 (v1510 : BitVec 32) : Prop :=
  (∀ a, (k0_off143 v1510) a + S1x1x512.size a ≤ S16x1x512.size a) ∧
  (∀ a, (k0_off144 v1510) a + S1x128x512.size a ≤ S16x128x512.size a)
theorem k0_off143_inb : ∀ (v1510 : BitVec 32) (k0_hw72 : k0_chk72 v1510), ∀ a, (k0_off143 v1510) a + S1x1x512.size a ≤ S16x1x512.size a := fun v1510 k0_hw72 => k0_hw72.1
theorem k0_off144_inb : ∀ (v1510 : BitVec 32) (k0_hw72 : k0_chk72 v1510), ∀ a, (k0_off144 v1510) a + S1x128x512.size a ≤ S16x128x512.size a := fun v1510 k0_hw72 => k0_hw72.2

def k0_off145 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c15_i32 : BitVec 32 := 15#32
  let v1543 : BitVec 32 := Scalar.addi v663 c15_i32
  let c6_i32_985 : BitVec 32 := 6#32
  let v1544 : BitVec 32 := Scalar.addi v1543 c6_i32_985
  let v1545 : Index := Scalar.indexCast v1544
  ![v1545.toNat]
def k0_off146 (v1546 : BitVec 32) : Fin 5 → Nat :=
  let c0_986 : Index := 0#32
  let c0_987 : Index := 0#32
  let v1547 : Index := Scalar.indexCast v1546
  let c0_988 : Index := 0#32
  let c0_989 : Index := 0#32
  ![0, 0, v1547.toNat, 0, 0]

def k0_chk73 (v1546 : BitVec 32) : Prop :=
  (∀ a, (k0_off146 v1546) a + S1x1x1x256x128.size a ≤ S1x1x16x256x128.size a)
theorem k0_off146_inb : ∀ (v1546 : BitVec 32) (k0_hw73 : k0_chk73 v1546), ∀ a, (k0_off146 v1546) a + S1x1x1x256x128.size a ≤ S1x1x16x256x128.size a := fun v1546 k0_hw73 => k0_hw73

def k0_off147 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c15_i32 : BitVec 32 := 15#32
  let v1543 : BitVec 32 := Scalar.addi v663 c15_i32
  let c6_i32_985 : BitVec 32 := 6#32
  let v1544 : BitVec 32 := Scalar.addi v1543 c6_i32_985
  let v1550 : Index := Scalar.indexCast v1544
  ![v1550.toNat]
def k0_off148 (v1551 : BitVec 32) : Fin 5 → Nat :=
  let c0_990 : Index := 0#32
  let c0_991 : Index := 0#32
  let v1552 : Index := Scalar.indexCast v1551
  let c0_992 : Index := 0#32
  let c0_993 : Index := 0#32
  ![0, 0, v1552.toNat, 0, 0]

def k0_chk74 (v1551 : BitVec 32) : Prop :=
  (∀ a, (k0_off148 v1551) a + S1x1x1x512x128.size a ≤ S1x1x16x512x128.size a)
theorem k0_off148_inb : ∀ (v1551 : BitVec 32) (k0_hw74 : k0_chk74 v1551), ∀ a, (k0_off148 v1551) a + S1x1x1x512x128.size a ≤ S1x1x16x512x128.size a := fun v1551 k0_hw74 => k0_hw74

def k0_off149 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c15_i32_998 : BitVec 32 := 15#32
  let v1559 : BitVec 32 := Scalar.addi v663 c15_i32_998
  let v1560 : Index := Scalar.indexCast v1559
  ![v1560.toNat]
def k0_off150 (v1563 : BitVec 32) : Fin 5 → Nat :=
  let c0_1005 : Index := 0#32
  let c0_1006 : Index := 0#32
  let v1574 : Index := Scalar.indexCast v1563
  let c0_1007 : Index := 0#32
  let c0_1008 : Index := 0#32
  ![0, 0, v1574.toNat, 0, 0]

def k0_chk75 (v1563 : BitVec 32) : Prop :=
  (∀ a, (k0_off150 v1563) a + S1x1x1x128x256.size a ≤ S1x1x16x128x256.size a)
theorem k0_off150_inb : ∀ (v1563 : BitVec 32) (k0_hw75 : k0_chk75 v1563), ∀ a, (k0_off150 v1563) a + S1x1x1x128x256.size a ≤ S1x1x16x128x256.size a := fun v1563 k0_hw75 => k0_hw75

def k0_off151 (v1561 : BitVec 32) : Fin 3 → Nat :=
  let v1578 : Index := Scalar.indexCast v1561
  let c0_1010 : Index := 0#32
  let c0_1011 : Index := 0#32
  ![v1578.toNat, 0, 0]

def k0_off152 (v1561 : BitVec 32) : Fin 3 → Nat :=
  let v1586 : Index := Scalar.indexCast v1561
  let c0_1014 : Index := 0#32
  let c0_1015 : Index := 0#32
  ![v1586.toNat, 0, 0]

def k0_chk76 (v1561 : BitVec 32) : Prop :=
  (∀ a, (k0_off151 v1561) a + S1x1x512.size a ≤ S16x1x512.size a) ∧
  (∀ a, (k0_off152 v1561) a + S1x128x512.size a ≤ S16x128x512.size a)
theorem k0_off151_inb : ∀ (v1561 : BitVec 32) (k0_hw76 : k0_chk76 v1561), ∀ a, (k0_off151 v1561) a + S1x1x512.size a ≤ S16x1x512.size a := fun v1561 k0_hw76 => k0_hw76.1
theorem k0_off152_inb : ∀ (v1561 : BitVec 32) (k0_hw76 : k0_chk76 v1561), ∀ a, (k0_off152 v1561) a + S1x128x512.size a ≤ S16x128x512.size a := fun v1561 k0_hw76 => k0_hw76.2

def k0_off153 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c16_i32 : BitVec 32 := 16#32
  let v1594 : BitVec 32 := Scalar.addi v663 c16_i32
  let c6_i32_1018 : BitVec 32 := 6#32
  let v1595 : BitVec 32 := Scalar.addi v1594 c6_i32_1018
  let v1596 : Index := Scalar.indexCast v1595
  ![v1596.toNat]
def k0_off154 (v1597 : BitVec 32) : Fin 5 → Nat :=
  let c0_1019 : Index := 0#32
  let c0_1020 : Index := 0#32
  let v1598 : Index := Scalar.indexCast v1597
  let c0_1021 : Index := 0#32
  let c0_1022 : Index := 0#32
  ![0, 0, v1598.toNat, 0, 0]

def k0_chk77 (v1597 : BitVec 32) : Prop :=
  (∀ a, (k0_off154 v1597) a + S1x1x1x256x128.size a ≤ S1x1x16x256x128.size a)
theorem k0_off154_inb : ∀ (v1597 : BitVec 32) (k0_hw77 : k0_chk77 v1597), ∀ a, (k0_off154 v1597) a + S1x1x1x256x128.size a ≤ S1x1x16x256x128.size a := fun v1597 k0_hw77 => k0_hw77

def k0_off155 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c16_i32 : BitVec 32 := 16#32
  let v1594 : BitVec 32 := Scalar.addi v663 c16_i32
  let c6_i32_1018 : BitVec 32 := 6#32
  let v1595 : BitVec 32 := Scalar.addi v1594 c6_i32_1018
  let v1601 : Index := Scalar.indexCast v1595
  ![v1601.toNat]
def k0_off156 (v1602 : BitVec 32) : Fin 5 → Nat :=
  let c0_1023 : Index := 0#32
  let c0_1024 : Index := 0#32
  let v1603 : Index := Scalar.indexCast v1602
  let c0_1025 : Index := 0#32
  let c0_1026 : Index := 0#32
  ![0, 0, v1603.toNat, 0, 0]

def k0_chk78 (v1602 : BitVec 32) : Prop :=
  (∀ a, (k0_off156 v1602) a + S1x1x1x512x128.size a ≤ S1x1x16x512x128.size a)
theorem k0_off156_inb : ∀ (v1602 : BitVec 32) (k0_hw78 : k0_chk78 v1602), ∀ a, (k0_off156 v1602) a + S1x1x1x512x128.size a ≤ S1x1x16x512x128.size a := fun v1602 k0_hw78 => k0_hw78

def k0_off157 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c16_i32_1031 : BitVec 32 := 16#32
  let v1610 : BitVec 32 := Scalar.addi v663 c16_i32_1031
  let v1611 : Index := Scalar.indexCast v1610
  ![v1611.toNat]
def k0_off158 (v1614 : BitVec 32) : Fin 5 → Nat :=
  let c0_1038 : Index := 0#32
  let c0_1039 : Index := 0#32
  let v1625 : Index := Scalar.indexCast v1614
  let c0_1040 : Index := 0#32
  let c0_1041 : Index := 0#32
  ![0, 0, v1625.toNat, 0, 0]

def k0_chk79 (v1614 : BitVec 32) : Prop :=
  (∀ a, (k0_off158 v1614) a + S1x1x1x128x256.size a ≤ S1x1x16x128x256.size a)
theorem k0_off158_inb : ∀ (v1614 : BitVec 32) (k0_hw79 : k0_chk79 v1614), ∀ a, (k0_off158 v1614) a + S1x1x1x128x256.size a ≤ S1x1x16x128x256.size a := fun v1614 k0_hw79 => k0_hw79

def k0_off159 (v1612 : BitVec 32) : Fin 3 → Nat :=
  let v1629 : Index := Scalar.indexCast v1612
  let c0_1043 : Index := 0#32
  let c0_1044 : Index := 0#32
  ![v1629.toNat, 0, 0]

def k0_off160 (v1612 : BitVec 32) : Fin 3 → Nat :=
  let v1637 : Index := Scalar.indexCast v1612
  let c0_1047 : Index := 0#32
  let c0_1048 : Index := 0#32
  ![v1637.toNat, 0, 0]

def k0_chk80 (v1612 : BitVec 32) : Prop :=
  (∀ a, (k0_off159 v1612) a + S1x1x512.size a ≤ S16x1x512.size a) ∧
  (∀ a, (k0_off160 v1612) a + S1x128x512.size a ≤ S16x128x512.size a)
theorem k0_off159_inb : ∀ (v1612 : BitVec 32) (k0_hw80 : k0_chk80 v1612), ∀ a, (k0_off159 v1612) a + S1x1x512.size a ≤ S16x1x512.size a := fun v1612 k0_hw80 => k0_hw80.1
theorem k0_off160_inb : ∀ (v1612 : BitVec 32) (k0_hw80 : k0_chk80 v1612), ∀ a, (k0_off160 v1612) a + S1x128x512.size a ≤ S16x128x512.size a := fun v1612 k0_hw80 => k0_hw80.2

def k0_off161 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c17_i32 : BitVec 32 := 17#32
  let v1645 : BitVec 32 := Scalar.addi v663 c17_i32
  let c6_i32_1051 : BitVec 32 := 6#32
  let v1646 : BitVec 32 := Scalar.addi v1645 c6_i32_1051
  let v1647 : Index := Scalar.indexCast v1646
  ![v1647.toNat]
def k0_off162 (v1648 : BitVec 32) : Fin 5 → Nat :=
  let c0_1052 : Index := 0#32
  let c0_1053 : Index := 0#32
  let v1649 : Index := Scalar.indexCast v1648
  let c0_1054 : Index := 0#32
  let c0_1055 : Index := 0#32
  ![0, 0, v1649.toNat, 0, 0]

def k0_chk81 (v1648 : BitVec 32) : Prop :=
  (∀ a, (k0_off162 v1648) a + S1x1x1x256x128.size a ≤ S1x1x16x256x128.size a)
theorem k0_off162_inb : ∀ (v1648 : BitVec 32) (k0_hw81 : k0_chk81 v1648), ∀ a, (k0_off162 v1648) a + S1x1x1x256x128.size a ≤ S1x1x16x256x128.size a := fun v1648 k0_hw81 => k0_hw81

def k0_off163 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c17_i32 : BitVec 32 := 17#32
  let v1645 : BitVec 32 := Scalar.addi v663 c17_i32
  let c6_i32_1051 : BitVec 32 := 6#32
  let v1646 : BitVec 32 := Scalar.addi v1645 c6_i32_1051
  let v1652 : Index := Scalar.indexCast v1646
  ![v1652.toNat]
def k0_off164 (v1653 : BitVec 32) : Fin 5 → Nat :=
  let c0_1056 : Index := 0#32
  let c0_1057 : Index := 0#32
  let v1654 : Index := Scalar.indexCast v1653
  let c0_1058 : Index := 0#32
  let c0_1059 : Index := 0#32
  ![0, 0, v1654.toNat, 0, 0]

def k0_chk82 (v1653 : BitVec 32) : Prop :=
  (∀ a, (k0_off164 v1653) a + S1x1x1x512x128.size a ≤ S1x1x16x512x128.size a)
theorem k0_off164_inb : ∀ (v1653 : BitVec 32) (k0_hw82 : k0_chk82 v1653), ∀ a, (k0_off164 v1653) a + S1x1x1x512x128.size a ≤ S1x1x16x512x128.size a := fun v1653 k0_hw82 => k0_hw82

def k0_off165 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c17_i32_1064 : BitVec 32 := 17#32
  let v1661 : BitVec 32 := Scalar.addi v663 c17_i32_1064
  let v1662 : Index := Scalar.indexCast v1661
  ![v1662.toNat]
def k0_off166 (v1665 : BitVec 32) : Fin 5 → Nat :=
  let c0_1071 : Index := 0#32
  let c0_1072 : Index := 0#32
  let v1676 : Index := Scalar.indexCast v1665
  let c0_1073 : Index := 0#32
  let c0_1074 : Index := 0#32
  ![0, 0, v1676.toNat, 0, 0]

def k0_chk83 (v1665 : BitVec 32) : Prop :=
  (∀ a, (k0_off166 v1665) a + S1x1x1x128x256.size a ≤ S1x1x16x128x256.size a)
theorem k0_off166_inb : ∀ (v1665 : BitVec 32) (k0_hw83 : k0_chk83 v1665), ∀ a, (k0_off166 v1665) a + S1x1x1x128x256.size a ≤ S1x1x16x128x256.size a := fun v1665 k0_hw83 => k0_hw83

def k0_off167 (v1663 : BitVec 32) : Fin 3 → Nat :=
  let v1680 : Index := Scalar.indexCast v1663
  let c0_1076 : Index := 0#32
  let c0_1077 : Index := 0#32
  ![v1680.toNat, 0, 0]

def k0_off168 (v1663 : BitVec 32) : Fin 3 → Nat :=
  let v1688 : Index := Scalar.indexCast v1663
  let c0_1080 : Index := 0#32
  let c0_1081 : Index := 0#32
  ![v1688.toNat, 0, 0]

def k0_chk84 (v1663 : BitVec 32) : Prop :=
  (∀ a, (k0_off167 v1663) a + S1x1x512.size a ≤ S16x1x512.size a) ∧
  (∀ a, (k0_off168 v1663) a + S1x128x512.size a ≤ S16x128x512.size a)
theorem k0_off167_inb : ∀ (v1663 : BitVec 32) (k0_hw84 : k0_chk84 v1663), ∀ a, (k0_off167 v1663) a + S1x1x512.size a ≤ S16x1x512.size a := fun v1663 k0_hw84 => k0_hw84.1
theorem k0_off168_inb : ∀ (v1663 : BitVec 32) (k0_hw84 : k0_chk84 v1663), ∀ a, (k0_off168 v1663) a + S1x128x512.size a ≤ S16x128x512.size a := fun v1663 k0_hw84 => k0_hw84.2

def k0_off169 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c18_i32 : BitVec 32 := 18#32
  let v1696 : BitVec 32 := Scalar.addi v663 c18_i32
  let c6_i32_1084 : BitVec 32 := 6#32
  let v1697 : BitVec 32 := Scalar.addi v1696 c6_i32_1084
  let v1698 : Index := Scalar.indexCast v1697
  ![v1698.toNat]
def k0_off170 (v1699 : BitVec 32) : Fin 5 → Nat :=
  let c0_1085 : Index := 0#32
  let c0_1086 : Index := 0#32
  let v1700 : Index := Scalar.indexCast v1699
  let c0_1087 : Index := 0#32
  let c0_1088 : Index := 0#32
  ![0, 0, v1700.toNat, 0, 0]

def k0_chk85 (v1699 : BitVec 32) : Prop :=
  (∀ a, (k0_off170 v1699) a + S1x1x1x256x128.size a ≤ S1x1x16x256x128.size a)
theorem k0_off170_inb : ∀ (v1699 : BitVec 32) (k0_hw85 : k0_chk85 v1699), ∀ a, (k0_off170 v1699) a + S1x1x1x256x128.size a ≤ S1x1x16x256x128.size a := fun v1699 k0_hw85 => k0_hw85

def k0_off171 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c18_i32 : BitVec 32 := 18#32
  let v1696 : BitVec 32 := Scalar.addi v663 c18_i32
  let c6_i32_1084 : BitVec 32 := 6#32
  let v1697 : BitVec 32 := Scalar.addi v1696 c6_i32_1084
  let v1703 : Index := Scalar.indexCast v1697
  ![v1703.toNat]
def k0_off172 (v1704 : BitVec 32) : Fin 5 → Nat :=
  let c0_1089 : Index := 0#32
  let c0_1090 : Index := 0#32
  let v1705 : Index := Scalar.indexCast v1704
  let c0_1091 : Index := 0#32
  let c0_1092 : Index := 0#32
  ![0, 0, v1705.toNat, 0, 0]

def k0_chk86 (v1704 : BitVec 32) : Prop :=
  (∀ a, (k0_off172 v1704) a + S1x1x1x512x128.size a ≤ S1x1x16x512x128.size a)
theorem k0_off172_inb : ∀ (v1704 : BitVec 32) (k0_hw86 : k0_chk86 v1704), ∀ a, (k0_off172 v1704) a + S1x1x1x512x128.size a ≤ S1x1x16x512x128.size a := fun v1704 k0_hw86 => k0_hw86

def k0_off173 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c18_i32_1097 : BitVec 32 := 18#32
  let v1712 : BitVec 32 := Scalar.addi v663 c18_i32_1097
  let v1713 : Index := Scalar.indexCast v1712
  ![v1713.toNat]
def k0_off174 (v1716 : BitVec 32) : Fin 5 → Nat :=
  let c0_1104 : Index := 0#32
  let c0_1105 : Index := 0#32
  let v1727 : Index := Scalar.indexCast v1716
  let c0_1106 : Index := 0#32
  let c0_1107 : Index := 0#32
  ![0, 0, v1727.toNat, 0, 0]

def k0_chk87 (v1716 : BitVec 32) : Prop :=
  (∀ a, (k0_off174 v1716) a + S1x1x1x128x256.size a ≤ S1x1x16x128x256.size a)
theorem k0_off174_inb : ∀ (v1716 : BitVec 32) (k0_hw87 : k0_chk87 v1716), ∀ a, (k0_off174 v1716) a + S1x1x1x128x256.size a ≤ S1x1x16x128x256.size a := fun v1716 k0_hw87 => k0_hw87

def k0_off175 (v1714 : BitVec 32) : Fin 3 → Nat :=
  let v1731 : Index := Scalar.indexCast v1714
  let c0_1109 : Index := 0#32
  let c0_1110 : Index := 0#32
  ![v1731.toNat, 0, 0]

def k0_off176 (v1714 : BitVec 32) : Fin 3 → Nat :=
  let v1739 : Index := Scalar.indexCast v1714
  let c0_1113 : Index := 0#32
  let c0_1114 : Index := 0#32
  ![v1739.toNat, 0, 0]

def k0_chk88 (v1714 : BitVec 32) : Prop :=
  (∀ a, (k0_off175 v1714) a + S1x1x512.size a ≤ S16x1x512.size a) ∧
  (∀ a, (k0_off176 v1714) a + S1x128x512.size a ≤ S16x128x512.size a)
theorem k0_off175_inb : ∀ (v1714 : BitVec 32) (k0_hw88 : k0_chk88 v1714), ∀ a, (k0_off175 v1714) a + S1x1x512.size a ≤ S16x1x512.size a := fun v1714 k0_hw88 => k0_hw88.1
theorem k0_off176_inb : ∀ (v1714 : BitVec 32) (k0_hw88 : k0_chk88 v1714), ∀ a, (k0_off176 v1714) a + S1x128x512.size a ≤ S16x128x512.size a := fun v1714 k0_hw88 => k0_hw88.2

def k0_off177 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c19_i32 : BitVec 32 := 19#32
  let v1747 : BitVec 32 := Scalar.addi v663 c19_i32
  let c6_i32_1117 : BitVec 32 := 6#32
  let v1748 : BitVec 32 := Scalar.addi v1747 c6_i32_1117
  let v1749 : Index := Scalar.indexCast v1748
  ![v1749.toNat]
def k0_off178 (v1750 : BitVec 32) : Fin 5 → Nat :=
  let c0_1118 : Index := 0#32
  let c0_1119 : Index := 0#32
  let v1751 : Index := Scalar.indexCast v1750
  let c0_1120 : Index := 0#32
  let c0_1121 : Index := 0#32
  ![0, 0, v1751.toNat, 0, 0]

def k0_chk89 (v1750 : BitVec 32) : Prop :=
  (∀ a, (k0_off178 v1750) a + S1x1x1x256x128.size a ≤ S1x1x16x256x128.size a)
theorem k0_off178_inb : ∀ (v1750 : BitVec 32) (k0_hw89 : k0_chk89 v1750), ∀ a, (k0_off178 v1750) a + S1x1x1x256x128.size a ≤ S1x1x16x256x128.size a := fun v1750 k0_hw89 => k0_hw89

def k0_off179 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c19_i32 : BitVec 32 := 19#32
  let v1747 : BitVec 32 := Scalar.addi v663 c19_i32
  let c6_i32_1117 : BitVec 32 := 6#32
  let v1748 : BitVec 32 := Scalar.addi v1747 c6_i32_1117
  let v1754 : Index := Scalar.indexCast v1748
  ![v1754.toNat]
def k0_off180 (v1755 : BitVec 32) : Fin 5 → Nat :=
  let c0_1122 : Index := 0#32
  let c0_1123 : Index := 0#32
  let v1756 : Index := Scalar.indexCast v1755
  let c0_1124 : Index := 0#32
  let c0_1125 : Index := 0#32
  ![0, 0, v1756.toNat, 0, 0]

def k0_chk90 (v1755 : BitVec 32) : Prop :=
  (∀ a, (k0_off180 v1755) a + S1x1x1x512x128.size a ≤ S1x1x16x512x128.size a)
theorem k0_off180_inb : ∀ (v1755 : BitVec 32) (k0_hw90 : k0_chk90 v1755), ∀ a, (k0_off180 v1755) a + S1x1x1x512x128.size a ≤ S1x1x16x512x128.size a := fun v1755 k0_hw90 => k0_hw90

def k0_off181 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c19_i32_1130 : BitVec 32 := 19#32
  let v1763 : BitVec 32 := Scalar.addi v663 c19_i32_1130
  let v1764 : Index := Scalar.indexCast v1763
  ![v1764.toNat]
def k0_off182 (v1767 : BitVec 32) : Fin 5 → Nat :=
  let c0_1137 : Index := 0#32
  let c0_1138 : Index := 0#32
  let v1778 : Index := Scalar.indexCast v1767
  let c0_1139 : Index := 0#32
  let c0_1140 : Index := 0#32
  ![0, 0, v1778.toNat, 0, 0]

def k0_chk91 (v1767 : BitVec 32) : Prop :=
  (∀ a, (k0_off182 v1767) a + S1x1x1x128x256.size a ≤ S1x1x16x128x256.size a)
theorem k0_off182_inb : ∀ (v1767 : BitVec 32) (k0_hw91 : k0_chk91 v1767), ∀ a, (k0_off182 v1767) a + S1x1x1x128x256.size a ≤ S1x1x16x128x256.size a := fun v1767 k0_hw91 => k0_hw91

def k0_off183 (v1765 : BitVec 32) : Fin 3 → Nat :=
  let v1782 : Index := Scalar.indexCast v1765
  let c0_1142 : Index := 0#32
  let c0_1143 : Index := 0#32
  ![v1782.toNat, 0, 0]

def k0_off184 (v1765 : BitVec 32) : Fin 3 → Nat :=
  let v1790 : Index := Scalar.indexCast v1765
  let c0_1146 : Index := 0#32
  let c0_1147 : Index := 0#32
  ![v1790.toNat, 0, 0]

def k0_chk92 (v1765 : BitVec 32) : Prop :=
  (∀ a, (k0_off183 v1765) a + S1x1x512.size a ≤ S16x1x512.size a) ∧
  (∀ a, (k0_off184 v1765) a + S1x128x512.size a ≤ S16x128x512.size a)
theorem k0_off183_inb : ∀ (v1765 : BitVec 32) (k0_hw92 : k0_chk92 v1765), ∀ a, (k0_off183 v1765) a + S1x1x512.size a ≤ S16x1x512.size a := fun v1765 k0_hw92 => k0_hw92.1
theorem k0_off184_inb : ∀ (v1765 : BitVec 32) (k0_hw92 : k0_chk92 v1765), ∀ a, (k0_off184 v1765) a + S1x128x512.size a ≤ S16x128x512.size a := fun v1765 k0_hw92 => k0_hw92.2

def k0_off185 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c20_i32 : BitVec 32 := 20#32
  let v1798 : BitVec 32 := Scalar.addi v663 c20_i32
  let c6_i32_1150 : BitVec 32 := 6#32
  let v1799 : BitVec 32 := Scalar.addi v1798 c6_i32_1150
  let v1800 : Index := Scalar.indexCast v1799
  ![v1800.toNat]
def k0_off186 (v1801 : BitVec 32) : Fin 5 → Nat :=
  let c0_1151 : Index := 0#32
  let c0_1152 : Index := 0#32
  let v1802 : Index := Scalar.indexCast v1801
  let c0_1153 : Index := 0#32
  let c0_1154 : Index := 0#32
  ![0, 0, v1802.toNat, 0, 0]

def k0_chk93 (v1801 : BitVec 32) : Prop :=
  (∀ a, (k0_off186 v1801) a + S1x1x1x256x128.size a ≤ S1x1x16x256x128.size a)
theorem k0_off186_inb : ∀ (v1801 : BitVec 32) (k0_hw93 : k0_chk93 v1801), ∀ a, (k0_off186 v1801) a + S1x1x1x256x128.size a ≤ S1x1x16x256x128.size a := fun v1801 k0_hw93 => k0_hw93

def k0_off187 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c20_i32 : BitVec 32 := 20#32
  let v1798 : BitVec 32 := Scalar.addi v663 c20_i32
  let c6_i32_1150 : BitVec 32 := 6#32
  let v1799 : BitVec 32 := Scalar.addi v1798 c6_i32_1150
  let v1805 : Index := Scalar.indexCast v1799
  ![v1805.toNat]
def k0_off188 (v1806 : BitVec 32) : Fin 5 → Nat :=
  let c0_1155 : Index := 0#32
  let c0_1156 : Index := 0#32
  let v1807 : Index := Scalar.indexCast v1806
  let c0_1157 : Index := 0#32
  let c0_1158 : Index := 0#32
  ![0, 0, v1807.toNat, 0, 0]

def k0_chk94 (v1806 : BitVec 32) : Prop :=
  (∀ a, (k0_off188 v1806) a + S1x1x1x512x128.size a ≤ S1x1x16x512x128.size a)
theorem k0_off188_inb : ∀ (v1806 : BitVec 32) (k0_hw94 : k0_chk94 v1806), ∀ a, (k0_off188 v1806) a + S1x1x1x512x128.size a ≤ S1x1x16x512x128.size a := fun v1806 k0_hw94 => k0_hw94

def k0_off189 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c20_i32_1163 : BitVec 32 := 20#32
  let v1814 : BitVec 32 := Scalar.addi v663 c20_i32_1163
  let v1815 : Index := Scalar.indexCast v1814
  ![v1815.toNat]
def k0_off190 (v1818 : BitVec 32) : Fin 5 → Nat :=
  let c0_1170 : Index := 0#32
  let c0_1171 : Index := 0#32
  let v1829 : Index := Scalar.indexCast v1818
  let c0_1172 : Index := 0#32
  let c0_1173 : Index := 0#32
  ![0, 0, v1829.toNat, 0, 0]

def k0_chk95 (v1818 : BitVec 32) : Prop :=
  (∀ a, (k0_off190 v1818) a + S1x1x1x128x256.size a ≤ S1x1x16x128x256.size a)
theorem k0_off190_inb : ∀ (v1818 : BitVec 32) (k0_hw95 : k0_chk95 v1818), ∀ a, (k0_off190 v1818) a + S1x1x1x128x256.size a ≤ S1x1x16x128x256.size a := fun v1818 k0_hw95 => k0_hw95

def k0_off191 (v1816 : BitVec 32) : Fin 3 → Nat :=
  let v1833 : Index := Scalar.indexCast v1816
  let c0_1175 : Index := 0#32
  let c0_1176 : Index := 0#32
  ![v1833.toNat, 0, 0]

def k0_off192 (v1816 : BitVec 32) : Fin 3 → Nat :=
  let v1841 : Index := Scalar.indexCast v1816
  let c0_1179 : Index := 0#32
  let c0_1180 : Index := 0#32
  ![v1841.toNat, 0, 0]

def k0_chk96 (v1816 : BitVec 32) : Prop :=
  (∀ a, (k0_off191 v1816) a + S1x1x512.size a ≤ S16x1x512.size a) ∧
  (∀ a, (k0_off192 v1816) a + S1x128x512.size a ≤ S16x128x512.size a)
theorem k0_off191_inb : ∀ (v1816 : BitVec 32) (k0_hw96 : k0_chk96 v1816), ∀ a, (k0_off191 v1816) a + S1x1x512.size a ≤ S16x1x512.size a := fun v1816 k0_hw96 => k0_hw96.1
theorem k0_off192_inb : ∀ (v1816 : BitVec 32) (k0_hw96 : k0_chk96 v1816), ∀ a, (k0_off192 v1816) a + S1x128x512.size a ≤ S16x128x512.size a := fun v1816 k0_hw96 => k0_hw96.2

def k0_off193 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c21_i32 : BitVec 32 := 21#32
  let v1849 : BitVec 32 := Scalar.addi v663 c21_i32
  let c6_i32_1183 : BitVec 32 := 6#32
  let v1850 : BitVec 32 := Scalar.addi v1849 c6_i32_1183
  let v1851 : Index := Scalar.indexCast v1850
  ![v1851.toNat]
def k0_off194 (v1852 : BitVec 32) : Fin 5 → Nat :=
  let c0_1184 : Index := 0#32
  let c0_1185 : Index := 0#32
  let v1853 : Index := Scalar.indexCast v1852
  let c0_1186 : Index := 0#32
  let c0_1187 : Index := 0#32
  ![0, 0, v1853.toNat, 0, 0]

def k0_chk97 (v1852 : BitVec 32) : Prop :=
  (∀ a, (k0_off194 v1852) a + S1x1x1x256x128.size a ≤ S1x1x16x256x128.size a)
theorem k0_off194_inb : ∀ (v1852 : BitVec 32) (k0_hw97 : k0_chk97 v1852), ∀ a, (k0_off194 v1852) a + S1x1x1x256x128.size a ≤ S1x1x16x256x128.size a := fun v1852 k0_hw97 => k0_hw97

def k0_off195 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c21_i32 : BitVec 32 := 21#32
  let v1849 : BitVec 32 := Scalar.addi v663 c21_i32
  let c6_i32_1183 : BitVec 32 := 6#32
  let v1850 : BitVec 32 := Scalar.addi v1849 c6_i32_1183
  let v1856 : Index := Scalar.indexCast v1850
  ![v1856.toNat]
def k0_off196 (v1857 : BitVec 32) : Fin 5 → Nat :=
  let c0_1188 : Index := 0#32
  let c0_1189 : Index := 0#32
  let v1858 : Index := Scalar.indexCast v1857
  let c0_1190 : Index := 0#32
  let c0_1191 : Index := 0#32
  ![0, 0, v1858.toNat, 0, 0]

def k0_chk98 (v1857 : BitVec 32) : Prop :=
  (∀ a, (k0_off196 v1857) a + S1x1x1x512x128.size a ≤ S1x1x16x512x128.size a)
theorem k0_off196_inb : ∀ (v1857 : BitVec 32) (k0_hw98 : k0_chk98 v1857), ∀ a, (k0_off196 v1857) a + S1x1x1x512x128.size a ≤ S1x1x16x512x128.size a := fun v1857 k0_hw98 => k0_hw98

def k0_off197 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c21_i32_1196 : BitVec 32 := 21#32
  let v1865 : BitVec 32 := Scalar.addi v663 c21_i32_1196
  let v1866 : Index := Scalar.indexCast v1865
  ![v1866.toNat]
def k0_off198 (v1869 : BitVec 32) : Fin 5 → Nat :=
  let c0_1203 : Index := 0#32
  let c0_1204 : Index := 0#32
  let v1880 : Index := Scalar.indexCast v1869
  let c0_1205 : Index := 0#32
  let c0_1206 : Index := 0#32
  ![0, 0, v1880.toNat, 0, 0]

def k0_chk99 (v1869 : BitVec 32) : Prop :=
  (∀ a, (k0_off198 v1869) a + S1x1x1x128x256.size a ≤ S1x1x16x128x256.size a)
theorem k0_off198_inb : ∀ (v1869 : BitVec 32) (k0_hw99 : k0_chk99 v1869), ∀ a, (k0_off198 v1869) a + S1x1x1x128x256.size a ≤ S1x1x16x128x256.size a := fun v1869 k0_hw99 => k0_hw99

def k0_off199 (v1867 : BitVec 32) : Fin 3 → Nat :=
  let v1884 : Index := Scalar.indexCast v1867
  let c0_1208 : Index := 0#32
  let c0_1209 : Index := 0#32
  ![v1884.toNat, 0, 0]

def k0_off200 (v1867 : BitVec 32) : Fin 3 → Nat :=
  let v1892 : Index := Scalar.indexCast v1867
  let c0_1212 : Index := 0#32
  let c0_1213 : Index := 0#32
  ![v1892.toNat, 0, 0]

def k0_chk100 (v1867 : BitVec 32) : Prop :=
  (∀ a, (k0_off199 v1867) a + S1x1x512.size a ≤ S16x1x512.size a) ∧
  (∀ a, (k0_off200 v1867) a + S1x128x512.size a ≤ S16x128x512.size a)
theorem k0_off199_inb : ∀ (v1867 : BitVec 32) (k0_hw100 : k0_chk100 v1867), ∀ a, (k0_off199 v1867) a + S1x1x512.size a ≤ S16x1x512.size a := fun v1867 k0_hw100 => k0_hw100.1
theorem k0_off200_inb : ∀ (v1867 : BitVec 32) (k0_hw100 : k0_chk100 v1867), ∀ a, (k0_off200 v1867) a + S1x128x512.size a ≤ S16x128x512.size a := fun v1867 k0_hw100 => k0_hw100.2

def k0_off201 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c22_i32 : BitVec 32 := 22#32
  let v1900 : BitVec 32 := Scalar.addi v663 c22_i32
  let c6_i32_1216 : BitVec 32 := 6#32
  let v1901 : BitVec 32 := Scalar.addi v1900 c6_i32_1216
  let v1902 : Index := Scalar.indexCast v1901
  ![v1902.toNat]
def k0_off202 (v1903 : BitVec 32) : Fin 5 → Nat :=
  let c0_1217 : Index := 0#32
  let c0_1218 : Index := 0#32
  let v1904 : Index := Scalar.indexCast v1903
  let c0_1219 : Index := 0#32
  let c0_1220 : Index := 0#32
  ![0, 0, v1904.toNat, 0, 0]

def k0_chk101 (v1903 : BitVec 32) : Prop :=
  (∀ a, (k0_off202 v1903) a + S1x1x1x256x128.size a ≤ S1x1x16x256x128.size a)
theorem k0_off202_inb : ∀ (v1903 : BitVec 32) (k0_hw101 : k0_chk101 v1903), ∀ a, (k0_off202 v1903) a + S1x1x1x256x128.size a ≤ S1x1x16x256x128.size a := fun v1903 k0_hw101 => k0_hw101

def k0_off203 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c22_i32 : BitVec 32 := 22#32
  let v1900 : BitVec 32 := Scalar.addi v663 c22_i32
  let c6_i32_1216 : BitVec 32 := 6#32
  let v1901 : BitVec 32 := Scalar.addi v1900 c6_i32_1216
  let v1907 : Index := Scalar.indexCast v1901
  ![v1907.toNat]
def k0_off204 (v1908 : BitVec 32) : Fin 5 → Nat :=
  let c0_1221 : Index := 0#32
  let c0_1222 : Index := 0#32
  let v1909 : Index := Scalar.indexCast v1908
  let c0_1223 : Index := 0#32
  let c0_1224 : Index := 0#32
  ![0, 0, v1909.toNat, 0, 0]

def k0_chk102 (v1908 : BitVec 32) : Prop :=
  (∀ a, (k0_off204 v1908) a + S1x1x1x512x128.size a ≤ S1x1x16x512x128.size a)
theorem k0_off204_inb : ∀ (v1908 : BitVec 32) (k0_hw102 : k0_chk102 v1908), ∀ a, (k0_off204 v1908) a + S1x1x1x512x128.size a ≤ S1x1x16x512x128.size a := fun v1908 k0_hw102 => k0_hw102

def k0_off205 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c22_i32_1229 : BitVec 32 := 22#32
  let v1916 : BitVec 32 := Scalar.addi v663 c22_i32_1229
  let v1917 : Index := Scalar.indexCast v1916
  ![v1917.toNat]
def k0_off206 (v1920 : BitVec 32) : Fin 5 → Nat :=
  let c0_1236 : Index := 0#32
  let c0_1237 : Index := 0#32
  let v1931 : Index := Scalar.indexCast v1920
  let c0_1238 : Index := 0#32
  let c0_1239 : Index := 0#32
  ![0, 0, v1931.toNat, 0, 0]

def k0_chk103 (v1920 : BitVec 32) : Prop :=
  (∀ a, (k0_off206 v1920) a + S1x1x1x128x256.size a ≤ S1x1x16x128x256.size a)
theorem k0_off206_inb : ∀ (v1920 : BitVec 32) (k0_hw103 : k0_chk103 v1920), ∀ a, (k0_off206 v1920) a + S1x1x1x128x256.size a ≤ S1x1x16x128x256.size a := fun v1920 k0_hw103 => k0_hw103

def k0_off207 (v1918 : BitVec 32) : Fin 3 → Nat :=
  let v1935 : Index := Scalar.indexCast v1918
  let c0_1241 : Index := 0#32
  let c0_1242 : Index := 0#32
  ![v1935.toNat, 0, 0]

def k0_off208 (v1918 : BitVec 32) : Fin 3 → Nat :=
  let v1943 : Index := Scalar.indexCast v1918
  let c0_1245 : Index := 0#32
  let c0_1246 : Index := 0#32
  ![v1943.toNat, 0, 0]

def k0_chk104 (v1918 : BitVec 32) : Prop :=
  (∀ a, (k0_off207 v1918) a + S1x1x512.size a ≤ S16x1x512.size a) ∧
  (∀ a, (k0_off208 v1918) a + S1x128x512.size a ≤ S16x128x512.size a)
theorem k0_off207_inb : ∀ (v1918 : BitVec 32) (k0_hw104 : k0_chk104 v1918), ∀ a, (k0_off207 v1918) a + S1x1x512.size a ≤ S16x1x512.size a := fun v1918 k0_hw104 => k0_hw104.1
theorem k0_off208_inb : ∀ (v1918 : BitVec 32) (k0_hw104 : k0_chk104 v1918), ∀ a, (k0_off208 v1918) a + S1x128x512.size a ≤ S16x128x512.size a := fun v1918 k0_hw104 => k0_hw104.2

def k0_off209 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c23_i32 : BitVec 32 := 23#32
  let v1951 : BitVec 32 := Scalar.addi v663 c23_i32
  let c6_i32_1249 : BitVec 32 := 6#32
  let v1952 : BitVec 32 := Scalar.addi v1951 c6_i32_1249
  let v1953 : Index := Scalar.indexCast v1952
  ![v1953.toNat]
def k0_off210 (v1954 : BitVec 32) : Fin 5 → Nat :=
  let c0_1250 : Index := 0#32
  let c0_1251 : Index := 0#32
  let v1955 : Index := Scalar.indexCast v1954
  let c0_1252 : Index := 0#32
  let c0_1253 : Index := 0#32
  ![0, 0, v1955.toNat, 0, 0]

def k0_chk105 (v1954 : BitVec 32) : Prop :=
  (∀ a, (k0_off210 v1954) a + S1x1x1x256x128.size a ≤ S1x1x16x256x128.size a)
theorem k0_off210_inb : ∀ (v1954 : BitVec 32) (k0_hw105 : k0_chk105 v1954), ∀ a, (k0_off210 v1954) a + S1x1x1x256x128.size a ≤ S1x1x16x256x128.size a := fun v1954 k0_hw105 => k0_hw105

def k0_off211 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c23_i32 : BitVec 32 := 23#32
  let v1951 : BitVec 32 := Scalar.addi v663 c23_i32
  let c6_i32_1249 : BitVec 32 := 6#32
  let v1952 : BitVec 32 := Scalar.addi v1951 c6_i32_1249
  let v1958 : Index := Scalar.indexCast v1952
  ![v1958.toNat]
def k0_off212 (v1959 : BitVec 32) : Fin 5 → Nat :=
  let c0_1254 : Index := 0#32
  let c0_1255 : Index := 0#32
  let v1960 : Index := Scalar.indexCast v1959
  let c0_1256 : Index := 0#32
  let c0_1257 : Index := 0#32
  ![0, 0, v1960.toNat, 0, 0]

def k0_chk106 (v1959 : BitVec 32) : Prop :=
  (∀ a, (k0_off212 v1959) a + S1x1x1x512x128.size a ≤ S1x1x16x512x128.size a)
theorem k0_off212_inb : ∀ (v1959 : BitVec 32) (k0_hw106 : k0_chk106 v1959), ∀ a, (k0_off212 v1959) a + S1x1x1x512x128.size a ≤ S1x1x16x512x128.size a := fun v1959 k0_hw106 => k0_hw106

def k0_off213 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c23_i32_1262 : BitVec 32 := 23#32
  let v1967 : BitVec 32 := Scalar.addi v663 c23_i32_1262
  let v1968 : Index := Scalar.indexCast v1967
  ![v1968.toNat]
def k0_off214 (v1971 : BitVec 32) : Fin 5 → Nat :=
  let c0_1269 : Index := 0#32
  let c0_1270 : Index := 0#32
  let v1982 : Index := Scalar.indexCast v1971
  let c0_1271 : Index := 0#32
  let c0_1272 : Index := 0#32
  ![0, 0, v1982.toNat, 0, 0]

def k0_chk107 (v1971 : BitVec 32) : Prop :=
  (∀ a, (k0_off214 v1971) a + S1x1x1x128x256.size a ≤ S1x1x16x128x256.size a)
theorem k0_off214_inb : ∀ (v1971 : BitVec 32) (k0_hw107 : k0_chk107 v1971), ∀ a, (k0_off214 v1971) a + S1x1x1x128x256.size a ≤ S1x1x16x128x256.size a := fun v1971 k0_hw107 => k0_hw107

def k0_off215 (v1969 : BitVec 32) : Fin 3 → Nat :=
  let v1986 : Index := Scalar.indexCast v1969
  let c0_1274 : Index := 0#32
  let c0_1275 : Index := 0#32
  ![v1986.toNat, 0, 0]

def k0_off216 (v1969 : BitVec 32) : Fin 3 → Nat :=
  let v1994 : Index := Scalar.indexCast v1969
  let c0_1278 : Index := 0#32
  let c0_1279 : Index := 0#32
  ![v1994.toNat, 0, 0]

def k0_chk108 (v1969 : BitVec 32) : Prop :=
  (∀ a, (k0_off215 v1969) a + S1x1x512.size a ≤ S16x1x512.size a) ∧
  (∀ a, (k0_off216 v1969) a + S1x128x512.size a ≤ S16x128x512.size a)
theorem k0_off215_inb : ∀ (v1969 : BitVec 32) (k0_hw108 : k0_chk108 v1969), ∀ a, (k0_off215 v1969) a + S1x1x512.size a ≤ S16x1x512.size a := fun v1969 k0_hw108 => k0_hw108.1
theorem k0_off216_inb : ∀ (v1969 : BitVec 32) (k0_hw108 : k0_chk108 v1969), ∀ a, (k0_off216 v1969) a + S1x128x512.size a ≤ S16x128x512.size a := fun v1969 k0_hw108 => k0_hw108.2

def k0_off217 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c24_i32 : BitVec 32 := 24#32
  let v2002 : BitVec 32 := Scalar.addi v663 c24_i32
  let c6_i32_1282 : BitVec 32 := 6#32
  let v2003 : BitVec 32 := Scalar.addi v2002 c6_i32_1282
  let v2004 : Index := Scalar.indexCast v2003
  ![v2004.toNat]
def k0_off218 (v2005 : BitVec 32) : Fin 5 → Nat :=
  let c0_1283 : Index := 0#32
  let c0_1284 : Index := 0#32
  let v2006 : Index := Scalar.indexCast v2005
  let c0_1285 : Index := 0#32
  let c0_1286 : Index := 0#32
  ![0, 0, v2006.toNat, 0, 0]

def k0_chk109 (v2005 : BitVec 32) : Prop :=
  (∀ a, (k0_off218 v2005) a + S1x1x1x256x128.size a ≤ S1x1x16x256x128.size a)
theorem k0_off218_inb : ∀ (v2005 : BitVec 32) (k0_hw109 : k0_chk109 v2005), ∀ a, (k0_off218 v2005) a + S1x1x1x256x128.size a ≤ S1x1x16x256x128.size a := fun v2005 k0_hw109 => k0_hw109

def k0_off219 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c24_i32 : BitVec 32 := 24#32
  let v2002 : BitVec 32 := Scalar.addi v663 c24_i32
  let c6_i32_1282 : BitVec 32 := 6#32
  let v2003 : BitVec 32 := Scalar.addi v2002 c6_i32_1282
  let v2009 : Index := Scalar.indexCast v2003
  ![v2009.toNat]
def k0_off220 (v2010 : BitVec 32) : Fin 5 → Nat :=
  let c0_1287 : Index := 0#32
  let c0_1288 : Index := 0#32
  let v2011 : Index := Scalar.indexCast v2010
  let c0_1289 : Index := 0#32
  let c0_1290 : Index := 0#32
  ![0, 0, v2011.toNat, 0, 0]

def k0_chk110 (v2010 : BitVec 32) : Prop :=
  (∀ a, (k0_off220 v2010) a + S1x1x1x512x128.size a ≤ S1x1x16x512x128.size a)
theorem k0_off220_inb : ∀ (v2010 : BitVec 32) (k0_hw110 : k0_chk110 v2010), ∀ a, (k0_off220 v2010) a + S1x1x1x512x128.size a ≤ S1x1x16x512x128.size a := fun v2010 k0_hw110 => k0_hw110

def k0_off221 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c24_i32_1295 : BitVec 32 := 24#32
  let v2018 : BitVec 32 := Scalar.addi v663 c24_i32_1295
  let v2019 : Index := Scalar.indexCast v2018
  ![v2019.toNat]
def k0_off222 (v2022 : BitVec 32) : Fin 5 → Nat :=
  let c0_1302 : Index := 0#32
  let c0_1303 : Index := 0#32
  let v2033 : Index := Scalar.indexCast v2022
  let c0_1304 : Index := 0#32
  let c0_1305 : Index := 0#32
  ![0, 0, v2033.toNat, 0, 0]

def k0_chk111 (v2022 : BitVec 32) : Prop :=
  (∀ a, (k0_off222 v2022) a + S1x1x1x128x256.size a ≤ S1x1x16x128x256.size a)
theorem k0_off222_inb : ∀ (v2022 : BitVec 32) (k0_hw111 : k0_chk111 v2022), ∀ a, (k0_off222 v2022) a + S1x1x1x128x256.size a ≤ S1x1x16x128x256.size a := fun v2022 k0_hw111 => k0_hw111

def k0_off223 (v2020 : BitVec 32) : Fin 3 → Nat :=
  let v2037 : Index := Scalar.indexCast v2020
  let c0_1307 : Index := 0#32
  let c0_1308 : Index := 0#32
  ![v2037.toNat, 0, 0]

def k0_off224 (v2020 : BitVec 32) : Fin 3 → Nat :=
  let v2045 : Index := Scalar.indexCast v2020
  let c0_1311 : Index := 0#32
  let c0_1312 : Index := 0#32
  ![v2045.toNat, 0, 0]

def k0_chk112 (v2020 : BitVec 32) : Prop :=
  (∀ a, (k0_off223 v2020) a + S1x1x512.size a ≤ S16x1x512.size a) ∧
  (∀ a, (k0_off224 v2020) a + S1x128x512.size a ≤ S16x128x512.size a)
theorem k0_off223_inb : ∀ (v2020 : BitVec 32) (k0_hw112 : k0_chk112 v2020), ∀ a, (k0_off223 v2020) a + S1x1x512.size a ≤ S16x1x512.size a := fun v2020 k0_hw112 => k0_hw112.1
theorem k0_off224_inb : ∀ (v2020 : BitVec 32) (k0_hw112 : k0_chk112 v2020), ∀ a, (k0_off224 v2020) a + S1x128x512.size a ≤ S16x128x512.size a := fun v2020 k0_hw112 => k0_hw112.2

def k0_off225 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c25_i32 : BitVec 32 := 25#32
  let v2053 : BitVec 32 := Scalar.addi v663 c25_i32
  let c6_i32_1315 : BitVec 32 := 6#32
  let v2054 : BitVec 32 := Scalar.addi v2053 c6_i32_1315
  let v2055 : Index := Scalar.indexCast v2054
  ![v2055.toNat]
def k0_off226 (v2056 : BitVec 32) : Fin 5 → Nat :=
  let c0_1316 : Index := 0#32
  let c0_1317 : Index := 0#32
  let v2057 : Index := Scalar.indexCast v2056
  let c0_1318 : Index := 0#32
  let c0_1319 : Index := 0#32
  ![0, 0, v2057.toNat, 0, 0]

def k0_chk113 (v2056 : BitVec 32) : Prop :=
  (∀ a, (k0_off226 v2056) a + S1x1x1x256x128.size a ≤ S1x1x16x256x128.size a)
theorem k0_off226_inb : ∀ (v2056 : BitVec 32) (k0_hw113 : k0_chk113 v2056), ∀ a, (k0_off226 v2056) a + S1x1x1x256x128.size a ≤ S1x1x16x256x128.size a := fun v2056 k0_hw113 => k0_hw113

def k0_off227 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c25_i32 : BitVec 32 := 25#32
  let v2053 : BitVec 32 := Scalar.addi v663 c25_i32
  let c6_i32_1315 : BitVec 32 := 6#32
  let v2054 : BitVec 32 := Scalar.addi v2053 c6_i32_1315
  let v2060 : Index := Scalar.indexCast v2054
  ![v2060.toNat]
def k0_off228 (v2061 : BitVec 32) : Fin 5 → Nat :=
  let c0_1320 : Index := 0#32
  let c0_1321 : Index := 0#32
  let v2062 : Index := Scalar.indexCast v2061
  let c0_1322 : Index := 0#32
  let c0_1323 : Index := 0#32
  ![0, 0, v2062.toNat, 0, 0]

def k0_chk114 (v2061 : BitVec 32) : Prop :=
  (∀ a, (k0_off228 v2061) a + S1x1x1x512x128.size a ≤ S1x1x16x512x128.size a)
theorem k0_off228_inb : ∀ (v2061 : BitVec 32) (k0_hw114 : k0_chk114 v2061), ∀ a, (k0_off228 v2061) a + S1x1x1x512x128.size a ≤ S1x1x16x512x128.size a := fun v2061 k0_hw114 => k0_hw114

def k0_off229 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c25_i32_1328 : BitVec 32 := 25#32
  let v2069 : BitVec 32 := Scalar.addi v663 c25_i32_1328
  let v2070 : Index := Scalar.indexCast v2069
  ![v2070.toNat]
def k0_off230 (v2073 : BitVec 32) : Fin 5 → Nat :=
  let c0_1335 : Index := 0#32
  let c0_1336 : Index := 0#32
  let v2084 : Index := Scalar.indexCast v2073
  let c0_1337 : Index := 0#32
  let c0_1338 : Index := 0#32
  ![0, 0, v2084.toNat, 0, 0]

def k0_chk115 (v2073 : BitVec 32) : Prop :=
  (∀ a, (k0_off230 v2073) a + S1x1x1x128x256.size a ≤ S1x1x16x128x256.size a)
theorem k0_off230_inb : ∀ (v2073 : BitVec 32) (k0_hw115 : k0_chk115 v2073), ∀ a, (k0_off230 v2073) a + S1x1x1x128x256.size a ≤ S1x1x16x128x256.size a := fun v2073 k0_hw115 => k0_hw115

def k0_off231 (v2071 : BitVec 32) : Fin 3 → Nat :=
  let v2088 : Index := Scalar.indexCast v2071
  let c0_1340 : Index := 0#32
  let c0_1341 : Index := 0#32
  ![v2088.toNat, 0, 0]

def k0_off232 (v2071 : BitVec 32) : Fin 3 → Nat :=
  let v2096 : Index := Scalar.indexCast v2071
  let c0_1344 : Index := 0#32
  let c0_1345 : Index := 0#32
  ![v2096.toNat, 0, 0]

def k0_chk116 (v2071 : BitVec 32) : Prop :=
  (∀ a, (k0_off231 v2071) a + S1x1x512.size a ≤ S16x1x512.size a) ∧
  (∀ a, (k0_off232 v2071) a + S1x128x512.size a ≤ S16x128x512.size a)
theorem k0_off231_inb : ∀ (v2071 : BitVec 32) (k0_hw116 : k0_chk116 v2071), ∀ a, (k0_off231 v2071) a + S1x1x512.size a ≤ S16x1x512.size a := fun v2071 k0_hw116 => k0_hw116.1
theorem k0_off232_inb : ∀ (v2071 : BitVec 32) (k0_hw116 : k0_chk116 v2071), ∀ a, (k0_off232 v2071) a + S1x128x512.size a ≤ S16x128x512.size a := fun v2071 k0_hw116 => k0_hw116.2

def k0_off233 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c26_i32 : BitVec 32 := 26#32
  let v2104 : BitVec 32 := Scalar.addi v663 c26_i32
  let c6_i32_1348 : BitVec 32 := 6#32
  let v2105 : BitVec 32 := Scalar.addi v2104 c6_i32_1348
  let v2106 : Index := Scalar.indexCast v2105
  ![v2106.toNat]
def k0_off234 (v2107 : BitVec 32) : Fin 5 → Nat :=
  let c0_1349 : Index := 0#32
  let c0_1350 : Index := 0#32
  let v2108 : Index := Scalar.indexCast v2107
  let c0_1351 : Index := 0#32
  let c0_1352 : Index := 0#32
  ![0, 0, v2108.toNat, 0, 0]

def k0_chk117 (v2107 : BitVec 32) : Prop :=
  (∀ a, (k0_off234 v2107) a + S1x1x1x256x128.size a ≤ S1x1x16x256x128.size a)
theorem k0_off234_inb : ∀ (v2107 : BitVec 32) (k0_hw117 : k0_chk117 v2107), ∀ a, (k0_off234 v2107) a + S1x1x1x256x128.size a ≤ S1x1x16x256x128.size a := fun v2107 k0_hw117 => k0_hw117

def k0_off235 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c26_i32 : BitVec 32 := 26#32
  let v2104 : BitVec 32 := Scalar.addi v663 c26_i32
  let c6_i32_1348 : BitVec 32 := 6#32
  let v2105 : BitVec 32 := Scalar.addi v2104 c6_i32_1348
  let v2111 : Index := Scalar.indexCast v2105
  ![v2111.toNat]
def k0_off236 (v2112 : BitVec 32) : Fin 5 → Nat :=
  let c0_1353 : Index := 0#32
  let c0_1354 : Index := 0#32
  let v2113 : Index := Scalar.indexCast v2112
  let c0_1355 : Index := 0#32
  let c0_1356 : Index := 0#32
  ![0, 0, v2113.toNat, 0, 0]

def k0_chk118 (v2112 : BitVec 32) : Prop :=
  (∀ a, (k0_off236 v2112) a + S1x1x1x512x128.size a ≤ S1x1x16x512x128.size a)
theorem k0_off236_inb : ∀ (v2112 : BitVec 32) (k0_hw118 : k0_chk118 v2112), ∀ a, (k0_off236 v2112) a + S1x1x1x512x128.size a ≤ S1x1x16x512x128.size a := fun v2112 k0_hw118 => k0_hw118

def k0_off237 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c26_i32_1361 : BitVec 32 := 26#32
  let v2120 : BitVec 32 := Scalar.addi v663 c26_i32_1361
  let v2121 : Index := Scalar.indexCast v2120
  ![v2121.toNat]
def k0_off238 (v2124 : BitVec 32) : Fin 5 → Nat :=
  let c0_1368 : Index := 0#32
  let c0_1369 : Index := 0#32
  let v2135 : Index := Scalar.indexCast v2124
  let c0_1370 : Index := 0#32
  let c0_1371 : Index := 0#32
  ![0, 0, v2135.toNat, 0, 0]

def k0_chk119 (v2124 : BitVec 32) : Prop :=
  (∀ a, (k0_off238 v2124) a + S1x1x1x128x256.size a ≤ S1x1x16x128x256.size a)
theorem k0_off238_inb : ∀ (v2124 : BitVec 32) (k0_hw119 : k0_chk119 v2124), ∀ a, (k0_off238 v2124) a + S1x1x1x128x256.size a ≤ S1x1x16x128x256.size a := fun v2124 k0_hw119 => k0_hw119

def k0_off239 (v2122 : BitVec 32) : Fin 3 → Nat :=
  let v2139 : Index := Scalar.indexCast v2122
  let c0_1373 : Index := 0#32
  let c0_1374 : Index := 0#32
  ![v2139.toNat, 0, 0]

def k0_off240 (v2122 : BitVec 32) : Fin 3 → Nat :=
  let v2147 : Index := Scalar.indexCast v2122
  let c0_1377 : Index := 0#32
  let c0_1378 : Index := 0#32
  ![v2147.toNat, 0, 0]

def k0_chk120 (v2122 : BitVec 32) : Prop :=
  (∀ a, (k0_off239 v2122) a + S1x1x512.size a ≤ S16x1x512.size a) ∧
  (∀ a, (k0_off240 v2122) a + S1x128x512.size a ≤ S16x128x512.size a)
theorem k0_off239_inb : ∀ (v2122 : BitVec 32) (k0_hw120 : k0_chk120 v2122), ∀ a, (k0_off239 v2122) a + S1x1x512.size a ≤ S16x1x512.size a := fun v2122 k0_hw120 => k0_hw120.1
theorem k0_off240_inb : ∀ (v2122 : BitVec 32) (k0_hw120 : k0_chk120 v2122), ∀ a, (k0_off240 v2122) a + S1x128x512.size a ≤ S16x128x512.size a := fun v2122 k0_hw120 => k0_hw120.2

def k0_off241 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c27_i32 : BitVec 32 := 27#32
  let v2155 : BitVec 32 := Scalar.addi v663 c27_i32
  let c6_i32_1381 : BitVec 32 := 6#32
  let v2156 : BitVec 32 := Scalar.addi v2155 c6_i32_1381
  let v2157 : Index := Scalar.indexCast v2156
  ![v2157.toNat]
def k0_off242 (v2158 : BitVec 32) : Fin 5 → Nat :=
  let c0_1382 : Index := 0#32
  let c0_1383 : Index := 0#32
  let v2159 : Index := Scalar.indexCast v2158
  let c0_1384 : Index := 0#32
  let c0_1385 : Index := 0#32
  ![0, 0, v2159.toNat, 0, 0]

def k0_chk121 (v2158 : BitVec 32) : Prop :=
  (∀ a, (k0_off242 v2158) a + S1x1x1x256x128.size a ≤ S1x1x16x256x128.size a)
theorem k0_off242_inb : ∀ (v2158 : BitVec 32) (k0_hw121 : k0_chk121 v2158), ∀ a, (k0_off242 v2158) a + S1x1x1x256x128.size a ≤ S1x1x16x256x128.size a := fun v2158 k0_hw121 => k0_hw121

def k0_off243 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c27_i32 : BitVec 32 := 27#32
  let v2155 : BitVec 32 := Scalar.addi v663 c27_i32
  let c6_i32_1381 : BitVec 32 := 6#32
  let v2156 : BitVec 32 := Scalar.addi v2155 c6_i32_1381
  let v2162 : Index := Scalar.indexCast v2156
  ![v2162.toNat]
def k0_off244 (v2163 : BitVec 32) : Fin 5 → Nat :=
  let c0_1386 : Index := 0#32
  let c0_1387 : Index := 0#32
  let v2164 : Index := Scalar.indexCast v2163
  let c0_1388 : Index := 0#32
  let c0_1389 : Index := 0#32
  ![0, 0, v2164.toNat, 0, 0]

def k0_chk122 (v2163 : BitVec 32) : Prop :=
  (∀ a, (k0_off244 v2163) a + S1x1x1x512x128.size a ≤ S1x1x16x512x128.size a)
theorem k0_off244_inb : ∀ (v2163 : BitVec 32) (k0_hw122 : k0_chk122 v2163), ∀ a, (k0_off244 v2163) a + S1x1x1x512x128.size a ≤ S1x1x16x512x128.size a := fun v2163 k0_hw122 => k0_hw122

def k0_off245 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c27_i32_1394 : BitVec 32 := 27#32
  let v2171 : BitVec 32 := Scalar.addi v663 c27_i32_1394
  let v2172 : Index := Scalar.indexCast v2171
  ![v2172.toNat]
def k0_off246 (v2175 : BitVec 32) : Fin 5 → Nat :=
  let c0_1401 : Index := 0#32
  let c0_1402 : Index := 0#32
  let v2186 : Index := Scalar.indexCast v2175
  let c0_1403 : Index := 0#32
  let c0_1404 : Index := 0#32
  ![0, 0, v2186.toNat, 0, 0]

def k0_chk123 (v2175 : BitVec 32) : Prop :=
  (∀ a, (k0_off246 v2175) a + S1x1x1x128x256.size a ≤ S1x1x16x128x256.size a)
theorem k0_off246_inb : ∀ (v2175 : BitVec 32) (k0_hw123 : k0_chk123 v2175), ∀ a, (k0_off246 v2175) a + S1x1x1x128x256.size a ≤ S1x1x16x128x256.size a := fun v2175 k0_hw123 => k0_hw123

def k0_off247 (v2173 : BitVec 32) : Fin 3 → Nat :=
  let v2190 : Index := Scalar.indexCast v2173
  let c0_1406 : Index := 0#32
  let c0_1407 : Index := 0#32
  ![v2190.toNat, 0, 0]

def k0_off248 (v2173 : BitVec 32) : Fin 3 → Nat :=
  let v2198 : Index := Scalar.indexCast v2173
  let c0_1410 : Index := 0#32
  let c0_1411 : Index := 0#32
  ![v2198.toNat, 0, 0]

def k0_chk124 (v2173 : BitVec 32) : Prop :=
  (∀ a, (k0_off247 v2173) a + S1x1x512.size a ≤ S16x1x512.size a) ∧
  (∀ a, (k0_off248 v2173) a + S1x128x512.size a ≤ S16x128x512.size a)
theorem k0_off247_inb : ∀ (v2173 : BitVec 32) (k0_hw124 : k0_chk124 v2173), ∀ a, (k0_off247 v2173) a + S1x1x512.size a ≤ S16x1x512.size a := fun v2173 k0_hw124 => k0_hw124.1
theorem k0_off248_inb : ∀ (v2173 : BitVec 32) (k0_hw124 : k0_chk124 v2173), ∀ a, (k0_off248 v2173) a + S1x128x512.size a ≤ S16x128x512.size a := fun v2173 k0_hw124 => k0_hw124.2

def k0_off249 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c28_i32 : BitVec 32 := 28#32
  let v2206 : BitVec 32 := Scalar.addi v663 c28_i32
  let v2207 : Index := Scalar.indexCast v2206
  ![v2207.toNat]
def k0_off250 (v2210 : BitVec 32) : Fin 5 → Nat :=
  let c0_1420 : Index := 0#32
  let c0_1421 : Index := 0#32
  let v2221 : Index := Scalar.indexCast v2210
  let c0_1422 : Index := 0#32
  let c0_1423 : Index := 0#32
  ![0, 0, v2221.toNat, 0, 0]

def k0_chk125 (v2210 : BitVec 32) : Prop :=
  (∀ a, (k0_off250 v2210) a + S1x1x1x128x256.size a ≤ S1x1x16x128x256.size a)
theorem k0_off250_inb : ∀ (v2210 : BitVec 32) (k0_hw125 : k0_chk125 v2210), ∀ a, (k0_off250 v2210) a + S1x1x1x128x256.size a ≤ S1x1x16x128x256.size a := fun v2210 k0_hw125 => k0_hw125

def k0_off251 (v2208 : BitVec 32) : Fin 3 → Nat :=
  let v2225 : Index := Scalar.indexCast v2208
  let c0_1425 : Index := 0#32
  let c0_1426 : Index := 0#32
  ![v2225.toNat, 0, 0]

def k0_off252 (v2208 : BitVec 32) : Fin 3 → Nat :=
  let v2233 : Index := Scalar.indexCast v2208
  let c0_1429 : Index := 0#32
  let c0_1430 : Index := 0#32
  ![v2233.toNat, 0, 0]

def k0_chk126 (v2208 : BitVec 32) : Prop :=
  (∀ a, (k0_off251 v2208) a + S1x1x512.size a ≤ S16x1x512.size a) ∧
  (∀ a, (k0_off252 v2208) a + S1x128x512.size a ≤ S16x128x512.size a)
theorem k0_off251_inb : ∀ (v2208 : BitVec 32) (k0_hw126 : k0_chk126 v2208), ∀ a, (k0_off251 v2208) a + S1x1x512.size a ≤ S16x1x512.size a := fun v2208 k0_hw126 => k0_hw126.1
theorem k0_off252_inb : ∀ (v2208 : BitVec 32) (k0_hw126 : k0_chk126 v2208), ∀ a, (k0_off252 v2208) a + S1x128x512.size a ≤ S16x128x512.size a := fun v2208 k0_hw126 => k0_hw126.2

def k0_off253 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c29_i32 : BitVec 32 := 29#32
  let v2241 : BitVec 32 := Scalar.addi v663 c29_i32
  let v2242 : Index := Scalar.indexCast v2241
  ![v2242.toNat]
def k0_off254 (v2245 : BitVec 32) : Fin 5 → Nat :=
  let c0_1439 : Index := 0#32
  let c0_1440 : Index := 0#32
  let v2256 : Index := Scalar.indexCast v2245
  let c0_1441 : Index := 0#32
  let c0_1442 : Index := 0#32
  ![0, 0, v2256.toNat, 0, 0]

def k0_chk127 (v2245 : BitVec 32) : Prop :=
  (∀ a, (k0_off254 v2245) a + S1x1x1x128x256.size a ≤ S1x1x16x128x256.size a)
theorem k0_off254_inb : ∀ (v2245 : BitVec 32) (k0_hw127 : k0_chk127 v2245), ∀ a, (k0_off254 v2245) a + S1x1x1x128x256.size a ≤ S1x1x16x128x256.size a := fun v2245 k0_hw127 => k0_hw127

def k0_off255 (v2243 : BitVec 32) : Fin 3 → Nat :=
  let v2260 : Index := Scalar.indexCast v2243
  let c0_1444 : Index := 0#32
  let c0_1445 : Index := 0#32
  ![v2260.toNat, 0, 0]

def k0_off256 (v2243 : BitVec 32) : Fin 3 → Nat :=
  let v2268 : Index := Scalar.indexCast v2243
  let c0_1448 : Index := 0#32
  let c0_1449 : Index := 0#32
  ![v2268.toNat, 0, 0]

def k0_chk128 (v2243 : BitVec 32) : Prop :=
  (∀ a, (k0_off255 v2243) a + S1x1x512.size a ≤ S16x1x512.size a) ∧
  (∀ a, (k0_off256 v2243) a + S1x128x512.size a ≤ S16x128x512.size a)
theorem k0_off255_inb : ∀ (v2243 : BitVec 32) (k0_hw128 : k0_chk128 v2243), ∀ a, (k0_off255 v2243) a + S1x1x512.size a ≤ S16x1x512.size a := fun v2243 k0_hw128 => k0_hw128.1
theorem k0_off256_inb : ∀ (v2243 : BitVec 32) (k0_hw128 : k0_chk128 v2243), ∀ a, (k0_off256 v2243) a + S1x128x512.size a ≤ S16x128x512.size a := fun v2243 k0_hw128 => k0_hw128.2

def k0_off257 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c30_i32 : BitVec 32 := 30#32
  let v2276 : BitVec 32 := Scalar.addi v663 c30_i32
  let v2277 : Index := Scalar.indexCast v2276
  ![v2277.toNat]
def k0_off258 (v2280 : BitVec 32) : Fin 5 → Nat :=
  let c0_1458 : Index := 0#32
  let c0_1459 : Index := 0#32
  let v2291 : Index := Scalar.indexCast v2280
  let c0_1460 : Index := 0#32
  let c0_1461 : Index := 0#32
  ![0, 0, v2291.toNat, 0, 0]

def k0_chk129 (v2280 : BitVec 32) : Prop :=
  (∀ a, (k0_off258 v2280) a + S1x1x1x128x256.size a ≤ S1x1x16x128x256.size a)
theorem k0_off258_inb : ∀ (v2280 : BitVec 32) (k0_hw129 : k0_chk129 v2280), ∀ a, (k0_off258 v2280) a + S1x1x1x128x256.size a ≤ S1x1x16x128x256.size a := fun v2280 k0_hw129 => k0_hw129

def k0_off259 (v2278 : BitVec 32) : Fin 3 → Nat :=
  let v2295 : Index := Scalar.indexCast v2278
  let c0_1463 : Index := 0#32
  let c0_1464 : Index := 0#32
  ![v2295.toNat, 0, 0]

def k0_off260 (v2278 : BitVec 32) : Fin 3 → Nat :=
  let v2303 : Index := Scalar.indexCast v2278
  let c0_1467 : Index := 0#32
  let c0_1468 : Index := 0#32
  ![v2303.toNat, 0, 0]

def k0_chk130 (v2278 : BitVec 32) : Prop :=
  (∀ a, (k0_off259 v2278) a + S1x1x512.size a ≤ S16x1x512.size a) ∧
  (∀ a, (k0_off260 v2278) a + S1x128x512.size a ≤ S16x128x512.size a)
theorem k0_off259_inb : ∀ (v2278 : BitVec 32) (k0_hw130 : k0_chk130 v2278), ∀ a, (k0_off259 v2278) a + S1x1x512.size a ≤ S16x1x512.size a := fun v2278 k0_hw130 => k0_hw130.1
theorem k0_off260_inb : ∀ (v2278 : BitVec 32) (k0_hw130 : k0_chk130 v2278), ∀ a, (k0_off260 v2278) a + S1x128x512.size a ≤ S16x128x512.size a := fun v2278 k0_hw130 => k0_hw130.2

def k0_off261 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c31_i32 : BitVec 32 := 31#32
  let v2311 : BitVec 32 := Scalar.addi v663 c31_i32
  let v2312 : Index := Scalar.indexCast v2311
  ![v2312.toNat]
def k0_off262 (v2315 : BitVec 32) : Fin 5 → Nat :=
  let c0_1477 : Index := 0#32
  let c0_1478 : Index := 0#32
  let v2326 : Index := Scalar.indexCast v2315
  let c0_1479 : Index := 0#32
  let c0_1480 : Index := 0#32
  ![0, 0, v2326.toNat, 0, 0]

def k0_chk131 (v2315 : BitVec 32) : Prop :=
  (∀ a, (k0_off262 v2315) a + S1x1x1x128x256.size a ≤ S1x1x16x128x256.size a)
theorem k0_off262_inb : ∀ (v2315 : BitVec 32) (k0_hw131 : k0_chk131 v2315), ∀ a, (k0_off262 v2315) a + S1x1x1x128x256.size a ≤ S1x1x16x128x256.size a := fun v2315 k0_hw131 => k0_hw131

def k0_off263 (v2313 : BitVec 32) : Fin 3 → Nat :=
  let v2330 : Index := Scalar.indexCast v2313
  let c0_1482 : Index := 0#32
  let c0_1483 : Index := 0#32
  ![v2330.toNat, 0, 0]

def k0_off264 (v2313 : BitVec 32) : Fin 3 → Nat :=
  let v2338 : Index := Scalar.indexCast v2313
  let c0_1486 : Index := 0#32
  let c0_1487 : Index := 0#32
  ![v2338.toNat, 0, 0]

def k0_chk132 (v2313 : BitVec 32) : Prop :=
  (∀ a, (k0_off263 v2313) a + S1x1x512.size a ≤ S16x1x512.size a) ∧
  (∀ a, (k0_off264 v2313) a + S1x128x512.size a ≤ S16x128x512.size a)
theorem k0_off263_inb : ∀ (v2313 : BitVec 32) (k0_hw132 : k0_chk132 v2313), ∀ a, (k0_off263 v2313) a + S1x1x512.size a ≤ S16x1x512.size a := fun v2313 k0_hw132 => k0_hw132.1
theorem k0_off264_inb : ∀ (v2313 : BitVec 32) (k0_hw132 : k0_chk132 v2313), ∀ a, (k0_off264 v2313) a + S1x128x512.size a ≤ S16x128x512.size a := fun v2313 k0_hw132 => k0_hw132.2

def k0_off265 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c32_i32 : BitVec 32 := 32#32
  let v2346 : BitVec 32 := Scalar.addi v663 c32_i32
  let v2347 : Index := Scalar.indexCast v2346
  ![v2347.toNat]
def k0_off266 (v2350 : BitVec 32) : Fin 5 → Nat :=
  let c0_1496 : Index := 0#32
  let c0_1497 : Index := 0#32
  let v2361 : Index := Scalar.indexCast v2350
  let c0_1498 : Index := 0#32
  let c0_1499 : Index := 0#32
  ![0, 0, v2361.toNat, 0, 0]

def k0_chk133 (v2350 : BitVec 32) : Prop :=
  (∀ a, (k0_off266 v2350) a + S1x1x1x128x256.size a ≤ S1x1x16x128x256.size a)
theorem k0_off266_inb : ∀ (v2350 : BitVec 32) (k0_hw133 : k0_chk133 v2350), ∀ a, (k0_off266 v2350) a + S1x1x1x128x256.size a ≤ S1x1x16x128x256.size a := fun v2350 k0_hw133 => k0_hw133

def k0_off267 (v2348 : BitVec 32) : Fin 3 → Nat :=
  let v2365 : Index := Scalar.indexCast v2348
  let c0_1501 : Index := 0#32
  let c0_1502 : Index := 0#32
  ![v2365.toNat, 0, 0]

def k0_off268 (v2348 : BitVec 32) : Fin 3 → Nat :=
  let v2373 : Index := Scalar.indexCast v2348
  let c0_1505 : Index := 0#32
  let c0_1506 : Index := 0#32
  ![v2373.toNat, 0, 0]

def k0_chk134 (v2348 : BitVec 32) : Prop :=
  (∀ a, (k0_off267 v2348) a + S1x1x512.size a ≤ S16x1x512.size a) ∧
  (∀ a, (k0_off268 v2348) a + S1x128x512.size a ≤ S16x128x512.size a)
theorem k0_off267_inb : ∀ (v2348 : BitVec 32) (k0_hw134 : k0_chk134 v2348), ∀ a, (k0_off267 v2348) a + S1x1x512.size a ≤ S16x1x512.size a := fun v2348 k0_hw134 => k0_hw134.1
theorem k0_off268_inb : ∀ (v2348 : BitVec 32) (k0_hw134 : k0_chk134 v2348), ∀ a, (k0_off268 v2348) a + S1x128x512.size a ≤ S16x128x512.size a := fun v2348 k0_hw134 => k0_hw134.2

def k0_off269 (k0_t1 : Fin k0_t1_loop.trips) : Fin 1 → Nat :=
  let c0_i32 : BitVec 32 := 0#32
  let c1_i32 : BitVec 32 := 1#32
  let arg16 : BitVec 32 := Scf.iv c0_i32 c1_i32 k0_t1
  let c34_i32 : BitVec 32 := 34#32
  let v663 : BitVec 32 := Scalar.muli arg16 c34_i32
  let c33_i32 : BitVec 32 := 33#32
  let v2381 : BitVec 32 := Scalar.addi v663 c33_i32
  let v2382 : Index := Scalar.indexCast v2381
  ![v2382.toNat]
def k0_off270 (v2385 : BitVec 32) : Fin 5 → Nat :=
  let c0_1515 : Index := 0#32
  let c0_1516 : Index := 0#32
  let v2396 : Index := Scalar.indexCast v2385
  let c0_1517 : Index := 0#32
  let c0_1518 : Index := 0#32
  ![0, 0, v2396.toNat, 0, 0]

def k0_chk135 (v2385 : BitVec 32) : Prop :=
  (∀ a, (k0_off270 v2385) a + S1x1x1x128x256.size a ≤ S1x1x16x128x256.size a)
theorem k0_off270_inb : ∀ (v2385 : BitVec 32) (k0_hw135 : k0_chk135 v2385), ∀ a, (k0_off270 v2385) a + S1x1x1x128x256.size a ≤ S1x1x16x128x256.size a := fun v2385 k0_hw135 => k0_hw135

def k0_off271 (v2383 : BitVec 32) : Fin 3 → Nat :=
  let v2400 : Index := Scalar.indexCast v2383
  let c0_1520 : Index := 0#32
  let c0_1521 : Index := 0#32
  ![v2400.toNat, 0, 0]

def k0_off272 (v2383 : BitVec 32) : Fin 3 → Nat :=
  let v2408 : Index := Scalar.indexCast v2383
  let c0_1524 : Index := 0#32
  let c0_1525 : Index := 0#32
  ![v2408.toNat, 0, 0]

def k0_chk136 (v2383 : BitVec 32) : Prop :=
  (∀ a, (k0_off271 v2383) a + S1x1x512.size a ≤ S16x1x512.size a) ∧
  (∀ a, (k0_off272 v2383) a + S1x128x512.size a ≤ S16x128x512.size a)
theorem k0_off271_inb : ∀ (v2383 : BitVec 32) (k0_hw136 : k0_chk136 v2383), ∀ a, (k0_off271 v2383) a + S1x1x512.size a ≤ S16x1x512.size a := fun v2383 k0_hw136 => k0_hw136.1
theorem k0_off272_inb : ∀ (v2383 : BitVec 32) (k0_hw136 : k0_chk136 v2383), ∀ a, (k0_off272 v2383) a + S1x128x512.size a ≤ S16x128x512.size a := fun v2383 k0_hw136 => k0_hw136.2

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  ![arg0.toNat, v0.toNat, c0_i32_0.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  ![arg0.toNat, v0.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  ![arg0.toNat, v0.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x16x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "mask" => some ⊥
  | _ => none
-- ==== RefIdeal.lean ====
abbrev S4x8x16x512x128 : Shape := ⟨5, ![4, 8, 16, 512, 128]⟩
abbrev S4x8x16x256x128 : Shape := ⟨5, ![4, 8, 16, 256, 128]⟩
abbrev S4x8x16x128x256 : Shape := ⟨5, ![4, 8, 16, 128, 256]⟩
abbrev S1x64 : Shape := ⟨2, ![1, 64]⟩
abbrev S1x128 : Shape := ⟨2, ![1, 128]⟩
abbrev S_ : Shape := ⟨0, ![]⟩
abbrev S4x4x16x256x64 : Shape := ⟨5, ![4, 4, 16, 256, 64]⟩
abbrev S4x4x4096x64 : Shape := ⟨4, ![4, 4, 4096, 64]⟩
abbrev S4x4x16x128x256 : Shape := ⟨5, ![4, 4, 16, 128, 256]⟩
abbrev S4x4x16x256x128 : Shape := ⟨5, ![4, 4, 16, 256, 128]⟩
abbrev S4x4x4096x128 : Shape := ⟨4, ![4, 4, 4096, 128]⟩
abbrev S64 : Shape := ⟨1, ![64]⟩
abbrev S4x4x4096x4096 : Shape := ⟨4, ![4, 4, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x4096 : Shape := ⟨3, ![4, 4, 4096]⟩
abbrev S4x4x4096x1 : Shape := ⟨4, ![4, 4, 4096, 1]⟩
abbrev S128 : Shape := ⟨1, ![128]⟩
abbrev S1x1x1x128 : Shape := ⟨4, ![1, 1, 1, 128]⟩

abbrev nBuf : Space → Nat
  | .hbm => 127
  | .vmem => 0
  | .smem => 0
  | _ => 0

abbrev bufTy : (tb : Table) → Fin (tcTables nBuf tb) → BufTy
  | .hbm, ⟨0, _⟩ => ⟨S4x8x16x512x128, .bf16⟩
  | .hbm, ⟨1, _⟩ => ⟨S4x8x16x256x128, .bf16⟩
  | .hbm, ⟨2, _⟩ => ⟨S4x8x16x128x256, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S4x4x16x256x64, .bf16⟩
  | .hbm, ⟨10, _⟩ => ⟨S4x4x16x256x64, .f32⟩
  | .hbm, ⟨11, _⟩ => ⟨S4x4x4096x64, .f32⟩
  | .hbm, ⟨12, _⟩ => ⟨S4x4x16x256x64, .bf16⟩
  | .hbm, ⟨13, _⟩ => ⟨S4x4x16x256x64, .f32⟩
  | .hbm, ⟨14, _⟩ => ⟨S4x4x4096x64, .f32⟩
  | .hbm, ⟨15, _⟩ => ⟨S4x4x16x256x64, .bf16⟩
  | .hbm, ⟨16, _⟩ => ⟨S4x4x16x256x64, .f32⟩
  | .hbm, ⟨17, _⟩ => ⟨S4x4x4096x64, .f32⟩
  | .hbm, ⟨18, _⟩ => ⟨S4x4x16x256x64, .bf16⟩
  | .hbm, ⟨19, _⟩ => ⟨S4x4x16x256x64, .f32⟩
  | .hbm, ⟨20, _⟩ => ⟨S4x4x4096x64, .f32⟩
  | .hbm, ⟨21, _⟩ => ⟨S4x4x16x128x256, .bf16⟩
  | .hbm, ⟨22, _⟩ => ⟨S4x4x16x256x128, .bf16⟩
  | .hbm, ⟨23, _⟩ => ⟨S4x4x16x256x128, .f32⟩
  | .hbm, ⟨24, _⟩ => ⟨S4x4x4096x128, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x4x4096x4096, .f32⟩
  | .hbm, ⟨41, _⟩ => ⟨S_, .f32⟩
  | .hbm, ⟨42, _⟩ => ⟨S_, .f32⟩
  | .hbm, ⟨43, _⟩ => ⟨S4x4x4096x4096, .f32⟩
  | .hbm, ⟨44, _⟩ => ⟨S4x4x4096x4096, .f32⟩
  | .hbm, ⟨45, _⟩ => ⟨S4096, .i32⟩
  | .hbm, ⟨46, _⟩ => ⟨S1x4096, .i32⟩
  | .hbm, ⟨47, _⟩ => ⟨S4096x1, .i32⟩
  | .hbm, ⟨48, _⟩ => ⟨S4096x4096, .i32⟩
  | .hbm, ⟨49, _⟩ => ⟨S4096x4096, .i32⟩
  | .hbm, ⟨50, _⟩ => ⟨S4096x4096, .i1⟩
  | .hbm, ⟨51, _⟩ => ⟨S_, .f32⟩
  | .hbm, ⟨52, _⟩ => ⟨S_, .f32⟩
  | .hbm, ⟨53, _⟩ => ⟨S4x4x4096x4096, .i1⟩
  | .hbm, ⟨54, _⟩ => ⟨S4x4x4096x4096, .f32⟩
  | .hbm, ⟨55, _⟩ => ⟨S4x4x4096x4096, .f32⟩
  | .hbm, ⟨56, _⟩ => ⟨S_, .f32⟩
  | .hbm, ⟨57, _⟩ => ⟨S4x4x4096, .f32⟩
  | .hbm, ⟨58, _⟩ => ⟨S_, .f32⟩
  | .hbm, ⟨59, _⟩ => ⟨S4x4x4096, .f32⟩
  | .hbm, ⟨60, _⟩ => ⟨S4x4x4096, .f32⟩
  | .hbm, ⟨61, _⟩ => ⟨S4x4x4096x1, .f32⟩
  | .hbm, ⟨62, _⟩ => ⟨S4x4x4096x4096, .f32⟩
  | .hbm, ⟨63, _⟩ => ⟨S4x4x4096x4096, .f32⟩
  | .hbm, ⟨64, _⟩ => ⟨S4x4x4096x4096, .f32⟩
  | .hbm, ⟨65, _⟩ => ⟨S_, .f32⟩
  | .hbm, ⟨66, _⟩ => ⟨S4x4x4096, .f32⟩
  | .hbm, ⟨67, _⟩ => ⟨S4x4x4096x1, .f32⟩
  | .hbm, ⟨68, _⟩ => ⟨S4x4x4096x4096, .f32⟩
  | .hbm, ⟨69, _⟩ => ⟨S4x4x4096x4096, .f32⟩
  | .hbm, ⟨70, _⟩ => ⟨S4x4x4096x4096, .f32⟩
  | .hbm, ⟨71, _⟩ => ⟨S_, .f32⟩
  | .hbm, ⟨72, _⟩ => ⟨S_, .f32⟩
  | .hbm, ⟨73, _⟩ => ⟨S4x4x4096x4096, .f32⟩
  | .hbm, ⟨74, _⟩ => ⟨S4x4x4096x4096, .f32⟩
  | .hbm, ⟨75, _⟩ => ⟨S4096, .i32⟩
  | .hbm, ⟨76, _⟩ => ⟨S1x4096, .i32⟩
  | .hbm, ⟨77, _⟩ => ⟨S4096x1, .i32⟩
  | .hbm, ⟨78, _⟩ => ⟨S4096x4096, .i32⟩
  | .hbm, ⟨79, _⟩ => ⟨S4096x4096, .i32⟩
  | .hbm, ⟨80, _⟩ => ⟨S4096x4096, .i1⟩
  | .hbm, ⟨81, _⟩ => ⟨S_, .f32⟩
  | .hbm, ⟨82, _⟩ => ⟨S_, .f32⟩
  | .hbm, ⟨83, _⟩ => ⟨S4x4x4096x4096, .i1⟩
  | .hbm, ⟨84, _⟩ => ⟨S4x4x4096x4096, .f32⟩
  | .hbm, ⟨85, _⟩ => ⟨S4x4x4096x4096, .f32⟩
  | .hbm, ⟨86, _⟩ => ⟨S_, .f32⟩
  | .hbm, ⟨87, _⟩ => ⟨S4x4x4096, .f32⟩
  | .hbm, ⟨88, _⟩ => ⟨S_, .f32⟩
  | .hbm, ⟨89, _⟩ => ⟨S4x4x4096, .f32⟩
  | .hbm, ⟨90, _⟩ => ⟨S4x4x4096, .f32⟩
  | .hbm, ⟨91, _⟩ => ⟨S4x4x4096x1, .f32⟩
  | .hbm, ⟨92, _⟩ => ⟨S4x4x4096x4096, .f32⟩
  | .hbm, ⟨93, _⟩ => ⟨S4x4x4096x4096, .f32⟩
  | .hbm, ⟨94, _⟩ => ⟨S4x4x4096x4096, .f32⟩
  | .hbm, ⟨95, _⟩ => ⟨S_, .f32⟩
  | .hbm, ⟨96, _⟩ => ⟨S4x4x4096, .f32⟩
  | .hbm, ⟨97, _⟩ => ⟨S4x4x4096x1, .f32⟩
  | .hbm, ⟨98, _⟩ => ⟨S4x4x4096x4096, .f32⟩
  | .hbm, ⟨99, _⟩ => ⟨S4x4x4096x4096, .f32⟩
  | .hbm, ⟨100, _⟩ => ⟨S4x4x4096x4096, .f32⟩
  | .hbm, ⟨101, _⟩ => ⟨S4x4x4096x4096, .f32⟩
  | .hbm, ⟨102, _⟩ => ⟨S4x4x4096x4096, .f32⟩
  | .hbm, ⟨103, _⟩ => ⟨S4x4x4096x128, .f32⟩
  | .hbm, ⟨104, _⟩ => ⟨S4x4x4096x128, .f32⟩
  | .hbm, ⟨105, _⟩ => ⟨S_, .f32⟩
  | .hbm, ⟨106, _⟩ => ⟨S4x4x4096, .f32⟩
  | .hbm, ⟨107, _⟩ => ⟨S4x4x4096x1, .f32⟩
  | .hbm, ⟨108, _⟩ => ⟨S_, .f32⟩
  | .hbm, ⟨109, _⟩ => ⟨S4x4x4096x1, .f32⟩
  | .hbm, ⟨110, _⟩ => ⟨S4x4x4096x1, .f32⟩
  | .hbm, ⟨111, _⟩ => ⟨S_, .f32⟩
  | .hbm, ⟨112, _⟩ => ⟨S4x4x4096x1, .f32⟩
  | .hbm, ⟨113, _⟩ => ⟨S4x4x4096x1, .f32⟩
  | .hbm, ⟨114, _⟩ => ⟨S4x4x4096x1, .f32⟩
  | .hbm, ⟨115, _⟩ => ⟨S4x4x4096x128, .f32⟩
  | .hbm, ⟨116, _⟩ => ⟨S4x4x4096x128, .f32⟩
  | .hbm, ⟨117, _⟩ => ⟨S128, .f32⟩
  | .hbm, ⟨118, _⟩ => ⟨S1x1x1x128, .f32⟩
  | .hbm, ⟨119, _⟩ => ⟨S4x4x4096x128, .f32⟩
  | .hbm, ⟨120, _⟩ => ⟨S4x4x4096x128, .f32⟩
  | .hbm, ⟨121, _⟩ => ⟨S_, .f32⟩
  | .hbm, ⟨122, _⟩ => ⟨S4x4x4096x128, .f32⟩
  | .hbm, ⟨123, _⟩ => ⟨S4x4x4096x128, .f32⟩
  | .hbm, ⟨124, _⟩ => ⟨S4x4x16x256x128, .f32⟩
  | .hbm, ⟨125, _⟩ => ⟨S4x4x16x128x256, .f32⟩
  | .hbm, ⟨126, _⟩ => ⟨S4x4x16x128x256, .bf16⟩
  | _, _ => ⟨S4x8x16x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_12 : Ref sig .tc := ⟨.hbm, 105, rfl⟩
abbrev main_v77 : Ref sig .tc := ⟨.hbm, 106, rfl⟩
abbrev main_v78 : Ref sig .tc := ⟨.hbm, 107, rfl⟩
abbrev main_cst_13 : Ref sig .tc := ⟨.hbm, 108, rfl⟩
abbrev main_v79 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_15 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]
-- ==== Mlp.lean ====
abbrev S16384x1024 : Shape := ⟨2, ![16384, 1024]⟩
abbrev S1024x5632 : Shape := ⟨2, ![1024, 5632]⟩
abbrev S1x3x2816 : Shape := ⟨3, ![1, 3, 2816]⟩
abbrev S1x2816 : Shape := ⟨2, ![1, 2816]⟩
abbrev S2816x1024 : Shape := ⟨2, ![2816, 1024]⟩
abbrev S3x2816 : Shape := ⟨2, ![3, 2816]⟩
abbrev S2816 : Shape := ⟨1, ![2816]⟩
abbrev S512x1024 : Shape := ⟨2, ![512, 1024]⟩
abbrev S520x2816 : Shape := ⟨2, ![520, 2816]⟩
abbrev S8x2816 : Shape := ⟨2, ![8, 2816]⟩
abbrev S512x5632 : Shape := ⟨2, ![512, 5632]⟩
abbrev S512x2816 : Shape := ⟨2, ![512, 2816]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5632, .bf16⟩
  | .hbm, ⟨3, _⟩ => ⟨S1x3x2816, .f32⟩
  | .hbm, ⟨4, _⟩ => ⟨S1x2816, .f32⟩
  | .hbm, ⟨5, _⟩ => ⟨S2816x1024, .bf16⟩
  | .hbm, ⟨6, _⟩ => ⟨S3x2816, .f32⟩
  | .hbm, ⟨7, _⟩ => ⟨S2816, .f32⟩
  | .hbm, ⟨8, _⟩ => ⟨S1x2816, .f32⟩
  | .hbm, ⟨9, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x5632, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S520x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpRefIdeal.lean ====
abbrev S16384x1024 : Shape := ⟨2, ![16384, 1024]⟩
abbrev S1024x5632 : Shape := ⟨2, ![1024, 5632]⟩
abbrev S1x3x2816 : Shape := ⟨3, ![1, 3, 2816]⟩
abbrev S1x2816 : Shape := ⟨2, ![1, 2816]⟩
abbrev S2816x1024 : Shape := ⟨2, ![2816, 1024]⟩
abbrev S4x4096x1024 : Shape := ⟨3, ![4, 4096, 1024]⟩
abbrev S4x4096x5632 : Shape := ⟨3, ![4, 4096, 5632]⟩
abbrev S4x4096x2816 : Shape := ⟨3, ![4, 4096, 2816]⟩
abbrev S3x2816 : Shape := ⟨2, ![3, 2816]⟩
abbrev S2816 : Shape := ⟨1, ![2816]⟩
abbrev S_ : Shape := ⟨0, ![]⟩
abbrev S4x4098x2816 : Shape := ⟨3, ![4, 4098, 2816]⟩
abbrev S1x1x2816 : Shape := ⟨3, ![1, 1, 2816]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5632, .bf16⟩
  | .hbm, ⟨3, _⟩ => ⟨S1x3x2816, .f32⟩
  | .hbm, ⟨4, _⟩ => ⟨S1x2816, .f32⟩
  | .hbm, ⟨5, _⟩ => ⟨S2816x1024, .bf16⟩
  | .hbm, ⟨6, _⟩ => ⟨S16384x1024, .f32⟩
  | .hbm, ⟨7, _⟩ => ⟨S1024x5632, .f32⟩
  | .hbm, ⟨8, _⟩ => ⟨S2816x1024, .f32⟩
  | .hbm, ⟨9, _⟩ => ⟨S4x4096x1024, .f32⟩
  | .hbm, ⟨10, _⟩ => ⟨S4x4096x5632, .f32⟩
  | .hbm, ⟨11, _⟩ => ⟨S4x4096x2816, .f32⟩
  | .hbm, ⟨12, _⟩ => ⟨S4x4096x2816, .f32⟩
  | .hbm, ⟨13, _⟩ => ⟨S3x2816, .f32⟩
  | .hbm, ⟨14, _⟩ => ⟨S2816, .f32⟩
  | .hbm, ⟨15, _⟩ => ⟨S_, .i32⟩
  | .hbm, ⟨16, _⟩ => ⟨S_, .f32⟩
  | .hbm, ⟨17, _⟩ => ⟨S4x4098x2816, .f32⟩
  | .hbm, ⟨18, _⟩ => ⟨S4x4096x2816, .f32⟩
  | .hbm, ⟨19, _⟩ => ⟨S1x2816, .f32⟩
  | .hbm, ⟨20, _⟩ => ⟨S2816, .f32⟩
  | .hbm, ⟨21, _⟩ => ⟨S1x1x2816, .f32⟩
  | .hbm, ⟨22, _⟩ => ⟨S4x4096x2816, .f32⟩
  | .hbm, ⟨23, _⟩ => ⟨S4x4096x2816, .f32⟩
  | .hbm, ⟨24, _⟩ => ⟨S1x1x2816, .f32⟩
  | .hbm, ⟨25, _⟩ => ⟨S4x4096x2816, .f32⟩
  | .hbm, ⟨26, _⟩ => ⟨S4x4096x2816, .f32⟩
  | .hbm, ⟨27, _⟩ => ⟨S4x4096x2816, .f32⟩
  | .hbm, ⟨28, _⟩ => ⟨S1x2816, .f32⟩
  | .hbm, ⟨29, _⟩ => ⟨S2816, .f32⟩
  | .hbm, ⟨30, _⟩ => ⟨S1x1x2816, .f32⟩
  | .hbm, ⟨31, _⟩ => ⟨S4x4096x2816, .f32⟩
  | .hbm, ⟨32, _⟩ => ⟨S4x4096x2816, .f32⟩
  | .hbm, ⟨33, _⟩ => ⟨S4x4096x2816, .f32⟩
  | .hbm, ⟨34, _⟩ => ⟨S4x4096x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S4x4096x1024, .f32⟩
  | .hbm, ⟨42, _⟩ => ⟨S4x4096x2816, .f32⟩
  | .hbm, ⟨43, _⟩ => ⟨S4x4096x2816, .f32⟩
  | .hbm, ⟨44, _⟩ => ⟨S_, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S_, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S_, .f32⟩
  | .hbm, ⟨53, _⟩ => ⟨S4x4096x2816, .f32⟩
  | .hbm, ⟨54, _⟩ => ⟨S4x4096x2816, .f32⟩
  | .hbm, ⟨55, _⟩ => ⟨S_, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S4x4096x1024, .f32⟩
  | .hbm, ⟨61, _⟩ => ⟨S4x4096x1024, .f32⟩
  | .hbm, ⟨62, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_0 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Proof.Triple.lean ====
/- Triples over a typed state, and the tiled differential attention's memory as such a state.

  A kernel body is a program over memrefs. `Triple` says of a program what it returns and which state it ends in, a state
  being whatever a family of resources `H` describes. `Mems` names the memrefs of the attention kernel, `St` what they hold,
  `heap` owns each at that; then every load and store of the body is a step on `St`. -/
module

public import Idealize.ShloMosaic.Lib.Exec
public import Idealize.ShloMosaic.Lib.Tactic
public import Idealize.ShloMosaic.Lib.Pipeline.Kit

@[expose] public section

noncomputable section

namespace Cert.Proof.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Triples

variable {nD : Nat} {τ : Topo} {sig : RefSig} {Val : EltTy → Type} {Λ : Labels}
variable (defs : Defs nD τ sig Val Λ) (c : Dev nD)

local notation "𝕄" => MT nD τ sig Unit Val ℕ (UR sig nD τ) ℕ

/-- From state `s`, described by the resources `H s`, the program returns some `a` in some state `s'` with `Q a s'`. -/
def Triple {σ α : Type} (H : σ → sProp 𝕄) (p : Prog (TpuEff nD τ sig Val Λ .tc) α) (s : σ) (Q : α → σ → Prop) : Prop :=
  H s ⊢ wp frame (wpE defs Variants.none (c : Thread nD τ) none) Set.univ p (fun a => iprop(∃ s', ⌜Q a s'⌝ ∗ H s'))

variable {defs c} {σ α β : Type} {H : σ → sProp (MT nD τ sig Unit Val ℕ (UR sig nD τ) ℕ)}

theorem Triple.ret {a : α} {s : σ} {Q : α → σ → Prop} (h : Q a s) : Triple defs c H (Prog.ret a) s Q := by
  unfold Triple
  refine BIBase.Entails.trans ?_ (le_wp_ret _ _ _ _ _)
  iintro Hh
  iexists s
  isplitr
  · ipureintro; exact h
  · iexact Hh

theorem Triple.seq {p : Prog (TpuEff nD τ sig Val Λ .tc) α} {k : α → Prog (TpuEff nD τ sig Val Λ .tc) β} {s : σ}
    {Q : β → σ → Prop} (h : Triple defs c H p s (fun a s' => Triple defs c H (k a) s' Q)) :
    Triple defs c H (p >>= k) s Q := by
  unfold Triple at *
  rw [wp_bind]
  refine h.trans (wp_mono _ _ _ fun a => ?_)
  iintro ⟨%s', %hs, Hh⟩
  iapply hs
  iexact Hh

theorem Triple.mono {p : Prog (TpuEff nD τ sig Val Λ .tc) α} {s : σ} {Q Q' : α → σ → Prop}
    (h : Triple defs c H p s Q) (hQ : ∀ a s', Q a s' → Q' a s') : Triple defs c H p s Q' := by
  unfold Triple at *
  refine h.trans (wp_mono _ _ _ fun a => ?_)
  iintro ⟨%s', %hs, Hh⟩
  iexists s'
  isplitr
  · ipureintro; exact hQ _ _ hs
  · iexact Hh

/-- A counted loop, by what is known before each trip. -/
theorem Triple.loop {w : Nat} {ρ : Type} (lb ub st : BitVec w) (hok : Scf.OK lb ub st) (init : ρ)
    (body : Fin (Scf.trips lb ub st) → ρ → Prog (TpuEff nD τ sig Val Λ .tc) ρ) (J : Nat → ρ → σ → Prop) {s : σ}
    (h0 : J 0 init s)
    (hstep : ∀ (t : Fin (Scf.trips lb ub st)) (a : ρ) (s : σ), J t a s → Triple defs c H (body t a) s (J (t.val + 1))) :
    Triple defs c H (Scf.for lb ub st hok init body) s (J (Scf.trips lb ub st)) := by
  unfold Triple
  refine BIBase.Entails.trans ?_ (Scf.wp_for frame (wpE defs Variants.none (c : Thread nD τ) none) Set.univ lb ub st hok init body
    (fun t a => iprop(∃ s', ⌜J t a s'⌝ ∗ H s')) ?_)
  · iintro Hh
    isplitl [Hh]
    · iexists s
      isplitr
      · ipureintro; exact h0
      · iexact Hh
    · iintro %a Hh
      iexact Hh
  · intro t a
    iintro ⟨%s', %hs, Hh⟩
    have hb := hstep t a s' hs
    unfold Triple at hb
    iapply hb
    iexact Hh

theorem Triple.assume {P : Prop} {d : Decidable P} {s : σ} {Q : PLift P → σ → Prop} (hP : P) (h : Q ⟨hP⟩ s) :
    Triple defs c H (Prog.lift (TpuEff.assume P d)) s Q := by
  unfold Triple
  refine BIBase.Entails.trans ?_ (wp_assume Variants.none (c : Thread nD τ) none Set.univ hP)
  exact Triple.ret (H := H) h

/-- Reading a memref: what is read is its contents at the rectangle. -/
theorem Triple.load {sp : CoreSpace} {S : Shape} {e : EltTy} {m : Memref sig .tc sp S e} {r : LoadRect S}
    {hl : m.view.LoadsAt r} {q : PosShare TreeShare} {X : S.Idx → Val e} {s : σ} {Q : (r.shape.Idx → Val e) → σ → Prop}
    (hsplit : H s ⊢ iprop(owns (c : Thread nD τ) m q X ∗ (owns (c : Thread nD τ) m q X -∗ H s)))
    (h : Q (fun x => X (r.idx x)) s) : Triple defs c H (Prog.lift (TpuEff.load m r hl)) s Q := by
  unfold Triple
  refine hsplit.trans ?_
  unfold owns
  iintro ⟨⟨%f, %hf, Hp⟩, Hk⟩
  iapply (wp_load Variants.none (c : Thread nD τ) none Set.univ (m := m) (r := r) (hl := hl) (S := m.view.set) ?_) $$ Hp
  · exact fun i hi => by
      obtain ⟨x, -, rfl⟩ := Finset.mem_map.mp hi
      exact m.view.emb_mem_set x
  iintro Hp
  iapply (le_wp_ret _ _ _ _ _)
  iexists s
  isplitr
  · ipureintro
    have : m.view.readAt Val r f = fun x => X (r.idx x) := by subst hf; rfl
    rw [this]; exact h
  · iapply Hk
    iexists f
    isplitr
    · ipureintro; exact hf
    · iexact Hp

/-- Contents `X` with the elements of the rectangle `r` replaced by `w`. -/
def put {S : Shape} {V : Type} (X : S.Idx → V) (r : Rect S) (w : r.shape.Idx → V) : S.Idx → V := fun y =>
  if h : ∃ x, r.emb x = y then w h.choose else X y

theorem put_emb {S : Shape} {V : Type} (X : S.Idx → V) (r : Rect S) (w : r.shape.Idx → V) (x : r.shape.Idx) :
    put X r w (r.emb x) = w x := by
  have h : ∃ x', r.emb x' = r.emb x := ⟨x, rfl⟩
  unfold put
  rw [dif_pos h]
  exact congrArg w (r.emb.injective h.choose_spec)

theorem put_of_not {S : Shape} {V : Type} (X : S.Idx → V) (r : Rect S) (w : r.shape.Idx → V) (y : S.Idx)
    (h : ∀ x, r.emb x ≠ y) : put X r w y = X y := by
  unfold put
  rw [dif_neg (fun ⟨x, hx⟩ => h x hx)]

/-- What a view reads after a write through one of its rectangles. -/
theorem read_write_put {κ : Kind} {sp : Space} {S : Shape} {e : EltTy} (v : View sig κ sp S e) (r : Rect S)
    (f : v.ty.Contents Val) (w : r.shape.Idx → Val e) :
    v.read Val ((v.slice r).write Val f w Finset.univ) = put (v.read Val f) r w := by
  funext y
  by_cases h : ∃ x, r.emb x = y
  · obtain ⟨x, rfl⟩ := h
    rw [put_emb]
    exact View.read_slice_write_emb r f w (Finset.mem_univ x)
  · rw [put_of_not _ _ _ _ (fun x hx => h ⟨x, hx⟩)]
    refine View.read_slice_write_of_not_mem r f w Finset.univ fun hm => ?_
    obtain ⟨x, -, hx⟩ := Finset.mem_map.mp hm
    exact h ⟨x, hx⟩

/-- Writing a memref through a rectangle. -/
theorem Triple.store {sp : CoreSpace} {S : Shape} {e : EltTy} {m : Memref sig .tc sp S e} {r : Rect S}
    {w : r.shape.Idx → Val e} {hx : (m.access r).Stores Finset.univ} {hm : (Finset.univ = Finset.univ) ∨ ∀ a, r.stride a = 1}
    {X : S.Idx → Val e} {s s' : σ} {Q : PUnit → σ → Prop}
    (hsplit : H s ⊢ iprop(owns (c : Thread nD τ) m fullShare X ∗ (owns (c : Thread nD τ) m fullShare (put X r w) -∗ H s')))
    (h : Q ⟨⟩ s') : Triple defs c H (Prog.lift (TpuEff.store m r w Finset.univ hx hm)) s Q := by
  unfold Triple
  refine hsplit.trans ?_
  unfold owns
  iintro ⟨⟨%f, %hf, Hp⟩, Hk⟩
  iapply (wp_store Variants.none (c : Thread nD τ) none Set.univ (m := m) (r := r) (w := w) (Mk := Finset.univ) (hx := hx) (hm := hm)
    (S := m.view.set) ?_) $$ Hp
  · exact fun i hi => by
      obtain ⟨x, -, rfl⟩ := Finset.mem_map.mp hi
      exact m.view.emb_mem_set _
  iintro Hp
  iapply (le_wp_ret _ _ _ _ _)
  iexists s'
  isplitr
  · ipureintro; exact h
  · iapply Hk
    iexists _
    isplitr
    · ipureintro; exact (read_write_put m.view r f w).trans (by rw [hf])
    · iexact Hp

end Triples

end Cert.Proof.Diff

end
-- ==== Proof.Tiles.lean ====
/- The tiled differential attention's memory and the steps its kernel takes on it.

  A trip of the kernel's loop goes through 34 pairs (query tile, key tile), named by the words of three tables. For each it
  computes a block of scores into a ring of seven slots, and six pairs later takes the block out again, adding its weights to
  the row sums and its weighted values to the accumulator of the query tile. `lrec`, `arec`, `srec` are what the row sums, the
  accumulators and the ring hold after a number of such steps, over the operations `Ops` of one program. -/
module

public import proofs.«01_k».proof.Proof.Triple

@[expose] public section

noncomputable section

namespace Cert.Proof.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev T1 : Shape := ⟨1, ![1]⟩
abbrev T136 : Shape := ⟨1, ![136]⟩
abbrev TQ : Shape := ⟨5, ![1, 1, 16, 512, 128]⟩
abbrev TK : Shape := ⟨5, ![1, 1, 16, 256, 128]⟩
abbrev TV : Shape := ⟨5, ![1, 1, 16, 128, 256]⟩
abbrev TM : Shape := ⟨2, ![1, 512]⟩
abbrev TLam : Shape := ⟨2, ![4, 64]⟩
abbrev TG : Shape := ⟨2, ![128, 256]⟩
abbrev TL : Shape := ⟨3, ![16, 1, 512]⟩
abbrev TA : Shape := ⟨3, ![16, 128, 512]⟩
abbrev TS : Shape := ⟨3, ![7, 256, 512]⟩
abbrev Tq : Shape := ⟨5, ![1, 1, 1, 512, 128]⟩
abbrev Tk : Shape := ⟨5, ![1, 1, 1, 256, 128]⟩
abbrev Tv : Shape := ⟨5, ![1, 1, 1, 128, 256]⟩
abbrev Tl : Shape := ⟨3, ![1, 1, 512]⟩
abbrev Ta : Shape := ⟨3, ![1, 128, 512]⟩
abbrev Ts : Shape := ⟨3, ![1, 256, 512]⟩

/-! ## Contents -/

/-- What the buffers hold. -/
structure St (Val : EltTy → Type) where
  it : T136.Idx → Val .i32
  jt : T136.Idx → Val .i32
  ot : T136.Idx → Val .i32
  q : TQ.Idx → Val .bf16
  k : TK.Idx → Val .bf16
  v : TV.Idx → Val .bf16
  mr : TM.Idx → Val .f32
  lm : TLam.Idx → Val .f32
  sg : TG.Idx → Val .f32
  o : TV.Idx → Val .bf16
  l : TL.Idx → Val .f32
  a : TA.Idx → Val .f32
  s : TS.Idx → Val .f32

/-- The memrefs of the kernel's buffers. -/
structure Mems (sig : RefSig) where
  it : Memref sig .tc .smem T136 .i32
  jt : Memref sig .tc .smem T136 .i32
  ot : Memref sig .tc .smem T136 .i32
  q : Memref sig .tc .vmem TQ .bf16
  k : Memref sig .tc .vmem TK .bf16
  v : Memref sig .tc .vmem TV .bf16
  mr : Memref sig .tc .vmem TM .f32
  lm : Memref sig .tc .vmem TLam .f32
  sg : Memref sig .tc .vmem TG .f32
  o : Memref sig .tc .vmem TV .bf16
  l : Memref sig .tc .vmem TL .f32
  a : Memref sig .tc .vmem TA .f32
  s : Memref sig .tc .vmem TS .f32

/-- Each of them is its whole buffer. -/
structure Wholes {sig : RefSig} (M : Mems sig) : Prop where
  it : M.it.IsWhole
  jt : M.jt.IsWhole
  ot : M.ot.IsWhole
  q : M.q.IsWhole
  k : M.k.IsWhole
  v : M.v.IsWhole
  mr : M.mr.IsWhole
  lm : M.lm.IsWhole
  sg : M.sg.IsWhole
  o : M.o.IsWhole
  l : M.l.IsWhole
  a : M.a.IsWhole
  s : M.s.IsWhole

section Heap

variable {nD : Nat} {τ : Topo} {sig : RefSig} {Val : EltTy → Type} {Λ : Labels}
variable {defs : Defs nD τ sig Val Λ} {c : Dev nD}

local notation "𝕄" => MT nD τ sig Unit Val ℕ (UR sig nD τ) ℕ

/-- The buffers, each owned at its contents; the three tables in a share each. -/
def heap (c : Dev nD) (M : Mems sig) (π : Fin 3 → PosShare TreeShare) (st : St Val) : sProp 𝕄 :=
  iprop(owns (c : Thread nD τ) M.it (π 0) st.it ∗ owns (c : Thread nD τ) M.jt (π 1) st.jt ∗ owns (c : Thread nD τ) M.ot (π 2) st.ot
    ∗ owns (c : Thread nD τ) M.q fullShare st.q ∗ owns (c : Thread nD τ) M.k fullShare st.k ∗ owns (c : Thread nD τ) M.v fullShare st.v
    ∗ owns (c : Thread nD τ) M.mr fullShare st.mr ∗ owns (c : Thread nD τ) M.lm fullShare st.lm ∗ owns (c : Thread nD τ) M.sg fullShare st.sg
    ∗ owns (c : Thread nD τ) M.o fullShare st.o ∗ owns (c : Thread nD τ) M.l fullShare st.l ∗ owns (c : Thread nD τ) M.a fullShare st.a
    ∗ owns (c : Thread nD τ) M.s fullShare st.s)

variable {M : Mems sig} {π : Fin 3 → PosShare TreeShare}

local notation "H" => heap (nD := nD) (τ := τ) (Val := Val) c M π

theorem take_it (st : St Val) : H st ⊢ iprop(owns (c : Thread nD τ) M.it (π 0) st.it ∗ (owns (c : Thread nD τ) M.it (π 0) st.it -∗ H st)) := by
  unfold heap; iintro ⟨H1, H2, H3, H4, H5, H6, H7, H8, H9, H10, H11, H12, H13⟩
  iframe H1; iintro H1; iframe
theorem take_jt (st : St Val) : H st ⊢ iprop(owns (c : Thread nD τ) M.jt (π 1) st.jt ∗ (owns (c : Thread nD τ) M.jt (π 1) st.jt -∗ H st)) := by
  unfold heap; iintro ⟨H1, H2, H3, H4, H5, H6, H7, H8, H9, H10, H11, H12, H13⟩
  iframe H2; iintro H2; iframe
theorem take_ot (st : St Val) : H st ⊢ iprop(owns (c : Thread nD τ) M.ot (π 2) st.ot ∗ (owns (c : Thread nD τ) M.ot (π 2) st.ot -∗ H st)) := by
  unfold heap; iintro ⟨H1, H2, H3, H4, H5, H6, H7, H8, H9, H10, H11, H12, H13⟩
  iframe H3; iintro H3; iframe
theorem take_q (st : St Val) : H st ⊢ iprop(owns (c : Thread nD τ) M.q fullShare st.q ∗ (owns (c : Thread nD τ) M.q fullShare st.q -∗ H st)) := by
  unfold heap; iintro ⟨H1, H2, H3, H4, H5, H6, H7, H8, H9, H10, H11, H12, H13⟩
  iframe H4; iintro H4; iframe
theorem take_k (st : St Val) : H st ⊢ iprop(owns (c : Thread nD τ) M.k fullShare st.k ∗ (owns (c : Thread nD τ) M.k fullShare st.k -∗ H st)) := by
  unfold heap; iintro ⟨H1, H2, H3, H4, H5, H6, H7, H8, H9, H10, H11, H12, H13⟩
  iframe H5; iintro H5; iframe
theorem take_v (st : St Val) : H st ⊢ iprop(owns (c : Thread nD τ) M.v fullShare st.v ∗ (owns (c : Thread nD τ) M.v fullShare st.v -∗ H st)) := by
  unfold heap; iintro ⟨H1, H2, H3, H4, H5, H6, H7, H8, H9, H10, H11, H12, H13⟩
  iframe H6; iintro H6; iframe
theorem take_mr (st : St Val) : H st ⊢ iprop(owns (c : Thread nD τ) M.mr fullShare st.mr ∗ (owns (c : Thread nD τ) M.mr fullShare st.mr -∗ H st)) := by
  unfold heap; iintro ⟨H1, H2, H3, H4, H5, H6, H7, H8, H9, H10, H11, H12, H13⟩
  iframe H7; iintro H7; iframe
theorem take_lm (st : St Val) : H st ⊢ iprop(owns (c : Thread nD τ) M.lm fullShare st.lm ∗ (owns (c : Thread nD τ) M.lm fullShare st.lm -∗ H st)) := by
  unfold heap; iintro ⟨H1, H2, H3, H4, H5, H6, H7, H8, H9, H10, H11, H12, H13⟩
  iframe H8; iintro H8; iframe
theorem take_sg (st : St Val) : H st ⊢ iprop(owns (c : Thread nD τ) M.sg fullShare st.sg ∗ (owns (c : Thread nD τ) M.sg fullShare st.sg -∗ H st)) := by
  unfold heap; iintro ⟨H1, H2, H3, H4, H5, H6, H7, H8, H9, H10, H11, H12, H13⟩
  iframe H9; iintro H9; iframe
theorem take_o (st : St Val) (Y : TV.Idx → Val .bf16) :
    H st ⊢ iprop(owns (c : Thread nD τ) M.o fullShare st.o ∗ (owns (c : Thread nD τ) M.o fullShare Y -∗ H { st with o := Y })) := by
  unfold heap; iintro ⟨H1, H2, H3, H4, H5, H6, H7, H8, H9, H10, H11, H12, H13⟩
  iframe H10; iintro H10; iframe
theorem take_l (st : St Val) (Y : TL.Idx → Val .f32) :
    H st ⊢ iprop(owns (c : Thread nD τ) M.l fullShare st.l ∗ (owns (c : Thread nD τ) M.l fullShare Y -∗ H { st with l := Y })) := by
  unfold heap; iintro ⟨H1, H2, H3, H4, H5, H6, H7, H8, H9, H10, H11, H12, H13⟩
  iframe H11; iintro H11; iframe
theorem take_a (st : St Val) (Y : TA.Idx → Val .f32) :
    H st ⊢ iprop(owns (c : Thread nD τ) M.a fullShare st.a ∗ (owns (c : Thread nD τ) M.a fullShare Y -∗ H { st with a := Y })) := by
  unfold heap; iintro ⟨H1, H2, H3, H4, H5, H6, H7, H8, H9, H10, H11, H12, H13⟩
  iframe H12; iintro H12; iframe
theorem take_s (st : St Val) (Y : TS.Idx → Val .f32) :
    H st ⊢ iprop(owns (c : Thread nD τ) M.s fullShare st.s ∗ (owns (c : Thread nD τ) M.s fullShare Y -∗ H { st with s := Y })) := by
  unfold heap; iintro ⟨H1, H2, H3, H4, H5, H6, H7, H8, H9, H10, H11, H12, H13⟩
  iframe H13; iintro H13; iframe

end Heap

/-! ## The steps, over one program's operations -/

variable {F : FTy → Type}

/-- The arithmetic of one program, block by block. -/
structure Ops (F : FTy → Type) where
  /-- the scores of a block on the diagonal, masked by the offset word -/
  mskd : (Tk.Idx → Elt F .bf16) → (Tq.Idx → Elt F .bf16) → Elt F .i32 → Ts.Idx → Elt F .f32
  /-- the scores of a block off the diagonal -/
  plain : (Tk.Idx → Elt F .bf16) → (Tq.Idx → Elt F .bf16) → Ts.Idx → Elt F .f32
  /-- the row sums with a block's weights added -/
  lnew : (Ts.Idx → Elt F .f32) → (TM.Idx → Elt F .f32) → (Tl.Idx → Elt F .f32) → Tl.Idx → Elt F .f32
  /-- the accumulator with a block's weighted values added -/
  anew : (Ts.Idx → Elt F .f32) → (TM.Idx → Elt F .f32) → (Tv.Idx → Elt F .bf16) → (Ta.Idx → Elt F .f32) → Ta.Idx → Elt F .f32
  l0 : Tl.Idx → Elt F .f32
  a0 : Ta.Idx → Elt F .f32
  /-- one tile of the result, from its accumulator and row sums -/
  fin : (TLam.Idx → Elt F .f32) → (Ta.Idx → Elt F .f32) → (Tl.Idx → Elt F .f32) → (TG.Idx → Elt F .f32) → Tv.Idx → Elt F .bf16

theorem mod_lt_T136 (n : ℕ) (x : Fin T136.rank) : n % 136 < T136.size x := by
  have : T136.size x = 136 := by fin_cases x; rfl
  omega

/-- The word of a table at place `n`. -/
def wd (t : T136.Idx → BitVec 32) (n : ℕ) : BitVec 32 := t (fun x => ⟨n % 136, mod_lt_T136 n x⟩)

/-- The buffers a body only reads, with every tile number a tile's. -/
structure Inp (F : FTy → Type) where
  it : T136.Idx → Elt F .i32
  jt : T136.Idx → Elt F .i32
  ot : T136.Idx → Elt F .i32
  q : TQ.Idx → Elt F .bf16
  k : TK.Idx → Elt F .bf16
  v : TV.Idx → Elt F .bf16
  mr : TM.Idx → Elt F .f32
  lm : TLam.Idx → Elt F .f32
  sg : TG.Idx → Elt F .f32
  hi : ∀ n, (wd it n).toNat < 16
  hj : ∀ n, (wd jt n).toNat < 16

/-- A state: the read buffers and the four written ones. -/
def cs (D : Inp F) (o : TV.Idx → Elt F .bf16) (l : TL.Idx → Elt F .f32) (a : TA.Idx → Elt F .f32) (s : TS.Idx → Elt F .f32) : St (Elt F) :=
  ⟨D.it, D.jt, D.ot, D.q, D.k, D.v, D.mr, D.lm, D.sg, o, l, a, s⟩

theorem inb_q {w : BitVec 32} (h : w.toNat < 16) : ∀ x, (![0, 0, w.toNat, 0, 0] : Fin 5 → ℕ) x + Tq.size x ≤ TQ.size x := by
  intro x; fin_cases x <;> simp <;> omega
theorem inb_k {w : BitVec 32} (h : w.toNat < 16) : ∀ x, (![0, 0, w.toNat, 0, 0] : Fin 5 → ℕ) x + Tk.size x ≤ TK.size x := by
  intro x; fin_cases x <;> simp <;> omega
theorem inb_v {w : BitVec 32} (h : w.toNat < 16) : ∀ x, (![0, 0, w.toNat, 0, 0] : Fin 5 → ℕ) x + Tv.size x ≤ TV.size x := by
  intro x; fin_cases x <;> simp <;> omega
theorem inb_l {w : BitVec 32} (h : w.toNat < 16) : ∀ x, (![w.toNat, 0, 0] : Fin 3 → ℕ) x + Tl.size x ≤ TL.size x := by
  intro x; fin_cases x <;> simp <;> omega
theorem inb_a {w : BitVec 32} (h : w.toNat < 16) : ∀ x, (![w.toNat, 0, 0] : Fin 3 → ℕ) x + Ta.size x ≤ TA.size x := by
  intro x; fin_cases x <;> simp <;> omega
theorem inb_s (n : ℕ) : ∀ x, (![n % 7, 0, 0] : Fin 3 → ℕ) x + Ts.size x ≤ TS.size x := by
  intro x; fin_cases x <;> simp <;> omega
theorem inb_l' (n : ℕ) : ∀ x, (![n % 16, 0, 0] : Fin 3 → ℕ) x + Tl.size x ≤ TL.size x := by
  intro x; fin_cases x <;> simp <;> omega
theorem inb_a' (n : ℕ) : ∀ x, (![n % 16, 0, 0] : Fin 3 → ℕ) x + Ta.size x ≤ TA.size x := by
  intro x; fin_cases x <;> simp <;> omega
theorem inb_o' (n : ℕ) : ∀ x, (![0, 0, n % 16, 0, 0] : Fin 5 → ℕ) x + Tv.size x ≤ TV.size x := by
  intro x; fin_cases x <;> simp <;> omega
theorem inb_m : ∀ x, (![0, 0] : Fin 2 → ℕ) x + TM.size x ≤ TM.size x := by
  intro x; fin_cases x <;> simp
theorem inb_lm : ∀ x, (![0, 0] : Fin 2 → ℕ) x + TLam.size x ≤ TLam.size x := by
  intro x; fin_cases x <;> simp
theorem inb_g : ∀ x, (![0, 0] : Fin 2 → ℕ) x + TG.size x ≤ TG.size x := by
  intro x; fin_cases x <;> simp

/-- Contents read through the unit rectangle at `off`. -/
def at' {S : Shape} {V : Type} (X : S.Idx → V) (off size : Fin S.rank → ℕ) (inb : ∀ x, off x + size x ≤ S.size x) :
    (Rect.unit (s := S) off size inb).shape.Idx → V := fun x => X ((Rect.unit (s := S) off size inb).toLoadRect.idx x)

variable (O : Ops F) (D : Inp F)

def qb (n : ℕ) : Tq.Idx → Elt F .bf16 := at' D.q ![0, 0, (wd D.it n).toNat, 0, 0] Tq.size (inb_q (D.hi n))
def kb (n : ℕ) : Tk.Idx → Elt F .bf16 := at' D.k ![0, 0, (wd D.jt n).toNat, 0, 0] Tk.size (inb_k (D.hj n))
def vb (n : ℕ) : Tv.Idx → Elt F .bf16 := at' D.v ![0, 0, (wd D.jt n).toNat, 0, 0] Tv.size (inb_v (D.hj n))
def mrb : TM.Idx → Elt F .f32 := at' D.mr ![0, 0] TM.size inb_m
def lmb : TLam.Idx → Elt F .f32 := at' D.lm ![0, 0] TLam.size inb_lm
def sgb : TG.Idx → Elt F .f32 := at' D.sg ![0, 0] TG.size inb_g

/-- The scores of pair `u` of trip `t`: the first four pairs of a trip lie on the diagonal. -/
def sc (t u : ℕ) : Ts.Idx → Elt F .f32 :=
  bif Nat.blt u 4 then O.mskd (kb D (34 * t + u)) (qb D (34 * t + u)) (wd D.ot (34 * t + u))
  else O.plain (kb D (34 * t + u)) (qb D (34 * t + u))

def srec (t : ℕ) (S : TS.Idx → Elt F .f32) : ℕ → TS.Idx → Elt F .f32
  | 0 => S
  | n + 1 => put (srec t S n) (Rect.unit (s := TS) ![n % 7, 0, 0] Ts.size (inb_s n)) (sc O D t n)

def lrec (t : ℕ) (L : TL.Idx → Elt F .f32) : ℕ → TL.Idx → Elt F .f32
  | 0 => L
  | u + 1 => put (lrec t L u) (Rect.unit (s := TL) ![(wd D.it (34 * t + u)).toNat, 0, 0] Tl.size (inb_l (D.hi _)))
      (O.lnew (sc O D t u) (mrb D) (at' (lrec t L u) ![(wd D.it (34 * t + u)).toNat, 0, 0] Tl.size (inb_l (D.hi _))))

def arec (t : ℕ) (A : TA.Idx → Elt F .f32) : ℕ → TA.Idx → Elt F .f32
  | 0 => A
  | u + 1 => put (arec t A u) (Rect.unit (s := TA) ![(wd D.it (34 * t + u)).toNat, 0, 0] Ta.size (inb_a (D.hi _)))
      (O.anew (sc O D t u) (mrb D) (vb D (34 * t + u))
        (at' (arec t A u) ![(wd D.it (34 * t + u)).toNat, 0, 0] Ta.size (inb_a (D.hi _))))

def linit (L : TL.Idx → Elt F .f32) : ℕ → TL.Idx → Elt F .f32
  | 0 => L
  | n + 1 => put (linit L n) (Rect.unit (s := TL) ![n % 16, 0, 0] Tl.size (inb_l' n)) O.l0

def ainit (A : TA.Idx → Elt F .f32) : ℕ → TA.Idx → Elt F .f32
  | 0 => A
  | n + 1 => put (ainit A n) (Rect.unit (s := TA) ![n % 16, 0, 0] Ta.size (inb_a' n)) O.a0

def orec (L : TL.Idx → Elt F .f32) (A : TA.Idx → Elt F .f32) (X : TV.Idx → Elt F .bf16) : ℕ → TV.Idx → Elt F .bf16
  | 0 => X
  | n + 1 => put (orec L A X n) (Rect.unit (s := TV) ![0, 0, n % 16, 0, 0] Tv.size (inb_o' n))
      (O.fin (lmb D) (at' A ![n % 16, 0, 0] Ta.size (inb_a' n)) (at' L ![n % 16, 0, 0] Tl.size (inb_l' n)) (sgb D))

/-- The row sums, the accumulators and the ring before trip `t`. -/
def lT (L : TL.Idx → Elt F .f32) : ℕ → TL.Idx → Elt F .f32
  | 0 => linit O L 16
  | t + 1 => lrec O D t (lT L t) 34
def aT (A : TA.Idx → Elt F .f32) : ℕ → TA.Idx → Elt F .f32
  | 0 => ainit O A 16
  | t + 1 => arec O D t (aT A t) 34
def sT (S : TS.Idx → Elt F .f32) : ℕ → TS.Idx → Elt F .f32
  | 0 => S
  | t + 1 => srec O D t (sT S t) 34

/-- Two slots of the ring share no element. -/
theorem slot_ne {n r : ℕ} (h : n % 7 ≠ r % 7) (x : Ts.Idx) (y : Ts.Idx) :
    (Rect.unit (s := TS) ![n % 7, 0, 0] Ts.size (inb_s n)).emb y ≠ (Rect.unit (s := TS) ![r % 7, 0, 0] Ts.size (inb_s r)).toLoadRect.idx x := by
  intro hy
  have e : n % 7 + 1 * (y 0 : ℕ) = r % 7 + 1 * (x 0 : ℕ) := congrArg (fun z : TS.Idx => (z 0 : ℕ)) hy
  have hx : (x 0 : ℕ) < 1 := (x 0).isLt
  have hy0 : (y 0 : ℕ) < 1 := (y 0).isLt
  omega

/-- A slot of the ring, until seven more blocks have been written, holds its block. -/
theorem at_srec (t : ℕ) (S : TS.Idx → Elt F .f32) {r n : ℕ} (h : r < n) (h' : n ≤ r + 7) :
    at' (srec O D t S n) ![r % 7, 0, 0] Ts.size (inb_s r) = sc O D t r := by
  induction n with
  | zero => exact absurd h (Nat.not_lt_zero _)
  | succ n ih =>
    rcases Nat.lt_succ_iff_lt_or_eq.mp h with h1 | h1
    · rw [← ih h1 (by omega)]
      funext x
      exact put_of_not (srec O D t S n) _ _ _ (slot_ne (by omega) x)
    · subst h1
      funext x
      unfold at'
      rw [srec]
      exact put_emb (srec O D t S r) _ _ x

/-! ## The rules of the walk -/

section Walk

variable {nD : Nat} {τ : Topo} {sig : RefSig} {Λ : Labels}
variable {defs : Defs nD τ sig (Elt F) Λ} {c : Dev nD} {M : Mems sig} {π : Fin 3 → PosShare TreeShare}
variable {O D}

local notation "H" => heap (nD := nD) (τ := τ) (Val := Elt F) c M π

variable {β : Type}

theorem Triple.step {σ α : Type} {Hh : σ → sProp (MT nD τ sig Unit (Elt F) ℕ (UR sig nD τ) ℕ)} {p : Prog (TpuEff nD τ sig (Elt F) Λ .tc) α} {k : α → Prog (TpuEff nD τ sig (Elt F) Λ .tc) β}
    {s s' : σ} {a : α} {Q : β → σ → Prop} (hp : ∀ Q' : α → σ → Prop, Q' a s' → Triple defs c Hh p s Q')
    (h : Triple defs c Hh (k a) s' Q) : Triple defs c Hh (p >>= k) s Q := Triple.seq (hp _ h)

variable {o : TV.Idx → Elt F .bf16} {l : TL.Idx → Elt F .f32} {a : TA.Idx → Elt F .f32} {s : TS.Idx → Elt F .f32}

/-- The word read at place `n` of a table. -/
theorem word_step {m : Memref sig .tc .smem T136 .i32} {q : PosShare TreeShare} {X : T136.Idx → Elt F .i32} {st : St (Elt F)}
    (hs : H st ⊢ iprop(owns (c : Thread nD τ) m q X ∗ (owns (c : Thread nD τ) m q X -∗ H st)))
    (n : ℕ) (hn : n < 136) {off : Fin 1 → ℕ} {inb : ∀ x, off x + T1.size x ≤ T136.size x} {h1} {hp} (hoff : off = ![n])
    {k : Elt F .i32 → Prog (TpuEff nD τ sig (Elt F) Λ .tc) β} {Q : β → St (Elt F) → Prop}
    (h : Triple defs c H (k (wd X n)) st Q) :
    Triple defs c H (smemLoad (p := (.tc)) m (Rect.unit (s := T136) off T1.size inb) h1 hp >>= k) st Q := by
  subst hoff
  refine Triple.step (a := wd X n) (s' := st) (fun Q' hQ => ?_) h
  refine Triple.seq (p := Prog.lift (TpuEff.load m (Rect.unit (s := T136) ![n] T1.size inb).toLoadRect (View.loadsAt_rect (View.loads_smem_one hp h1))))
    (k := fun f => Prog.ret (f (Shape.Idx.first (h1.symm ▸ Nat.one_pos)))) (Triple.load (X := X) hs (Triple.ret ?_))
  have e : ((Rect.unit (s := T136) ![n] T1.size inb).toLoadRect.idx (Shape.Idx.first (h1.symm ▸ Nat.one_pos))) = (fun x => ⟨n % 136, mod_lt_T136 n x⟩ : T136.Idx) := by
    funext x
    fin_cases x
    apply Fin.ext
    have h0 : ((Shape.Idx.first (s := (Rect.unit (s := T136) ![n] T1.size inb).shape) (h1.symm ▸ Nat.one_pos)) 0 : ℕ) < 1 := Fin.isLt _
    show n + 1 * _ = n % 136
    rw [Nat.mod_eq_of_lt hn]
    have : ((Shape.Idx.first (s := (Rect.unit (s := T136) ![n] T1.size inb).shape) (h1.symm ▸ Nat.one_pos)) 0 : ℕ) = 0 := by omega
    exact (congrArg (fun z => n + 1 * z) this).trans (by omega)
  exact (congrArg (fun z => Q' z st) (congrArg X e)).mpr hQ

theorem assume_step {P : Prop} {d : Decidable P} (hP : P) {k : PLift P → Prog (TpuEff nD τ sig (Elt F) Λ .tc) β} {st : St (Elt F)}
    {Q : β → St (Elt F) → Prop} (h : Triple defs c H (k ⟨hP⟩) st Q) :
    Triple defs c H (Prog.lift (TpuEff.assume P d) >>= k) st Q := Triple.step (fun _ hQ => Triple.assume hP hQ) h

/-- A load through a unit rectangle, its contents found by splitting the state. -/
theorem load_step {sp : CoreSpace} {S : Shape} {e : EltTy} {m : Memref sig .tc sp S e} {q : PosShare TreeShare} {X : S.Idx → Elt F e}
    {st : St (Elt F)} (hs : H st ⊢ iprop(owns (c : Thread nD τ) m q X ∗ (owns (c : Thread nD τ) m q X -∗ H st)))
    {off size : Fin S.rank → ℕ} {inb : ∀ x, off x + size x ≤ S.size x} {hl}
    {k : (((Rect.unit (s := S) off size inb).toLoadRect).shape.Idx → Elt F e) → Prog (TpuEff nD τ sig (Elt F) Λ .tc) β} {Q : β → St (Elt F) → Prop}
    (h : Triple defs c H (k (at' X off size inb)) st Q) :
    Triple defs c H (Prog.lift (TpuEff.load m (Rect.unit (s := S) off size inb).toLoadRect hl) >>= k) st Q :=
  Triple.step (a := at' X off size inb) (s' := st) (fun _ hQ => Triple.load hs hQ) h

variable {k' : PUnit → Prog (TpuEff nD τ sig (Elt F) Λ .tc) β} {Q : β → St (Elt F) → Prop}

/-- A load whose contents stay what they are. -/
theorem load_cs {sp : CoreSpace} {S : Shape} {e : EltTy} {m : Memref sig .tc sp S e} {q : PosShare TreeShare} (X : S.Idx → Elt F e)
    {st : St (Elt F)} (hs : H st ⊢ iprop(owns (c : Thread nD τ) m q X ∗ (owns (c : Thread nD τ) m q X -∗ H st)))
    {off size : Fin S.rank → ℕ} {inb : ∀ x, off x + size x ≤ S.size x} {hl}
    {k : (((Rect.unit (s := S) off size inb).toLoadRect).shape.Idx → Elt F e) → Prog (TpuEff nD τ sig (Elt F) Λ .tc) β} {Q : β → St (Elt F) → Prop}
    (h : Triple defs c H (k (at' X off size inb)) st Q) :
    Triple defs c H (Prog.lift (TpuEff.load m (Rect.unit (s := S) off size inb).toLoadRect hl) >>= k) st Q := load_step hs h

theorem load_q {off size : Fin 5 → ℕ} {inb : ∀ x, off x + size x ≤ TQ.size x} {hl} {Q : β → St (Elt F) → Prop}
    {k : ((Rect.unit (s := TQ) off size inb).toLoadRect.shape.Idx → Elt F .bf16) → Prog (TpuEff nD τ sig (Elt F) Λ .tc) β}
    (h : Triple defs c H (k (at' D.q off size inb)) (cs D o l a s) Q) :
    Triple defs c H (Prog.lift (TpuEff.load M.q (Rect.unit (s := TQ) off size inb).toLoadRect hl) >>= k) (cs D o l a s) Q :=
  load_cs D.q (take_q (cs D o l a s)) h
theorem load_k {off size : Fin 5 → ℕ} {inb : ∀ x, off x + size x ≤ TK.size x} {hl} {Q : β → St (Elt F) → Prop}
    {k : ((Rect.unit (s := TK) off size inb).toLoadRect.shape.Idx → Elt F .bf16) → Prog (TpuEff nD τ sig (Elt F) Λ .tc) β}
    (h : Triple defs c H (k (at' D.k off size inb)) (cs D o l a s) Q) :
    Triple defs c H (Prog.lift (TpuEff.load M.k (Rect.unit (s := TK) off size inb).toLoadRect hl) >>= k) (cs D o l a s) Q :=
  load_cs D.k (take_k (cs D o l a s)) h
theorem load_v {off size : Fin 5 → ℕ} {inb : ∀ x, off x + size x ≤ TV.size x} {hl} {Q : β → St (Elt F) → Prop}
    {k : ((Rect.unit (s := TV) off size inb).toLoadRect.shape.Idx → Elt F .bf16) → Prog (TpuEff nD τ sig (Elt F) Λ .tc) β}
    (h : Triple defs c H (k (at' D.v off size inb)) (cs D o l a s) Q) :
    Triple defs c H (Prog.lift (TpuEff.load M.v (Rect.unit (s := TV) off size inb).toLoadRect hl) >>= k) (cs D o l a s) Q :=
  load_cs D.v (take_v (cs D o l a s)) h
theorem load_mr {off size : Fin 2 → ℕ} {inb : ∀ x, off x + size x ≤ TM.size x} {hl} {Q : β → St (Elt F) → Prop}
    {k : ((Rect.unit (s := TM) off size inb).toLoadRect.shape.Idx → Elt F .f32) → Prog (TpuEff nD τ sig (Elt F) Λ .tc) β}
    (h : Triple defs c H (k (at' D.mr off size inb)) (cs D o l a s) Q) :
    Triple defs c H (Prog.lift (TpuEff.load M.mr (Rect.unit (s := TM) off size inb).toLoadRect hl) >>= k) (cs D o l a s) Q :=
  load_cs D.mr (take_mr (cs D o l a s)) h
theorem load_lm {off size : Fin 2 → ℕ} {inb : ∀ x, off x + size x ≤ TLam.size x} {hl} {Q : β → St (Elt F) → Prop}
    {k : ((Rect.unit (s := TLam) off size inb).toLoadRect.shape.Idx → Elt F .f32) → Prog (TpuEff nD τ sig (Elt F) Λ .tc) β}
    (h : Triple defs c H (k (at' D.lm off size inb)) (cs D o l a s) Q) :
    Triple defs c H (Prog.lift (TpuEff.load M.lm (Rect.unit (s := TLam) off size inb).toLoadRect hl) >>= k) (cs D o l a s) Q :=
  load_cs D.lm (take_lm (cs D o l a s)) h
theorem load_sg {off size : Fin 2 → ℕ} {inb : ∀ x, off x + size x ≤ TG.size x} {hl} {Q : β → St (Elt F) → Prop}
    {k : ((Rect.unit (s := TG) off size inb).toLoadRect.shape.Idx → Elt F .f32) → Prog (TpuEff nD τ sig (Elt F) Λ .tc) β}
    (h : Triple defs c H (k (at' D.sg off size inb)) (cs D o l a s) Q) :
    Triple defs c H (Prog.lift (TpuEff.load M.sg (Rect.unit (s := TG) off size inb).toLoadRect hl) >>= k) (cs D o l a s) Q :=
  load_cs D.sg (take_sg (cs D o l a s)) h
theorem load_o {off size : Fin 5 → ℕ} {inb : ∀ x, off x + size x ≤ TV.size x} {hl} {Q : β → St (Elt F) → Prop}
    {k : ((Rect.unit (s := TV) off size inb).toLoadRect.shape.Idx → Elt F .bf16) → Prog (TpuEff nD τ sig (Elt F) Λ .tc) β}
    (h : Triple defs c H (k (at' o off size inb)) (cs D o l a s) Q) :
    Triple defs c H (Prog.lift (TpuEff.load M.o (Rect.unit (s := TV) off size inb).toLoadRect hl) >>= k) (cs D o l a s) Q :=
  load_cs o (take_o (cs D o l a s) o) h
theorem load_l {off size : Fin 3 → ℕ} {inb : ∀ x, off x + size x ≤ TL.size x} {hl} {Q : β → St (Elt F) → Prop}
    {k : ((Rect.unit (s := TL) off size inb).toLoadRect.shape.Idx → Elt F .f32) → Prog (TpuEff nD τ sig (Elt F) Λ .tc) β}
    (h : Triple defs c H (k (at' l off size inb)) (cs D o l a s) Q) :
    Triple defs c H (Prog.lift (TpuEff.load M.l (Rect.unit (s := TL) off size inb).toLoadRect hl) >>= k) (cs D o l a s) Q :=
  load_cs l (take_l (cs D o l a s) l) h
theorem load_a {off size : Fin 3 → ℕ} {inb : ∀ x, off x + size x ≤ TA.size x} {hl} {Q : β → St (Elt F) → Prop}
    {k : ((Rect.unit (s := TA) off size inb).toLoadRect.shape.Idx → Elt F .f32) → Prog (TpuEff nD τ sig (Elt F) Λ .tc) β}
    (h : Triple defs c H (k (at' a off size inb)) (cs D o l a s) Q) :
    Triple defs c H (Prog.lift (TpuEff.load M.a (Rect.unit (s := TA) off size inb).toLoadRect hl) >>= k) (cs D o l a s) Q :=
  load_cs a (take_a (cs D o l a s) a) h
theorem load_s {off size : Fin 3 → ℕ} {inb : ∀ x, off x + size x ≤ TS.size x} {hl} {Q : β → St (Elt F) → Prop}
    {k : ((Rect.unit (s := TS) off size inb).toLoadRect.shape.Idx → Elt F .f32) → Prog (TpuEff nD τ sig (Elt F) Λ .tc) β}
    (h : Triple defs c H (k (at' s off size inb)) (cs D o l a s) Q) :
    Triple defs c H (Prog.lift (TpuEff.load M.s (Rect.unit (s := TS) off size inb).toLoadRect hl) >>= k) (cs D o l a s) Q :=
  load_cs s (take_s (cs D o l a s) s) h

/-- The ring's slot of the block in turn, read. -/
theorem load_ring {t S A r n} (hr : r < n) (hn : n ≤ r + 7) {off : Fin 3 → ℕ} {inb : ∀ x, off x + Ts.size x ≤ TS.size x} {hl}
    (hoff : off = ![r % 7, 0, 0]) {k : (Ts.Idx → Elt F .f32) → Prog (TpuEff nD τ sig (Elt F) Λ .tc) β}
    (h : Triple defs c H (k (sc O D t r)) (cs D o l (arec O D t A r) (srec O D t S n)) Q) :
    Triple defs c H (Prog.lift (TpuEff.load M.s (Rect.unit (s := TS) off Ts.size inb).toLoadRect hl) >>= k) (cs D o l (arec O D t A r) (srec O D t S n)) Q := by
  subst hoff
  refine load_s ?_
  rw [show at' (srec O D t S n) ![r % 7, 0, 0] Ts.size inb = sc O D t r from at_srec O D t S hr hn]
  exact h

theorem store_s {t S n} {off : Fin 3 → ℕ} {inb : ∀ x, off x + Ts.size x ≤ TS.size x} {w : Ts.Idx → Elt F .f32} {hx hm}
    (hoff : off = ![n % 7, 0, 0]) (hw : w = sc O D t n) (h : Triple defs c H (k' ⟨⟩) (cs D o l a (srec O D t S (n + 1))) Q) :
    Triple defs c H (Prog.lift (TpuEff.store M.s (Rect.unit (s := TS) off Ts.size inb) w Finset.univ hx hm) >>= k') (cs D o l a (srec O D t S n)) Q := by
  subst hoff hw
  exact Triple.step (fun _ hQ => Triple.store (take_s (cs D o l a (srec O D t S n)) _) hQ) h

theorem store_l {t L u} {off : Fin 3 → ℕ} {inb : ∀ x, off x + Tl.size x ≤ TL.size x} {w : Tl.Idx → Elt F .f32} {hx hm}
    (hoff : off = ![(wd D.it (34 * t + u)).toNat, 0, 0])
    (hw : w = O.lnew (sc O D t u) (mrb D) (at' (lrec O D t L u) ![(wd D.it (34 * t + u)).toNat, 0, 0] Tl.size (inb_l (D.hi _))))
    (h : Triple defs c H (k' ⟨⟩) (cs D o (lrec O D t L (u + 1)) a s) Q) :
    Triple defs c H (Prog.lift (TpuEff.store M.l (Rect.unit (s := TL) off Tl.size inb) w Finset.univ hx hm) >>= k') (cs D o (lrec O D t L u) a s) Q := by
  subst hoff hw
  exact Triple.step (fun _ hQ => Triple.store (take_l (cs D o (lrec O D t L u) a s) _) hQ) h

theorem store_a {t A u} {off : Fin 3 → ℕ} {inb : ∀ x, off x + Ta.size x ≤ TA.size x} {w : Ta.Idx → Elt F .f32} {hx hm}
    (hoff : off = ![(wd D.it (34 * t + u)).toNat, 0, 0])
    (hw : w = O.anew (sc O D t u) (mrb D) (vb D (34 * t + u))
        (at' (arec O D t A u) ![(wd D.it (34 * t + u)).toNat, 0, 0] Ta.size (inb_a (D.hi _))))
    (h : Triple defs c H (k' ⟨⟩) (cs D o l (arec O D t A (u + 1)) s) Q) :
    Triple defs c H (Prog.lift (TpuEff.store M.a (Rect.unit (s := TA) off Ta.size inb) w Finset.univ hx hm) >>= k') (cs D o l (arec O D t A u) s) Q := by
  subst hoff hw
  exact Triple.step (fun _ hQ => Triple.store (take_a (cs D o l (arec O D t A u) s) _) hQ) h

theorem store_l0 {L n} {off : Fin 3 → ℕ} {inb : ∀ x, off x + Tl.size x ≤ TL.size x} {w : Tl.Idx → Elt F .f32} {hx hm}
    (hoff : off = ![n % 16, 0, 0]) (hw : w = O.l0) (h : Triple defs c H (k' ⟨⟩) (cs D o (linit O L (n + 1)) a s) Q) :
    Triple defs c H (Prog.lift (TpuEff.store M.l (Rect.unit (s := TL) off Tl.size inb) w Finset.univ hx hm) >>= k') (cs D o (linit O L n) a s) Q := by
  subst hoff hw
  exact Triple.step (fun _ hQ => Triple.store (take_l (cs D o (linit O L n) a s) _) hQ) h

theorem store_a0 {A n} {off : Fin 3 → ℕ} {inb : ∀ x, off x + Ta.size x ≤ TA.size x} {w : Ta.Idx → Elt F .f32} {hx hm}
    (hoff : off = ![n % 16, 0, 0]) (hw : w = O.a0) (h : Triple defs c H (k' ⟨⟩) (cs D o l (ainit O A (n + 1)) s) Q) :
    Triple defs c H (Prog.lift (TpuEff.store M.a (Rect.unit (s := TA) off Ta.size inb) w Finset.univ hx hm) >>= k') (cs D o l (ainit O A n) s) Q := by
  subst hoff hw
  exact Triple.step (fun _ hQ => Triple.store (take_a (cs D o l (ainit O A n) s) _) hQ) h

theorem store_o {X n} {off : Fin 5 → ℕ} {inb : ∀ x, off x + Tv.size x ≤ TV.size x} {w : Tv.Idx → Elt F .bf16} {hx hm}
    (hoff : off = ![0, 0, n % 16, 0, 0])
    (hw : w = O.fin (lmb D) (at' a ![n % 16, 0, 0] Ta.size (inb_a' n)) (at' l ![n % 16, 0, 0] Tl.size (inb_l' n)) (sgb D))
    (h : Triple defs c H (k' ⟨⟩) (cs D (orec O D l a X (n + 1)) l a s) Q) :
    Triple defs c H (Prog.lift (TpuEff.store M.o (Rect.unit (s := TV) off Tv.size inb) w Finset.univ hx hm) >>= k') (cs D (orec O D l a X n) l a s) Q := by
  subst hoff hw
  exact Triple.step (fun _ hQ => Triple.store (take_o (cs D (orec O D l a X n) l a s) _) hQ) h

variable {t : ℕ} {L : TL.Idx → Elt F .f32} {A : TA.Idx → Elt F .f32} {S : TS.Idx → Elt F .f32} {u u' n : ℕ}
variable {off : Fin 1 → ℕ} {inb : ∀ x, off x + T1.size x ≤ T136.size x}

/-- The three words of the pair whose scores come next. -/
theorem word_it_n {h1} {hp : EltTy.i32.packing = EltTy.i32.packing} (hoff : off = ![34 * t + n]) (hn : 34 * t + n < 136) {k : Elt F .i32 → Prog (TpuEff nD τ sig (Elt F) Λ .tc) β}
    (h : Triple defs c H (k (wd D.it (34 * t + n))) (cs D o l a (srec O D t S n)) Q) :
    Triple defs c H (smemLoad (p := .tc) M.it (Rect.unit (s := T136) off T1.size inb) h1 hp >>= k) (cs D o l a (srec O D t S n)) Q :=
  word_step (take_it _) _ hn hoff h
theorem word_jt_n {h1} {hp : EltTy.i32.packing = EltTy.i32.packing} (hoff : off = ![34 * t + n]) (hn : 34 * t + n < 136) {k : Elt F .i32 → Prog (TpuEff nD τ sig (Elt F) Λ .tc) β}
    (h : Triple defs c H (k (wd D.jt (34 * t + n))) (cs D o l a (srec O D t S n)) Q) :
    Triple defs c H (smemLoad (p := .tc) M.jt (Rect.unit (s := T136) off T1.size inb) h1 hp >>= k) (cs D o l a (srec O D t S n)) Q :=
  word_step (take_jt _) _ hn hoff h
theorem word_ot_n {h1} {hp : EltTy.i32.packing = EltTy.i32.packing} (hoff : off = ![34 * t + n]) (hn : 34 * t + n < 136) {k : Elt F .i32 → Prog (TpuEff nD τ sig (Elt F) Λ .tc) β}
    (h : Triple defs c H (k (wd D.ot (34 * t + n))) (cs D o l a (srec O D t S n)) Q) :
    Triple defs c H (smemLoad (p := .tc) M.ot (Rect.unit (s := T136) off T1.size inb) h1 hp >>= k) (cs D o l a (srec O D t S n)) Q :=
  word_step (take_ot _) _ hn hoff h

/-- The words of the pair whose weights come next. -/
theorem word_it_u {h1} {hp : EltTy.i32.packing = EltTy.i32.packing} (hoff : off = ![34 * t + u]) (hn : 34 * t + u < 136) {k : Elt F .i32 → Prog (TpuEff nD τ sig (Elt F) Λ .tc) β}
    (h : Triple defs c H (k (wd D.it (34 * t + u))) (cs D o (lrec O D t L u) a s) Q) :
    Triple defs c H (smemLoad (p := .tc) M.it (Rect.unit (s := T136) off T1.size inb) h1 hp >>= k) (cs D o (lrec O D t L u) a s) Q :=
  word_step (take_it _) _ hn hoff h
theorem word_jt_u {h1} {hp : EltTy.i32.packing = EltTy.i32.packing} (hoff : off = ![34 * t + u]) (hn : 34 * t + u < 136) {k : Elt F .i32 → Prog (TpuEff nD τ sig (Elt F) Λ .tc) β}
    (h : Triple defs c H (k (wd D.jt (34 * t + u))) (cs D o (lrec O D t L u) a s) Q) :
    Triple defs c H (smemLoad (p := .tc) M.jt (Rect.unit (s := T136) off T1.size inb) h1 hp >>= k) (cs D o (lrec O D t L u) a s) Q :=
  word_step (take_jt _) _ hn hoff h

/-- The program at the head is a sequence. -/
theorem head_seq {α : Type} {p : Prog (TpuEff nD τ sig (Elt F) Λ .tc) α} {k : α → Prog (TpuEff nD τ sig (Elt F) Λ .tc) β} {st : St (Elt F)}
    (h : Triple defs c H (p >>= k) st Q) : Triple defs c H (p >>= k) st Q := h

/-- A value handed on. -/
theorem pure_step {α : Type} {a : α} {st : St (Elt F)} {Q : α → St (Elt F) → Prop} (h : Q a st) :
    Triple defs c H (Pure.pure a : Prog (TpuEff nD τ sig (Elt F) Λ .tc) α) st Q := Triple.ret h

end Walk

end Cert.Proof.Diff

end
-- ==== Proof.Rows.lean ====
/- The tiled differential attention's buffers, row by row: what the clearing and the finishing steps leave in each row. -/
module

public import proofs.«01_k».proof.Proof.Tiles

@[expose] public section

noncomputable section

namespace Cert.Proof.Diff

open Idealize.ShloMosaic

variable {F : FTy → Type} (O : Ops F) (D : Inp F)

theorem row_ne_l {n r : ℕ} (h : n % 16 ≠ r % 16) (x y : Tl.Idx) :
    (Rect.unit (s := TL) ![n % 16, 0, 0] Tl.size (inb_l' n)).emb y ≠ (Rect.unit (s := TL) ![r % 16, 0, 0] Tl.size (inb_l' r)).toLoadRect.idx x := by
  intro hy
  have e : n % 16 + 1 * (y 0 : ℕ) = r % 16 + 1 * (x 0 : ℕ) := congrArg (fun z : TL.Idx => (z 0 : ℕ)) hy
  have hx : (x 0 : ℕ) < 1 := (x 0).isLt
  have hy0 : (y 0 : ℕ) < 1 := (y 0).isLt
  omega

theorem row_ne_a {n r : ℕ} (h : n % 16 ≠ r % 16) (x y : Ta.Idx) :
    (Rect.unit (s := TA) ![n % 16, 0, 0] Ta.size (inb_a' n)).emb y ≠ (Rect.unit (s := TA) ![r % 16, 0, 0] Ta.size (inb_a' r)).toLoadRect.idx x := by
  intro hy
  have e : n % 16 + 1 * (y 0 : ℕ) = r % 16 + 1 * (x 0 : ℕ) := congrArg (fun z : TA.Idx => (z 0 : ℕ)) hy
  have hx : (x 0 : ℕ) < 1 := (x 0).isLt
  have hy0 : (y 0 : ℕ) < 1 := (y 0).isLt
  omega

theorem row_ne_o {n r : ℕ} (h : n % 16 ≠ r % 16) (x y : Tv.Idx) :
    (Rect.unit (s := TV) ![0, 0, n % 16, 0, 0] Tv.size (inb_o' n)).emb y ≠ (Rect.unit (s := TV) ![0, 0, r % 16, 0, 0] Tv.size (inb_o' r)).toLoadRect.idx x := by
  intro hy
  have e : n % 16 + 1 * (y 2 : ℕ) = r % 16 + 1 * (x 2 : ℕ) := congrArg (fun z : TV.Idx => (z 2 : ℕ)) hy
  have hx : (x 2 : ℕ) < 1 := (x 2).isLt
  have hy0 : (y 2 : ℕ) < 1 := (y 2).isLt
  omega

theorem at_linit (L : TL.Idx → Elt F .f32) {r n : ℕ} (h : r < n) (h' : n ≤ 16) :
    at' (linit O L n) ![r % 16, 0, 0] Tl.size (inb_l' r) = O.l0 := by
  induction n with
  | zero => exact absurd h (Nat.not_lt_zero _)
  | succ n ih =>
    rcases Nat.lt_succ_iff_lt_or_eq.mp h with h1 | h1
    · rw [← ih h1 (by omega)]
      funext x
      exact put_of_not (linit O L n) _ _ _ (row_ne_l (by omega) x)
    · subst h1
      funext x
      unfold at'
      rw [linit]
      exact put_emb (linit O L r) _ _ x

theorem at_ainit (A : TA.Idx → Elt F .f32) {r n : ℕ} (h : r < n) (h' : n ≤ 16) :
    at' (ainit O A n) ![r % 16, 0, 0] Ta.size (inb_a' r) = O.a0 := by
  induction n with
  | zero => exact absurd h (Nat.not_lt_zero _)
  | succ n ih =>
    rcases Nat.lt_succ_iff_lt_or_eq.mp h with h1 | h1
    · rw [← ih h1 (by omega)]
      funext x
      exact put_of_not (ainit O A n) _ _ _ (row_ne_a (by omega) x)
    · subst h1
      funext x
      unfold at'
      rw [ainit]
      exact put_emb (ainit O A r) _ _ x

theorem at_orec (L : TL.Idx → Elt F .f32) (A : TA.Idx → Elt F .f32) (X : TV.Idx → Elt F .bf16) {r n : ℕ} (h : r < n) (h' : n ≤ 16) :
    at' (orec O D L A X n) ![0, 0, r % 16, 0, 0] Tv.size (inb_o' r)
      = O.fin (lmb D) (at' A ![r % 16, 0, 0] Ta.size (inb_a' r)) (at' L ![r % 16, 0, 0] Tl.size (inb_l' r)) (sgb D) := by
  induction n with
  | zero => exact absurd h (Nat.not_lt_zero _)
  | succ n ih =>
    rcases Nat.lt_succ_iff_lt_or_eq.mp h with h1 | h1
    · have hne : n % 16 ≠ r % 16 := by omega
      refine Eq.trans ?_ (ih h1 (Nat.le_of_succ_le h'))
      have e : orec O D L A X (n + 1) = put (orec O D L A X n) (Rect.unit (s := TV) ![0, 0, n % 16, 0, 0] Tv.size (inb_o' n))
          (O.fin (lmb D) (at' A ![n % 16, 0, 0] Ta.size (inb_a' n)) (at' L ![n % 16, 0, 0] Tl.size (inb_l' n)) (sgb D)) := by
        rw [orec]
      rw [e]
      generalize O.fin (lmb D) (at' A ![n % 16, 0, 0] Ta.size (inb_a' n)) (at' L ![n % 16, 0, 0] Tl.size (inb_l' n)) (sgb D) = w
      funext x
      have hy := row_ne_o hne x
      unfold at'
      exact put_of_not (orec O D L A X n) (Rect.unit (s := TV) ![0, 0, n % 16, 0, 0] Tv.size (inb_o' n)) w _ hy
    · subst h1
      funext x
      have e : orec O D L A X (r + 1) = put (orec O D L A X r) (Rect.unit (s := TV) ![0, 0, r % 16, 0, 0] Tv.size (inb_o' r))
          (O.fin (lmb D) (at' A ![r % 16, 0, 0] Ta.size (inb_a' r)) (at' L ![r % 16, 0, 0] Tl.size (inb_l' r)) (sgb D)) := by
        rw [orec]
      rw [e]
      generalize O.fin (lmb D) (at' A ![r % 16, 0, 0] Ta.size (inb_a' r)) (at' L ![r % 16, 0, 0] Tl.size (inb_l' r)) (sgb D) = w
      unfold at'
      exact put_emb (orec O D L A X r) (Rect.unit (s := TV) ![0, 0, r % 16, 0, 0] Tv.size (inb_o' r)) w x

/-- Row `i`, place `y`, of the row sums. -/
theorem idx_l (x : TL.Idx) : (Rect.unit (s := TL) ![(x 0).val % 16, 0, 0] Tl.size (inb_l' _)).toLoadRect.idx
    (fun d => match d with | 0 => (⟨0, Nat.one_pos⟩ : Fin 1) | 1 => x 1 | 2 => x 2) = x := by
  have h0 : (x 0 : ℕ) < 16 := (x 0).isLt
  funext d
  fin_cases d <;> apply Fin.ext
  · show (x 0 : ℕ) % 16 + 1 * 0 = x 0
    omega
  · show 0 + 1 * (x 1 : ℕ) = x 1
    omega
  · show 0 + 1 * (x 2 : ℕ) = x 2
    omega

theorem idx_a (x : TA.Idx) : (Rect.unit (s := TA) ![(x 0).val % 16, 0, 0] Ta.size (inb_a' _)).toLoadRect.idx
    (fun d => match d with | 0 => (⟨0, Nat.one_pos⟩ : Fin 1) | 1 => x 1 | 2 => x 2) = x := by
  have h0 : (x 0 : ℕ) < 16 := (x 0).isLt
  funext d
  fin_cases d <;> apply Fin.ext
  · show (x 0 : ℕ) % 16 + 1 * 0 = x 0
    omega
  · show 0 + 1 * (x 1 : ℕ) = x 1
    omega
  · show 0 + 1 * (x 2 : ℕ) = x 2
    omega

theorem idx_o (x : TV.Idx) : (Rect.unit (s := TV) ![0, 0, (x 2).val % 16, 0, 0] Tv.size (inb_o' _)).toLoadRect.idx
    (fun d => match d with | 0 => x 0 | 1 => x 1 | 2 => (⟨0, Nat.one_pos⟩ : Fin 1) | 3 => x 3 | 4 => x 4) = x := by
  have h0 : (x 2 : ℕ) < 16 := (x 2).isLt
  funext d
  fin_cases d <;> apply Fin.ext
  · show 0 + 1 * (x 0 : ℕ) = x 0
    omega
  · show 0 + 1 * (x 1 : ℕ) = x 1
    omega
  · show (x 2 : ℕ) % 16 + 1 * 0 = x 2
    omega
  · show 0 + 1 * (x 3 : ℕ) = x 3
    omega
  · show 0 + 1 * (x 4 : ℕ) = x 4
    omega

/-- Clearing forgets what the row sums and the accumulators held. -/
theorem linit_eq (L L' : TL.Idx → Elt F .f32) : linit O L 16 = linit O L' 16 := by
  funext x
  have h := (at_linit O L (r := (x 0).val) (x 0).isLt le_rfl).trans (at_linit O L' (r := (x 0).val) (x 0).isLt le_rfl).symm
  have h' := congrFun h (fun d => match d with | 0 => (⟨0, Nat.one_pos⟩ : Fin 1) | 1 => x 1 | 2 => x 2)
  unfold at' at h'
  rw [idx_l] at h'
  exact h'

theorem ainit_eq (A A' : TA.Idx → Elt F .f32) : ainit O A 16 = ainit O A' 16 := by
  funext x
  have h := (at_ainit O A (r := (x 0).val) (x 0).isLt le_rfl).trans (at_ainit O A' (r := (x 0).val) (x 0).isLt le_rfl).symm
  have h' := congrFun h (fun d => match d with | 0 => (⟨0, Nat.one_pos⟩ : Fin 1) | 1 => x 1 | 2 => x 2)
  unfold at' at h'
  rw [idx_a] at h'
  exact h'

theorem lT_eq (L L' : TL.Idx → Elt F .f32) (t : ℕ) : lT O D L t = lT O D L' t := by
  induction t with
  | zero => exact linit_eq O L L'
  | succ t ih => rw [lT, lT, ih]

theorem aT_eq (A A' : TA.Idx → Elt F .f32) (t : ℕ) : aT O D A t = aT O D A' t := by
  induction t with
  | zero => exact ainit_eq O A A'
  | succ t ih => rw [aT, aT, ih]

theorem orec_eq (L : TL.Idx → Elt F .f32) (A : TA.Idx → Elt F .f32) (X X' : TV.Idx → Elt F .bf16) :
    orec O D L A X 16 = orec O D L A X' 16 := by
  funext x
  have h := (at_orec O D L A X (r := (x 2).val) (x 2).isLt le_rfl).trans (at_orec O D L A X' (r := (x 2).val) (x 2).isLt le_rfl).symm
  have h' := congrFun h (fun d => match d with | 0 => x 0 | 1 => x 1 | 2 => (⟨0, Nat.one_pos⟩ : Fin 1) | 3 => x 3 | 4 => x 4)
  unfold at' at h'
  rw [idx_o] at h'
  exact h'

/-- The result block of one body, from its input blocks alone. -/
def outv [FloatOps F] : TV.Idx → Elt F .bf16 :=
  orec O D (lT O D (fun _ => FloatOps.ofBits .f32 0#32) 4) (aT O D (fun _ => FloatOps.ofBits .f32 0#32) 4)
    (fun _ => FloatOps.ofBits .bf16 0#16) 16

theorem outv_eq [FloatOps F] (L : TL.Idx → Elt F .f32) (A : TA.Idx → Elt F .f32) (X : TV.Idx → Elt F .bf16) :
    orec O D (lT O D L 4) (aT O D A 4) X 16 = outv O D := by
  unfold outv
  rw [lT_eq O D L (fun _ => FloatOps.ofBits .f32 0#32), aT_eq O D A (fun _ => FloatOps.ofBits .f32 0#32)]
  exact orec_eq O D _ _ _ _

end Cert.Proof.Diff

end
-- ==== Proof.IdealBody.lean ====
/- One kernel body of the tiled differential attention, as steps on its memory. -/
module

public import proofs.«01_k».proof.Proof.Tiles
public import proofs.«01_k».proof.Proof.Gen.AttnIdeal.Skeleton

@[expose] public section

noncomputable section

namespace Cert.AttnIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Diff Cert.AttnIdeal.Gen

variable {F : FTy → Type} [FloatOps F] [Named F]

/-- This program's arithmetic. -/
def ops : Ops F where
  mskd k q w := k0_pay1 k0_pay196 k q w
  plain k q := k0_pay8 k q
  lnew s m l := k0_pay13 s m l
  anew s m v a := k0_pay14 (k0_pay12 s m v) a
  l0 := k0_pay197
  a0 := k0_pay198
  fin lm a l g := k0_pay236 (k0_pay235 lm a l) g

variable {c : Dev nD} {M : Mems sig} {π : Fin 3 → PosShare TreeShare} {D : Inp F}

set_option maxHeartbeats 8000000 in
set_option maxRecDepth 100000 in
theorem trip (hM : Wholes M) (m12 : Memref sig .tc .vmem S16x1x512 .f32) (h12 : m12.IsWhole) (i : grid0.Coords)
    (t : Fin k0_t1_loop.trips) (o : TV.Idx → Elt F .bf16) (L : TL.Idx → Elt F .f32) (A : TA.Idx → Elt F .f32) (S : TS.Idx → Elt F .f32)
    (c0 c1 : BitVec 32) :
    Triple (defs₀ (F := F)) c (heap c M π)
      (k0_t1_body i M.it hM.it M.jt hM.jt M.ot hM.ot M.q hM.q M.k hM.k M.v hM.v M.mr hM.mr M.lm hM.lm M.sg hM.sg M.o hM.o m12 h12 M.l hM.l M.a hM.a M.s hM.s k0_pay196 c0 c1 t ())
      (cs D o (lrec ops D t L 0) (arec ops D t A 0) (srec ops D t S 0))
      (fun _ st => st = cs D o (lrec ops D t L 34) (arec ops D t A 34) (srec ops D t S 34)) := by
  have ht : t.val < 4 := t.isLt
  unfold k0_t1_body
  repeat' first
    | with_reducible exact pure_step rfl
    | with_reducible refine pure_step ?_
    | (with_reducible refine word_it_n ?x ?y ?_); (case x => exact ClosedOff.eq); (case y => omega)
    | (with_reducible refine word_it_u ?x ?y ?_); (case x => exact ClosedOff.eq); (case y => omega)
    | (with_reducible refine word_jt_n ?x ?y ?_); (case x => exact ClosedOff.eq); (case y => omega)
    | (with_reducible refine word_jt_u ?x ?y ?_); (case x => exact ClosedOff.eq); (case y => omega)
    | (with_reducible refine word_ot_n ?x ?y ?_); (case x => exact ClosedOff.eq); (case y => omega)
    | (with_reducible refine assume_step ?x ?_); (case x => first | exact inb_k (D.hj _) | exact inb_v (D.hj _) | exact inb_q (D.hi _) | exact ⟨inb_l (D.hi _), inb_a (D.hi _)⟩)
    | (with_reducible refine load_ring ?x ?y ?z ?_); (case x => omega); (case y => omega); (case z => rfl)
    | with_reducible refine load_q ?_
    | with_reducible refine load_k ?_
    | with_reducible refine load_v ?_
    | with_reducible refine load_mr ?_
    | with_reducible refine load_l ?_
    | with_reducible refine load_a ?_
    | with_reducible refine load_s ?_
    | (with_reducible refine store_s ?x ?y ?_); (case x => rfl); (case y => rfl)
    | (with_reducible refine store_l ?x ?y ?_); (case x => rfl); (case y => rfl)
    | (with_reducible refine store_a ?x ?y ?_); (case x => rfl); (case y => rfl)
    | with_reducible refine Triple.seq ?_
    | refine head_seq ?_

end Cert.AttnIdeal.Proof

end
-- ==== Proof.IdealRun.lean ====
/- The whole kernel body of the tiled differential attention: the sums cleared, four trips, sixteen tiles finished. -/
module

public import proofs.«01_k».proof.Proof.IdealBody

@[expose] public section

noncomputable section

namespace Cert.AttnIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Diff Cert.AttnIdeal.Gen

variable {F : FTy → Type} [FloatOps F] [Named F]

variable {c : Dev nD} {M : Mems sig} {π : Fin 3 → PosShare TreeShare} {D : Inp F}

/-- The four trips, one after the other. -/
theorem loop_step (hM : Wholes M) (m12 : Memref sig .tc .vmem S16x1x512 .f32) (h12 : m12.IsWhole) (i : grid0.Coords)
    (o : TV.Idx → Elt F .bf16) (L : TL.Idx → Elt F .f32) (A : TA.Idx → Elt F .f32) (S : TS.Idx → Elt F .f32)
    (c0 c1 : BitVec 32) {w : IVec S256x512 32} (hw : w = k0_pay196) {β : Type} {k : Unit → Prog (TpuEff nD τ sig (Elt F) Λ₀ .tc) β} {Q : β → St (Elt F) → Prop}
    (h : Triple (defs₀ (F := F)) c (heap c M π) (k ())
      (cs D (orec ops D (lT ops D L 4) (aT ops D A 4) o 0) (lT ops D L 4) (aT ops D A 4) (sT ops D S 4)) Q) :
    Triple (defs₀ (F := F)) c (heap c M π)
      (Scf.Loop.for k0_t1_loop k0_t1_ok ⟨⟩ (k0_t1_body i M.it hM.it M.jt hM.jt M.ot hM.ot M.q hM.q M.k hM.k M.v hM.v M.mr hM.mr M.lm hM.lm M.sg hM.sg M.o hM.o m12 h12 M.l hM.l M.a hM.a M.s hM.s w c0 c1) >>= k)
      (cs D o (linit ops L 16) (ainit ops A 16) S) Q := by
  subst hw
  have hl := Triple.loop (defs := defs₀ (F := F)) (c := c) (H := heap c M π) k0_t1_loop.lb k0_t1_loop.ub k0_t1_loop.st k0_t1_ok ()
    (k0_t1_body i M.it hM.it M.jt hM.jt M.ot hM.ot M.q hM.q M.k hM.k M.v hM.v M.mr hM.mr M.lm hM.lm M.sg hM.sg M.o hM.o m12 h12 M.l hM.l M.a hM.a M.s hM.s k0_pay196 c0 c1)
    (fun t _ st => st = cs D o (lT ops D L t) (aT ops D A t) (sT ops D S t)) (s := cs D o (linit ops L 16) (ainit ops A 16) S) rfl
    (fun t _ st hst => by subst hst; exact trip hM m12 h12 i t o _ _ _ c0 c1)
  refine Triple.seq (Triple.mono hl fun _ st hst => ?_)
  have hst' : st = cs D o (lT ops D L 4) (aT ops D A 4) (sT ops D S 4) := hst
  subst hst'
  exact h

set_option maxHeartbeats 8000000 in
set_option maxRecDepth 100000 in
theorem body (hM : Wholes M) (m12 : Memref sig .tc .vmem S16x1x512 .f32) (h12 : m12.IsWhole) (i : grid0.Coords)
    (o : TV.Idx → Elt F .bf16) (L : TL.Idx → Elt F .f32) (A : TA.Idx → Elt F .f32) (S : TS.Idx → Elt F .f32) :
    Triple (defs₀ (F := F)) c (heap c M π)
      (cc0_diff_attn i M.it hM.it M.jt hM.jt M.ot hM.ot M.q hM.q M.k hM.k M.v hM.v M.mr hM.mr M.lm hM.lm M.sg hM.sg M.o hM.o m12 h12 M.l hM.l M.a hM.a M.s hM.s)
      (cs D o (linit ops L 0) (ainit ops A 0) S)
      (fun _ st => st = cs D (orec ops D (lT ops D L 4) (aT ops D A 4) o 16) (lT ops D L 4) (aT ops D A 4) (sT ops D S 4)) := by
  rw [cc0_diff_attn_eq_skeleton]
  unfold cc0_diff_attn_skel
  rw [k0_part59_eq_skeleton]
  unfold k0_part59_skel
  repeat' first
    | with_reducible exact pure_step rfl
    | with_reducible refine pure_step ?_
    | with_reducible refine load_lm ?_
    | with_reducible refine load_sg ?_
    | with_reducible refine load_o ?_
    | with_reducible refine load_l ?_
    | with_reducible refine load_a ?_
    | (with_reducible refine store_l0 ?x ?y ?_); (case x => rfl); (case y => rfl)
    | (with_reducible refine store_a0 ?x ?y ?_); (case x => rfl); (case y => rfl)
    | (with_reducible refine store_o ?x ?y ?_); (case x => rfl); (case y => rfl)
    | (with_reducible refine loop_step hM m12 h12 i o L A S _ _ ?x ?_); (case x => rfl)
    | with_reducible refine Triple.seq ?_
    | refine head_seq ?_

end Cert.AttnIdeal.Proof

end
-- ==== Proof.IdealFrame.lean ====
/- The tiled differential attention's run: the pipeline's proof data, its body obligation, the launch, and what is left in
   memory. -/
module

public import proofs.«01_k».proof.Proof.IdealRun
public import proofs.«01_k».proof.Proof.Rows
public import proofs.«01_k».proof.Proof.Gen.AttnIdeal.Launch
public import Idealize.ShloMosaic.Lib.Pipeline.Frame
public import Idealize.ShloMosaic.Lib.Pipeline.FrameBody
public import Idealize.ShloMosaic.Lib.Claim

@[expose] public section

noncomputable section

namespace Cert.AttnIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Proof.Diff Cert.AttnIdeal.Gen

variable {F : FTy → Type} [FloatOps F] [Named F]

local notation "𝕄" => MT nD τ sig Unit (Elt F) ℕ (UR sig nD τ) ℕ

/-! ## The tables -/

theorem lit0_lt : ∀ k : Fin 136, (lit0 k).toNat < 16 := by decide +kernel
theorem lit1_lt : ∀ k : Fin 136, (lit1 k).toNat < 16 := by decide +kernel

/-- The tables the pipeline runs at: the three literals. -/
def adm : (pcfg0 (F := F)).Adm :=
  ⟨fun | 0 => (fun i => lit0 (S136.rowMajor i)) | 1 => (fun i => lit1 (S136.rowMajor i)) | 2 => (fun i => lit2 (S136.rowMajor i))
       | ⟨_ + 3, h⟩ => absurd h (Nat.not_lt.2 (Nat.le_add_left _ _)), trivial⟩

variable (m : (ℓ : Loc nD τ sig) → Buf (Elt F) ℓ) (ρ : Dev nD → PrngReg)

/-! ## The contents the region starts from -/

/-- A core's buffers when the kernel is called. -/
abbrev V (c : Dev nD) (b : Ref sig .tc) : Buf (Elt F) ((c : Thread nD τ).loc b) := StableHlo.after hostOps0 (fun b => m (c, b)) b

/-- Window `w`'s block at point `t`. -/
def blkv (c : Dev nD) (w : Fin 7) (t : Fin (cfg0 (F := F) adm).N) : ((cfg0 (F := F) adm).win w).block.Idx → Elt F ((cfg0 (F := F) adm).win w).elt :=
  (((cfg0 (F := F) adm).win w).blk t).view.read (Elt F) (V m c (Pipeline.arrRef spec0 w))

/-- What the body reads at point `t`. -/
def Din (c : Dev nD) (t : Fin (cfg0 (F := F) adm).N) : Inp F where
  it := fun i => lit0 (S136.rowMajor i)
  jt := fun i => lit1 (S136.rowMajor i)
  ot := fun i => lit2 (S136.rowMajor i)
  q := blkv m c 0 t
  k := blkv m c 1 t
  v := blkv m c 2 t
  mr := blkv m c 3 t
  lm := blkv m c 4 t
  sg := blkv m c 5 t
  hi := fun _ => lit0_lt _
  hj := fun _ => lit1_lt _

/-! ## The pipeline's proof data -/

/-- Each input buffer as fetched, the result's block as the body leaves it, the scratch and the tables kept. -/
def dats (_ : Fin 1) (c : Dev nD) : Dat τ (Elt F) Unit ℕ (UR sig nD τ) ℕ (cfg0 (F := F) adm) c where
  A w := V m c (Pipeline.arrRef spec0 w)
  after w t := match w with
    | ⟨0, _⟩ => blkv m c 0 t
    | ⟨1, _⟩ => blkv m c 1 t
    | ⟨2, _⟩ => blkv m c 2 t
    | ⟨3, _⟩ => blkv m c 3 t
    | ⟨4, _⟩ => blkv m c 4 t
    | ⟨5, _⟩ => blkv m c 5 t
    | ⟨6, _⟩ => outv ops (Din m c t)
    | ⟨_ + 7, h⟩ => absurd h (Nat.not_lt.2 (Nat.le_add_left _ _))
  Φ _ := iprop(Pipeline.ΦA spec0 c ∗ Pipeline.ΦT pre0 (adm (F := F)).1 c)
  q _ := fullShare
  owed _ := 0

theorem A_eq (c : Dev nD) (w : Fin 7) : (dats m 0 c).A w = V m c (Pipeline.arrRef spec0 w) := by
  dsimp only [dats]

theorem before0 (c : Dev nD) (t : Fin (cfg0 (F := F) adm).N) (d) : (dats m 0 c).before 0 t d = blkv m c 0 t :=
  (dats m 0 c).before_in_eq_fetched 0 rfl (fun _ => rfl) (fun _ _ _ => rfl) (fun _ => rfl) t d
theorem before1 (c : Dev nD) (t : Fin (cfg0 (F := F) adm).N) (d) : (dats m 0 c).before 1 t d = blkv m c 1 t :=
  (dats m 0 c).before_in_eq_fetched 1 rfl (fun _ => rfl) (fun _ _ _ => rfl) (fun _ => rfl) t d
theorem before2 (c : Dev nD) (t : Fin (cfg0 (F := F) adm).N) (d) : (dats m 0 c).before 2 t d = blkv m c 2 t :=
  (dats m 0 c).before_in_eq_fetched 2 rfl (fun _ => rfl) (fun _ _ _ => rfl) (fun _ => rfl) t d
theorem before3 (c : Dev nD) (t : Fin (cfg0 (F := F) adm).N) (d) : (dats m 0 c).before 3 t d = blkv m c 3 t :=
  (dats m 0 c).before_in_eq_fetched 3 rfl (fun _ => rfl) (fun _ _ _ => rfl) (fun _ => rfl) t d
theorem before4 (c : Dev nD) (t : Fin (cfg0 (F := F) adm).N) (d) : (dats m 0 c).before 4 t d = blkv m c 4 t :=
  (dats m 0 c).before_in_eq_fetched 4 rfl (fun _ => rfl) (fun _ _ _ => rfl) (fun _ => rfl) t d
theorem before5 (c : Dev nD) (t : Fin (cfg0 (F := F) adm).N) (d) : (dats m 0 c).before 5 t d = blkv m c 5 t :=
  (dats m 0 c).before_in_eq_fetched 5 rfl (fun _ => rfl) (fun _ _ _ => rfl) (fun _ => rfl) t d

/-! ## The body obligation -/

/-- The buffers of one point's body. -/
def mems (t : Fin (cfg0 (F := F) adm).N) : Mems sig where
  it := Memref.whole main_c
  jt := Memref.whole main_c_0
  ot := Memref.whole main_c_1
  q := spec0_0.stage ((cfg0 (F := F) adm).slots t 0)
  k := spec0_1.stage ((cfg0 (F := F) adm).slots t 1)
  v := spec0_2.stage ((cfg0 (F := F) adm).slots t 2)
  mr := spec0_3.stage ((cfg0 (F := F) adm).slots t 3)
  lm := spec0_4.stage ((cfg0 (F := F) adm).slots t 4)
  sg := spec0_5.stage ((cfg0 (F := F) adm).slots t 5)
  o := spec0_6.stage ((cfg0 (F := F) adm).slots t 6)
  l := Memref.whole cc0_scratch1
  a := Memref.whole cc0_scratch2
  s := Memref.whole cc0_scratch3

theorem wholes (t : Fin (cfg0 (F := F) adm).N) : Wholes (mems (F := F) t) where
  it := Memref.isWhole_whole _
  jt := Memref.isWhole_whole _
  ot := Memref.isWhole_whole _
  q := stage_whole0 0 _
  k := stage_whole0 1 _
  v := stage_whole0 2 _
  mr := stage_whole0 3 _
  lm := stage_whole0 4 _
  sg := stage_whole0 5 _
  o := stage_whole0 6 _
  l := Memref.isWhole_whole _
  a := Memref.isWhole_whole _
  s := Memref.isWhole_whole _

/-- A whole buffer's points-to is its memref owned. -/
theorem whole_in (c : Dev nD) (b : Ref sig .tc) (q : PosShare TreeShare) (f : Buf (Elt F) ((c : Thread nD τ).loc b)) :
    ((((c : Thread nD τ).loc b) ↦{q} f) : sProp 𝕄) ⊢ owns (c : Thread nD τ) (Memref.whole b) q f := by
  rw [owns_whole_eq]
  iintro H
  iexists f
  isplitr
  · ipureintro; rfl
  · iexact H

theorem whole_out (c : Dev nD) (b : Ref sig .tc) (q : PosShare TreeShare) (f : Buf (Elt F) ((c : Thread nD τ).loc b)) :
    (owns (c : Thread nD τ) (Memref.whole b) q f : sProp 𝕄) ⊢ (((c : Thread nD τ).loc b) ↦{q} f) := by
  rw [owns_whole_eq]
  iintro ⟨%g, %hg, H⟩
  subst hg
  iexact H

theorem owns_cast {c : Thread nD τ} {sp : Space} {sh : Shape} {e : EltTy} {mm : Memref sig c.2.kind sp sh e} {q : PosShare TreeShare}
    {X Y : sh.Idx → Elt F e} (h : X = Y) : (owns c mm q X : sProp 𝕄) ⊢ owns c mm q Y := by
  rw [h]

/-- The three tables, one by one. -/
theorem tables_eq (c : Dev nD) :
    (Pipeline.prefHeld pre0 c (fun _ => fullShare.right) (adm (F := F)).1 : sProp 𝕄)
      = iprop((((c : Thread nD τ).loc main_c) ↦{fullShare.right} (fun i => lit0 (S136.rowMajor i)))
          ∗ (((c : Thread nD τ).loc main_c_0) ↦{fullShare.right} (fun i => lit1 (S136.rowMajor i)))
          ∗ (((c : Thread nD τ).loc main_c_1) ↦{fullShare.right} (fun i => lit2 (S136.rowMajor i)))) := by
  unfold Pipeline.prefHeld
  rw [show (Finset.univ : Finset (Fin 3)) = insert 0 (insert 1 {2}) from by decide, bigSep_insert (by decide),
    bigSep_insert (by decide), bigSep_singleton]
  rfl

/-- The body run from its buffers, whatever is to be shown of them afterwards. -/
theorem body_wp (c : Dev nD) (t : Fin (cfg0 (F := F) adm).N) (D : Inp F)
    (o : TV.Idx → Elt F .bf16) (L : TL.Idx → Elt F .f32) (A : TA.Idx → Elt F .f32) (S : TS.Idx → Elt F .f32) (Ψ : sProp 𝕄) :
    iprop(heap c (mems (F := F) t) (fun _ => fullShare.right) (cs D o L A S)
        ∗ (∀ L' A' S', heap c (mems (F := F) t) (fun _ => fullShare.right) (cs D (outv ops D) L' A' S') -∗ Ψ))
      ⊢ wp frame (wpE (defs₀ (F := F)) Variants.none (c : Thread nD τ) none) Set.univ
          (defs₀ .tc (cfg0 (F := F) adm).body ((cfg0 (F := F) adm).bodyArgs t ((cfg0 (F := F) adm).slots t))) (fun _ => Ψ) := by
  have hb := body (c := c) (M := mems (F := F) t) (π := fun _ => fullShare.right) (D := D) (wholes t) (Memref.whole cc0_scratch0)
    (Memref.isWhole_whole _) (grid0.coords t) o L A S
  unfold Triple at hb
  refine BIBase.Entails.trans (sep_mono hb .rfl) (BIBase.Entails.trans (wp_frame_r _ _ _) (wp_mono _ _ _ fun _ => ?_))
  rw [outv_eq]
  iintro ⟨⟨%st, %hst, H⟩, K⟩
  subst hst
  iapply K
  iexact H

theorem body_obligation (c : Dev nD) : BodyObligation (dats m 0 c) (defs₀ (F := F)) Variants.none () Set.univ := fun t => by
  rw [bigSep_W0, bigSep_W0]
  dsimp only
  rw [show (dats m 0 c).Φ t.castSucc = iprop(Pipeline.ΦA spec0 c ∗ Pipeline.ΦT pre0 (adm (F := F)).1 c) from rfl,
    show (dats m 0 c).Φ t.succ = iprop(Pipeline.ΦA spec0 c ∗ Pipeline.ΦT pre0 (adm (F := F)).1 c) from rfl]
  unfold Pipeline.ΦA Pipeline.ΦT
  rw [scopedRest0_eq, tables_eq]
  iintro ⟨⟨⟨⟨Hm, ⟨%L, HL⟩, ⟨%A, HA⟩, ⟨%S, HS⟩⟩, Hp⟩, ⟨T0, T1, T2⟩⟩, HO, ⟨%d0, H0⟩, ⟨%d1, H1⟩, ⟨%d2, H2⟩, ⟨%d3, H3⟩, ⟨%d4, H4⟩, ⟨%d5, H5⟩, ⟨%d6, H6⟩⟩
  iapply (body_wp c t (Din m c t) ((dats m 0 c).before 6 t d6) L A S)
  isplitl [T0 T1 T2 H0 H1 H2 H3 H4 H5 H6 HL HA HS]
  · unfold heap cs
    isplitl [T0]; · iapply (whole_in c main_c _ _); iexact T0
    isplitl [T1]; · iapply (whole_in c main_c_0 _ _); iexact T1
    isplitl [T2]; · iapply (whole_in c main_c_1 _ _); iexact T2
    isplitl [H0]; · iapply (owns_cast (before0 m c t d0)); iexact H0
    isplitl [H1]; · iapply (owns_cast (before1 m c t d1)); iexact H1
    isplitl [H2]; · iapply (owns_cast (before2 m c t d2)); iexact H2
    isplitl [H3]; · iapply (owns_cast (before3 m c t d3)); iexact H3
    isplitl [H4]; · iapply (owns_cast (before4 m c t d4)); iexact H4
    isplitl [H5]; · iapply (owns_cast (before5 m c t d5)); iexact H5
    isplitl [H6]; · iexact H6
    isplitl [HL]; · iapply (whole_in c cc0_scratch1 _ _); iexact HL
    isplitl [HA]; · iapply (whole_in c cc0_scratch2 _ _); iexact HA
    iapply (whole_in c cc0_scratch3 _ _); iexact HS
  iintro %L' %A' %S' Hh
  unfold heap cs
  icases Hh with ⟨T0, T1, T2, H0, H1, H2, H3, H4, H5, H6, HL, HA, HS⟩
  isplitl [Hm HL HA HS Hp T0 T1 T2]
  · isplitl [Hm HL HA HS Hp]
    · isplitl [Hm HL HA HS]
      · isplitl [Hm]; · iexact Hm
        isplitl [HL]; · iexists L'; iapply (whole_out c cc0_scratch1 _ _); iexact HL
        isplitl [HA]; · iexists A'; iapply (whole_out c cc0_scratch2 _ _); iexact HA
        iexists S'; iapply (whole_out c cc0_scratch3 _ _); iexact HS
      · iexact Hp
    · isplitl [T0]; · iapply (whole_out c main_c _ _); iexact T0
      isplitl [T1]; · iapply (whole_out c main_c_0 _ _); iexact T1
      iapply (whole_out c main_c_1 _ _); iexact T2
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-! ## The launch -/

/-- The references the host's operations write. -/
theorem not_written (b : Ref sig .tc) (hb : b ≠ main_c ∧ b ≠ main_c_0 ∧ b ≠ main_c_1 ∧ b ≠ main_v0 ∧ b ≠ main_v1 ∧ b ≠ main_v2 ∧ b ≠ main_v3
      ∧ b ≠ main_v4 ∧ b ≠ main_v5 ∧ b ≠ main_v6 ∧ b ≠ main_v7 ∧ b ≠ main_v8 ∧ b ≠ main_v9 ∧ b ≠ main_v10 ∧ b ≠ main_v11 ∧ b ≠ main_v12
      ∧ b ≠ main_v13 ∧ b ≠ main_v14) :
    ∀ op ∈ (hostOps0 (F := F)), Proc.devRef .tc b ∉ op.writes := by
  obtain ⟨h0, h1, h2, h3, h4, h5, h6, h7, h8, h9, h10, h11, h12, h13, h14, h15, h16, h17⟩ := hb
  intro op hop
  simp only [List.mem_cons, List.mem_nil_iff, or_false] at hop
  rcases hop with rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, StableHlo.nary_writes,
      Finset.mem_singleton] <;>
    exact StableHlo.devRef_ne_of_ne ‹_›

/-- An argument reaches the kernel as launched. -/
theorem V_arg (c : Dev nD) (b : Ref sig .tc) (hb : b ≠ main_c ∧ b ≠ main_c_0 ∧ b ≠ main_c_1 ∧ b ≠ main_v0 ∧ b ≠ main_v1 ∧ b ≠ main_v2 ∧ b ≠ main_v3
      ∧ b ≠ main_v4 ∧ b ≠ main_v5 ∧ b ≠ main_v6 ∧ b ≠ main_v7 ∧ b ≠ main_v8 ∧ b ≠ main_v9 ∧ b ≠ main_v10 ∧ b ≠ main_v11 ∧ b ≠ main_v12
      ∧ b ≠ main_v13 ∧ b ≠ main_v14) : V m c b = m ((c : Thread nD τ).loc b) :=
  StableHlo.after_of_forall_not_mem (b := Proc.devRef .tc b) hostOps0 (fun b => m (c, b)) (not_written b hb)

/-- The tables reach the kernel as the three literals. -/
theorem V_table (c : Dev nD) (k : Fin 3) : V m c (pre0.ref k) = (adm (F := F)).1 k := by
  fin_cases k
  · show StableHlo.after (hostOps0 (F := F)) (fun b => m (c, b)) main_c = fun i => lit0 (S136.rowMajor i)
    unfold_abbrev_sides
    after_results
    exact rfl
  · show StableHlo.after (hostOps0 (F := F)) (fun b => m (c, b)) main_c_0 = fun i => lit1 (S136.rowMajor i)
    unfold_abbrev_sides
    after_results
    exact rfl
  · show StableHlo.after (hostOps0 (F := F)) (fun b => m (c, b)) main_c_1 = fun i => lit2 (S136.rowMajor i)
    unfold_abbrev_sides
    after_results
    exact rfl

/-- What is left in memory: the arguments as launched, the result's array as the proof data computes it. -/
def Left (r : PUnit × MemSt nD τ sig (Elt F)) : Prop :=
  ∀ c : Dev nD, (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8))
    ∧ r.2.mem ((c : Thread nD τ).loc main_v15) = (dats m 0 c).arrAt 6 (cfg0 (F := F) adm).N

theorem run : θ_run (defs (F := F)) (onTc (τ := τ) (main (F := F))) ⟨m, fun _ => 0, ρ⟩ (fun r => Left m r ∧ r.2.sem = fun _ => 0) := by
  refine Pipeline.θ_run_frameP (pcfgs (F := F)) (fun _ => adm) (dats m) (0 : Fin 1) launch0 defs₀ Variants.none m ρ main
    (fun c => (body_obligation m c).loose) (fun c w => ?_) (fun _ _ => rfl) (V m)
    (Pipeline.hmainP_prefix (pcfgs (F := F)) 0 defs₀ Variants.none m main hostOps0 hostOps0_sub ?_ main_chain)
    (A_eq m) (V_table m) (fun _ _ => rfl) (Q' := fun r => Left m r ∧ r.2.sem = fun _ => 0) ?_
  · unfold Dat.share
    split <;> rfl
  · simp only [List.Forall]
    exact ⟨rfl, rfl, rfl, rfl, rfl, rfl, rfl, rfl, rfl, rfl, rfl, rfl, rfl, rfl, rfl, rfl, rfl, rfl⟩
  · rintro r ⟨hr, hs⟩
    refine ⟨fun c => ?_, hs⟩
    have h := hr c
    have hin : ∀ w : Fin 7, ((cfg0 (F := F) adm).win w).isOut = false →
        r.2.mem (((cfg0 (F := F) adm).win w).arr.view.loc (c : Thread nD τ)) = V m c (Pipeline.arrRef spec0 w) := fun w hw =>
      (h.1 w).trans (((dats m 0 c).arrAt_in w hw _).trans (A_eq m c w))
    have hrest : ∀ b : Ref sig .tc, b.isScoped = false → (∀ w, (spec0 w).arr.view.ref ≠ b) →
        r.2.mem ((c : Thread nD τ).loc b) = V m c b := fun b hb ha => h.2 b (Pipeline.mem_restRefs_of b hb ha)
    refine ⟨⟨(hin 0 rfl).trans (V_arg m c main_arg0 (by decide)), (hin 1 rfl).trans (V_arg m c main_arg1 (by decide)),
      (hin 2 rfl).trans (V_arg m c main_arg2 (by decide)),
      (hrest main_arg3 (by decide) (by decide)).trans (V_arg m c main_arg3 (by decide)),
      (hrest main_arg4 (by decide) (by decide)).trans (V_arg m c main_arg4 (by decide)),
      (hrest main_arg5 (by decide) (by decide)).trans (V_arg m c main_arg5 (by decide)),
      (hrest main_arg6 (by decide) (by decide)).trans (V_arg m c main_arg6 (by decide)),
      (hrest main_arg7 (by decide) (by decide)).trans (V_arg m c main_arg7 (by decide)),
      (hrest main_arg8 (by decide) (by decide)).trans (V_arg m c main_arg8 (by decide))⟩, h.1 6⟩

end Cert.AttnIdeal.Proof

end
-- ==== Proof.IdealOps.lean ====
/- The arithmetic of the tiled differential attention over the extended reals, entry by entry. -/
module

public import proofs.«01_k».proof.Proof.IdealBody
public import Idealize.ShloMosaic.Lib.Pointwise
public import Idealize.ShloMosaic.Lib.WordCmp

@[expose] public section

set_option maxRecDepth 16384

noncomputable section

namespace Cert.AttnIdeal.Proof

open Idealize.ShloMosaic Cert.Proof.Diff Cert.AttnIdeal.Gen

theorem plain_at (k : Tk.Idx → Ideal .bf16) (q : Tq.Idx → Ideal .bf16) (r : Fin 256) (c : Fin 512) :
    (ops (F := Ideal)).plain k q (ix3 0 r c) = ∑ d : Fin 128, (k (ix5 0 0 0 r d) : EReal) * q (ix5 0 0 0 c d) := by
  unfold ops
  dsimp only
  pointwise [k0_pay8]

theorem low_bits : ∀ c : Fin 512, IntOp.andi (BitVec.ofNat 32 c) 255#32 = BitVec.ofNat 32 (c % 256) := by decide +kernel

theorem below (r p : Fin 256) : IntOp.cmpi .sle (IntOp.subi (BitVec.ofNat 32 r) (BitVec.ofNat 32 p)) 0#32 = BitVec.ofBool (decide (r ≤ p)) := by
  have h : ∀ r p : Fin 256, IntOp.cmpi .sle (IntOp.subi (BitVec.ofNat 32 r) (BitVec.ofNat 32 p)) 0#32 = BitVec.ofBool (decide (r ≤ p)) := by
    decide +kernel
  exact h r p

/-- The scores of a block on the diagonal: a key after its query is masked. -/
theorem mskd_at (k : Tk.Idx → Ideal .bf16) (q : Tq.Idx → Ideal .bf16) (r : Fin 256) (c : Fin 512) :
    (ops (F := Ideal)).mskd k q 0#32 (ix3 0 r c)
      = if (r : ℕ) ≤ c % 256 then ∑ d : Fin 128, (k (ix5 0 0 0 r d) : EReal) * q (ix5 0 0 0 c d) else ⊥ := by
  unfold ops
  dsimp only
  pointwise [k0_pay1, k0_pay196]
  have hb := below r ⟨c % 256, Nat.mod_lt _ (by norm_num)⟩
  have hm : (Named.named κ "mask" 4048155338#32 : Ideal .f32) = (⊥ : EReal) := IdealRules.named_const.ideal_named_scalar _ _ _ _ rfl
  rw [low_bits, hm]
  rw [show IntOp.cmpi .sle (IntOp.subi (BitVec.ofNat 32 r) (BitVec.ofNat 32 (c % 256))) 0#32 = _ from hb]
  rw [WordCmp.select_ofBool]
  by_cases h : (r : ℕ) ≤ c % 256
  · rw [if_pos h, if_pos (decide_eq_true (show r ≤ ⟨c % 256, _⟩ from h))]
  · rw [if_neg h, if_neg fun e => h (Fin.le_def.mp (of_decide_eq_true e))]

theorem lnew_at (s : Ts.Idx → Ideal .f32) (mr : TM.Idx → Ideal .f32) (l : Tl.Idx → Ideal .f32) (c : Fin 512) :
    (ops (F := Ideal)).lnew s mr l (ix3 0 0 c) = (l (ix3 0 0 c) : EReal) + ∑ r : Fin 256, Ideal.exp2 ((s (ix3 0 r c) : EReal) - mr (ix2 0 c)) := by
  unfold ops
  dsimp only
  pointwise [k0_pay13, k0_pay11]
  rfl

theorem anew_at (s : Ts.Idx → Ideal .f32) (mr : TM.Idx → Ideal .f32) (v : Tv.Idx → Ideal .bf16) (a : Ta.Idx → Ideal .f32) (d : Fin 128) (c : Fin 512) :
    (ops (F := Ideal)).anew s mr v a (ix3 0 d c)
      = (a (ix3 0 d c) : EReal) + ∑ r : Fin 256, (v (ix5 0 0 0 d r) : EReal) * Ideal.exp2 ((s (ix3 0 r c) : EReal) - mr (ix2 0 c)) := by
  unfold ops
  dsimp only
  pointwise [k0_pay14, k0_pay12, k0_pay11]
  rfl

theorem l0_at (c : Fin 512) : (ops (F := Ideal)).l0 (ix3 0 0 c) = (0 : EReal) := by
  unfold ops
  dsimp only
  pointwise [k0_pay197]

theorem a0_at (d : Fin 128) (c : Fin 512) : (ops (F := Ideal)).a0 (ix3 0 d c) = (0 : EReal) := by
  unfold ops
  dsimp only
  pointwise [k0_pay198]

/-- The weight of the second half, from the four rows. -/
def lamv (lm : TLam.Idx → EReal) : EReal :=
  Ideal.exp (∑ d : Fin 64, lm (ix2 0 d) * lm (ix2 1 d)) - Ideal.exp (∑ d : Fin 64, lm (ix2 2 d) * lm (ix2 3 d)) + Ideal.ofBits .f32 0x3E4CCCCD#32

/-- One row of the tile before its normalisation: the difference of the halves. -/
def mixv (lm : TLam.Idx → EReal) (a : Ta.Idx → EReal) (l : Tl.Idx → EReal) (p : Fin 256) (d : Fin 128) : EReal :=
  a (ix3 0 d ⟨p, by omega⟩) * Ideal.div 1 (l (ix3 0 0 ⟨p, by omega⟩))
    - lamv lm * (a (ix3 0 d ⟨256 + p, by omega⟩) * Ideal.div 1 (l (ix3 0 0 ⟨256 + p, by omega⟩)))

theorem fin_at (lm : TLam.Idx → Ideal .f32) (a : Ta.Idx → Ideal .f32) (l : Tl.Idx → Ideal .f32) (g : TG.Idx → Ideal .f32) (d : Fin 128) (p : Fin 256) :
    (ops (F := Ideal)).fin lm a l g (ix5 0 0 0 d p)
      = mixv lm a l p d * Ideal.rsqrt (Ideal.div (∑ e : Fin 128, mixv lm a l p e * mixv lm a l p e) (Ideal.ofBits .f32 0x43000000#32) + Ideal.ofBits .f32 0x358637BD#32)
        * g (ix2 d p) * Ideal.ofBits .f32 0x3F4CCCCD#32 := by
  unfold ops
  dsimp only
  pointwise [k0_pay236, k0_pay235, k0_pay234]
  rfl

end Cert.AttnIdeal.Proof

end
-- ==== Proof.RowSum.lean ====
/- What the tiled differential attention has summed for a query tile when its loop ends: every key tile up to the query's own,
   each once. -/
module

public import proofs.«01_k».proof.Proof.IdealOps
public import proofs.«01_k».proof.Proof.Rows

@[expose] public section

set_option maxRecDepth 16384

noncomputable section

namespace Cert.AttnIdeal.Proof

open Idealize.ShloMosaic Cert.Proof.Diff Cert.AttnIdeal.Gen

/-! ## The order of the pairs -/

/-- The query tile and the key tile of pair `n`. -/
def qt (n : ℕ) : ℕ := (wd (fun i => lit0 (S136.rowMajor i)) n).toNat
def kt (n : ℕ) : ℕ := (wd (fun i => lit1 (S136.rowMajor i)) n).toNat

theorem qt_lt (n : ℕ) : qt n < 16 := lit0_lt' _ where
  lit0_lt' : ∀ k : Fin 136, (lit0 k).toNat < 16 := by decide +kernel
theorem kt_lt (n : ℕ) : kt n < 16 := lit1_lt' _ where
  lit1_lt' : ∀ k : Fin 136, (lit1 k).toNat < 16 := by decide +kernel

/-- A masked pair lies on the diagonal, its offset word zero. -/
theorem diag_pair : ∀ n : Fin 136, n.val % 34 < 4 → qt n = kt n ∧ wd (fun i => lit2 (S136.rowMajor i)) n = 0#32 := by
  decide +kernel

/-- The others lie below it. -/
theorem low_pair : ∀ n : Fin 136, ¬ n.val % 34 < 4 → kt n < qt n := by decide +kernel

theorem pair_inj : ∀ n n' : Fin 136, qt n = qt n' → kt n = kt n' → n = n' := by decide +kernel

theorem pair_surj : ∀ i j : Fin 16, j ≤ i → ∃ n : Fin 136, qt n = i ∧ kt n = j := by decide +kernel

theorem kt_le (n : Fin 136) : kt n ≤ qt n := by
  by_cases h : n.val % 34 < 4
  · exact (diag_pair n h).1.ge
  · exact (low_pair n h).le

/-- The pairs of one query tile are its key tiles, each once. -/
theorem sum_pairs {M : Type} [AddCommMonoid M] (i : Fin 16) (f : ℕ → M) :
    ∑ n ∈ Finset.range 136, (if qt n = i then f (kt n) else 0) = ∑ j : Fin 16, if j ≤ i then f j else 0 := by
  rw [← Fin.sum_univ_eq_sum_range (fun n => if qt n = i then f (kt n) else 0), ← Finset.sum_filter, ← Finset.sum_filter]
  refine Finset.sum_bij (fun n _ => (⟨kt n, kt_lt n⟩ : Fin 16)) ?_ ?_ ?_ ?_
  · intro n hn
    rw [Finset.mem_filter] at hn ⊢
    exact ⟨Finset.mem_univ _, show kt n ≤ (i : ℕ) from hn.2 ▸ kt_le n⟩
  · intro n hn n' hn' e
    rw [Finset.mem_filter] at hn hn'
    exact pair_inj n n' (hn.2.trans hn'.2.symm) (Fin.mk.inj e)
  · intro j hj
    rw [Finset.mem_filter] at hj
    obtain ⟨n, h1, h2⟩ := pair_surj i j hj.2
    exact ⟨n, Finset.mem_filter.mpr ⟨Finset.mem_univ _, h1⟩, Fin.ext h2⟩
  · intro n _
    rfl

/-! ## Tiles read at an index -/

theorem qb_at (D : Inp Ideal) (n : ℕ) (c : Fin 512) (d : Fin 128) (hn : (wd D.it n).toNat < 16) :
    qb D n (ix5 0 0 0 c d) = D.q (ix5 0 0 ⟨(wd D.it n).toNat, hn⟩ c d) := by
  refine congrArg D.q (funext fun a => Fin.ext ?_)
  match a with
  | ⟨0, _⟩ => rfl
  | ⟨1, _⟩ => rfl
  | ⟨2, _⟩ => rfl
  | ⟨3, _⟩ => exact (Nat.zero_add _).trans (Nat.one_mul _)
  | ⟨4, _⟩ => exact (Nat.zero_add _).trans (Nat.one_mul _)

theorem kb_at (D : Inp Ideal) (n : ℕ) (r : Fin 256) (d : Fin 128) (hn : (wd D.jt n).toNat < 16) :
    kb D n (ix5 0 0 0 r d) = D.k (ix5 0 0 ⟨(wd D.jt n).toNat, hn⟩ r d) := by
  refine congrArg D.k (funext fun a => Fin.ext ?_)
  match a with
  | ⟨0, _⟩ => rfl
  | ⟨1, _⟩ => rfl
  | ⟨2, _⟩ => rfl
  | ⟨3, _⟩ => exact (Nat.zero_add _).trans (Nat.one_mul _)
  | ⟨4, _⟩ => exact (Nat.zero_add _).trans (Nat.one_mul _)

theorem vb_at (D : Inp Ideal) (n : ℕ) (d : Fin 128) (r : Fin 256) (hn : (wd D.jt n).toNat < 16) :
    vb D n (ix5 0 0 0 d r) = D.v (ix5 0 0 ⟨(wd D.jt n).toNat, hn⟩ d r) := by
  refine congrArg D.v (funext fun a => Fin.ext ?_)
  match a with
  | ⟨0, _⟩ => rfl
  | ⟨1, _⟩ => rfl
  | ⟨2, _⟩ => rfl
  | ⟨3, _⟩ => exact (Nat.zero_add _).trans (Nat.one_mul _)
  | ⟨4, _⟩ => exact (Nat.zero_add _).trans (Nat.one_mul _)

theorem mrb_at (D : Inp Ideal) (x : TM.Idx) : mrb D x = D.mr x := by
  refine congrArg D.mr (funext fun a => Fin.ext ?_)
  match a with
  | ⟨0, _⟩ => exact (Nat.zero_add _).trans (Nat.one_mul _)
  | ⟨1, _⟩ => exact (Nat.zero_add _).trans (Nat.one_mul _)
theorem lmb_at (D : Inp Ideal) (x : TLam.Idx) : lmb D x = D.lm x := by
  refine congrArg D.lm (funext fun a => Fin.ext ?_)
  match a with
  | ⟨0, _⟩ => exact (Nat.zero_add _).trans (Nat.one_mul _)
  | ⟨1, _⟩ => exact (Nat.zero_add _).trans (Nat.one_mul _)
theorem sgb_at (D : Inp Ideal) (x : TG.Idx) : sgb D x = D.sg x := by
  refine congrArg D.sg (funext fun a => Fin.ext ?_)
  match a with
  | ⟨0, _⟩ => exact (Nat.zero_add _).trans (Nat.one_mul _)
  | ⟨1, _⟩ => exact (Nat.zero_add _).trans (Nat.one_mul _)

theorem emb_l (w : ℕ) (inb : ∀ x, (![w, 0, 0] : Fin 3 → ℕ) x + Tl.size x ≤ TL.size x) (hw : w < 16) (c : Fin 512) :
    (Rect.unit (s := TL) ![w, 0, 0] Tl.size inb).emb (ix3 (n0 := 1) (n1 := 1) (n2 := 512) 0 0 c) = ix3 ⟨w, hw⟩ 0 c := by
  funext a
  apply Fin.ext
  match a with
  | ⟨0, _⟩ => rfl
  | ⟨1, _⟩ => rfl
  | ⟨2, _⟩ => exact (Nat.zero_add _).trans (Nat.one_mul _)

theorem emb_a (w : ℕ) (inb : ∀ x, (![w, 0, 0] : Fin 3 → ℕ) x + Ta.size x ≤ TA.size x) (hw : w < 16) (d : Fin 128) (c : Fin 512) :
    (Rect.unit (s := TA) ![w, 0, 0] Ta.size inb).emb (ix3 (n0 := 1) (n1 := 128) (n2 := 512) 0 d c) = ix3 ⟨w, hw⟩ d c := by
  funext a
  apply Fin.ext
  match a with
  | ⟨0, _⟩ => rfl
  | ⟨1, _⟩ => exact (Nat.zero_add _).trans (Nat.one_mul _)
  | ⟨2, _⟩ => exact (Nat.zero_add _).trans (Nat.one_mul _)

theorem emb_o (i : Fin 16) (inb : ∀ x, (![0, 0, (i : ℕ) % 16, 0, 0] : Fin 5 → ℕ) x + Tv.size x ≤ TV.size x) (d : Fin 128) (p : Fin 256) :
    (Rect.unit (s := TV) ![0, 0, (i : ℕ) % 16, 0, 0] Tv.size inb).emb (ix5 (n0 := 1) (n1 := 1) (n2 := 1) (n3 := 128) (n4 := 256) 0 0 0 d p) = ix5 0 0 i d p := by
  funext a
  apply Fin.ext
  match a with
  | ⟨0, _⟩ => rfl
  | ⟨1, _⟩ => rfl
  | ⟨2, _⟩ => exact (Nat.add_zero _).trans (Nat.mod_eq_of_lt i.isLt)
  | ⟨3, _⟩ => exact (Nat.zero_add _).trans (Nat.one_mul _)
  | ⟨4, _⟩ => exact (Nat.zero_add _).trans (Nat.one_mul _)

/-! ## The scores -/

variable (D : Inp Ideal) (ht : D.it = fun i => lit0 (S136.rowMajor i)) (hk : D.jt = fun i => lit1 (S136.rowMajor i))
  (ho : D.ot = fun i => lit2 (S136.rowMajor i))

/-- The score of key `r` of tile `j` for column `c` of query tile `i`: masked when the key comes after the query. -/
def ks (i j : Fin 16) (r : Fin 256) (c : Fin 512) : EReal :=
  if 256 * (j : ℕ) + r ≤ 256 * i + c % 256 then ∑ d : Fin 128, (D.k (ix5 0 0 j r d) : EReal) * D.q (ix5 0 0 i c d) else ⊥

include ht hk ho in
theorem sc_at (t u : ℕ) (htt : t < 4) (hu : u < 34) (r : Fin 256) (c : Fin 512) :
    sc (ops (F := Ideal)) D t u (ix3 0 r c) = ks D ⟨qt (34 * t + u), qt_lt _⟩ ⟨kt (34 * t + u), kt_lt _⟩ r c := by
  have hq : (wd D.it (34 * t + u)).toNat = qt (34 * t + u) := by rw [ht]; rfl
  have hkk : (wd D.jt (34 * t + u)).toNat = kt (34 * t + u) := by rw [hk]; rfl
  have hs : ∑ d : Fin 128, (kb D (34 * t + u) (ix5 0 0 0 r d) : EReal) * qb D (34 * t + u) (ix5 0 0 0 c d)
      = ∑ d : Fin 128, (D.k (ix5 0 0 ⟨kt (34 * t + u), kt_lt _⟩ r d) : EReal) * D.q (ix5 0 0 ⟨qt (34 * t + u), qt_lt _⟩ c d) := by
    refine Finset.sum_congr rfl fun d _ => ?_
    rw [kb_at D _ r d (D.hj _), qb_at D _ c d (D.hi _)]
    simp only [hq, hkk]
  have hn : 34 * t + u < 136 := by omega
  have hmod : (34 * t + u) % 34 = u := by omega
  unfold sc ks
  by_cases h4 : u < 4
  · obtain ⟨e1, e2⟩ := diag_pair ⟨34 * t + u, hn⟩ (by show (34 * t + u) % 34 < 4; omega)
    have hb : Nat.blt u 4 = true := by simpa [Nat.blt_eq] using h4
    rw [hb, cond_true, ho, e2, mskd_at, hs]
    dsimp only at e1 ⊢
    by_cases hr : (r : ℕ) ≤ c % 256
    · rw [if_pos hr, if_pos (by omega)]
    · rw [if_neg hr, if_neg (by omega)]
  · have e1 := low_pair ⟨34 * t + u, hn⟩ (by show ¬ (34 * t + u) % 34 < 4; omega)
    have hb : Nat.blt u 4 = false := by
      rw [Bool.eq_false_iff]
      simpa [Nat.blt_eq] using h4
    rw [hb, cond_false, plain_at, hs]
    dsimp only at e1 ⊢
    have hr := r.isLt
    rw [if_pos (by omega)]

/-! ## The sums -/

/-- A key tile's weights for column `c`, summed. -/
def bl (i j : Fin 16) (c : Fin 512) : EReal := ∑ r : Fin 256, Ideal.exp2 (ks D i j r c - D.mr (ix2 0 c))
/-- A key tile's weighted values, summed. -/
def ba (i j : Fin 16) (d : Fin 128) (c : Fin 512) : EReal :=
  ∑ r : Fin 256, (D.v (ix5 0 0 j d r) : EReal) * Ideal.exp2 (ks D i j r c - D.mr (ix2 0 c))

include ht hk ho in
theorem lrec_succ (t u : ℕ) (htt : t < 4) (hu : u < 34) (L : TL.Idx → Ideal .f32) (i : Fin 16) (c : Fin 512) :
    lrec (ops (F := Ideal)) D t L (u + 1) (ix3 i 0 c)
      = (lrec (ops (F := Ideal)) D t L u (ix3 i 0 c) : EReal)
        + if qt (34 * t + u) = i then bl D i ⟨kt (34 * t + u), kt_lt _⟩ c else 0 := by
  have hq : (wd D.it (34 * t + u)).toNat = qt (34 * t + u) := by rw [ht]; rfl
  rw [lrec]
  by_cases h : qt (34 * t + u) = i
  · have hi : (⟨(wd D.it (34 * t + u)).toNat, D.hi _⟩ : Fin 16) = i := Fin.ext (hq.trans h)
    have he := emb_l (wd D.it (34 * t + u)).toNat (inb_l (D.hi _)) (D.hi _) c
    rw [hi] at he
    rw [if_pos h, ← he]
    refine (put_emb _ _ _ _).trans ((lnew_at _ _ _ c).trans ?_)
    refine congrArg₂ (· + ·) rfl ?_
    unfold bl
    refine Finset.sum_congr rfl fun r _ => ?_
    rw [sc_at D ht hk ho t u htt hu, mrb_at, show (⟨qt (34 * t + u), qt_lt _⟩ : Fin 16) = i from Fin.ext h]
  · rw [if_neg h, add_zero]
    refine put_of_not _ _ _ _ fun x hx => h ?_
    have e : (wd D.it (34 * t + u)).toNat + 1 * (x 0 : ℕ) = i := congrArg (fun z : TL.Idx => (z 0 : ℕ)) hx
    have h0 : (x 0 : ℕ) < 1 := (x 0).isLt
    omega

include ht hk ho in
theorem arec_succ (t u : ℕ) (htt : t < 4) (hu : u < 34) (A : TA.Idx → Ideal .f32) (i : Fin 16) (d : Fin 128) (c : Fin 512) :
    arec (ops (F := Ideal)) D t A (u + 1) (ix3 i d c)
      = (arec (ops (F := Ideal)) D t A u (ix3 i d c) : EReal)
        + if qt (34 * t + u) = i then ba D i ⟨kt (34 * t + u), kt_lt _⟩ d c else 0 := by
  have hq : (wd D.it (34 * t + u)).toNat = qt (34 * t + u) := by rw [ht]; rfl
  have hkk : (wd D.jt (34 * t + u)).toNat = kt (34 * t + u) := by rw [hk]; rfl
  rw [arec]
  by_cases h : qt (34 * t + u) = i
  · have hi : (⟨(wd D.it (34 * t + u)).toNat, D.hi _⟩ : Fin 16) = i := Fin.ext (hq.trans h)
    have he := emb_a (wd D.it (34 * t + u)).toNat (inb_a (D.hi _)) (D.hi _) d c
    rw [hi] at he
    rw [if_pos h, ← he]
    refine (put_emb _ _ _ _).trans ((anew_at _ _ _ _ d c).trans ?_)
    refine congrArg₂ (· + ·) rfl ?_
    unfold ba
    refine Finset.sum_congr rfl fun r _ => ?_
    rw [sc_at D ht hk ho t u htt hu, mrb_at, vb_at D _ d r (D.hj _), show (⟨qt (34 * t + u), qt_lt _⟩ : Fin 16) = i from Fin.ext h]
    simp only [hkk]
  · rw [if_neg h, add_zero]
    refine put_of_not _ _ _ _ fun x hx => h ?_
    have e : (wd D.it (34 * t + u)).toNat + 1 * (x 0 : ℕ) = i := congrArg (fun z : TA.Idx => (z 0 : ℕ)) hx
    have h0 : (x 0 : ℕ) < 1 := (x 0).isLt
    omega

include ht hk ho in
theorem lT_sum (L : TL.Idx → Ideal .f32) (i : Fin 16) (c : Fin 512) (t : ℕ) (htt : t ≤ 4) :
    lT (ops (F := Ideal)) D L t (ix3 i 0 c)
      = (∑ n ∈ Finset.range (34 * t), if qt n = i then bl D i ⟨kt n, kt_lt _⟩ c else 0 : EReal) := by
  induction t with
  | zero =>
    have h := congrFun (at_linit (ops (F := Ideal)) L (r := i.val) i.isLt le_rfl) (ix3 (n0 := 1) (n1 := 1) (n2 := 512) 0 0 c)
    have he := emb_l ((i : ℕ) % 16) (inb_l' i) (Nat.mod_lt _ (by norm_num)) c
    have hi : (⟨(i : ℕ) % 16, Nat.mod_lt _ (by norm_num)⟩ : Fin 16) = i := Fin.ext (Nat.mod_eq_of_lt i.isLt)
    rw [hi] at he
    rw [lT, ← he]
    refine h.trans ((l0_at c).trans ?_)
    simp
  | succ t ih =>
    have hs : ∀ u, u ≤ 34 → lrec (ops (F := Ideal)) D t (lT ops D L t) u (ix3 i 0 c)
        = (lT (ops (F := Ideal)) D L t (ix3 i 0 c) : EReal) + ∑ u' ∈ Finset.range u, if qt (34 * t + u') = i then bl D i ⟨kt (34 * t + u'), kt_lt _⟩ c else 0 := by
      intro u
      induction u with
      | zero => intro _; rw [lrec, Finset.range_zero, Finset.sum_empty, add_zero]
      | succ u ihu =>
        intro hu
        rw [lrec_succ D ht hk ho t u (by omega) (by omega), ihu (by omega), Finset.sum_range_succ, add_assoc]
    rw [lT, hs 34 le_rfl, ih (by omega), Nat.mul_succ, Finset.sum_range_add]

include ht hk ho in
theorem aT_sum (A : TA.Idx → Ideal .f32) (i : Fin 16) (d : Fin 128) (c : Fin 512) (t : ℕ) (htt : t ≤ 4) :
    aT (ops (F := Ideal)) D A t (ix3 i d c)
      = (∑ n ∈ Finset.range (34 * t), if qt n = i then ba D i ⟨kt n, kt_lt _⟩ d c else 0 : EReal) := by
  induction t with
  | zero =>
    have h := congrFun (at_ainit (ops (F := Ideal)) A (r := i.val) i.isLt le_rfl) (ix3 (n0 := 1) (n1 := 128) (n2 := 512) 0 d c)
    have he := emb_a ((i : ℕ) % 16) (inb_a' i) (Nat.mod_lt _ (by norm_num)) d c
    have hi : (⟨(i : ℕ) % 16, Nat.mod_lt _ (by norm_num)⟩ : Fin 16) = i := Fin.ext (Nat.mod_eq_of_lt i.isLt)
    rw [hi] at he
    rw [aT, ← he]
    refine h.trans ((a0_at d c).trans ?_)
    simp
  | succ t ih =>
    have hs : ∀ u, u ≤ 34 → arec (ops (F := Ideal)) D t (aT ops D A t) u (ix3 i d c)
        = (aT (ops (F := Ideal)) D A t (ix3 i d c) : EReal) + ∑ u' ∈ Finset.range u, if qt (34 * t + u') = i then ba D i ⟨kt (34 * t + u'), kt_lt _⟩ d c else 0 := by
      intro u
      induction u with
      | zero => intro _; rw [arec, Finset.range_zero, Finset.sum_empty, add_zero]
      | succ u ihu =>
        intro hu
        rw [arec_succ D ht hk ho t u (by omega) (by omega), ihu (by omega), Finset.sum_range_succ, add_assoc]
    rw [aT, hs 34 le_rfl, ih (by omega), Nat.mul_succ, Finset.sum_range_add]

/-- A key tile after the query's adds nothing. -/
theorem ks_bot {i j : Fin 16} (h : ¬ j ≤ i) (r : Fin 256) (c : Fin 512) : ks D i j r c = ⊥ := by
  unfold ks
  have h' : ¬ (j : ℕ) ≤ i := h
  exact if_neg (by omega)

theorem exp2_bot_sub (x : EReal) : Ideal.exp2 (⊥ - x) = 0 := by rw [EReal.bot_sub, Ideal.exp2_bot]

theorem bl_zero {i j : Fin 16} (h : ¬ j ≤ i) (c : Fin 512) : bl D i j c = 0 := by
  unfold bl
  exact Finset.sum_eq_zero fun r _ => by rw [ks_bot D h, exp2_bot_sub]

theorem ba_zero {i j : Fin 16} (h : ¬ j ≤ i) (d : Fin 128) (c : Fin 512) : ba D i j d c = 0 := by
  unfold ba
  exact Finset.sum_eq_zero fun r _ => by rw [ks_bot D h, exp2_bot_sub, mul_zero]

include ht hk ho in
/-- The row sums at the end of the loop. -/
theorem lT_end (L : TL.Idx → Ideal .f32) (i : Fin 16) (c : Fin 512) :
    lT (ops (F := Ideal)) D L 4 (ix3 i 0 c) = (∑ j : Fin 16, bl D i j c : EReal) := by
  rw [lT_sum D ht hk ho L i c 4 le_rfl]
  have e := sum_pairs (M := EReal) i (fun k => if hk : k < 16 then bl D i ⟨k, hk⟩ c else 0)
  simp only [kt_lt, Fin.is_lt, dif_pos] at e
  refine e.trans (Finset.sum_congr rfl fun j _ => ?_)
  by_cases h : j ≤ i
  · rw [if_pos h]
  · rw [if_neg h, bl_zero D h]

include ht hk ho in
/-- The accumulators at the end of the loop. -/
theorem aT_end (A : TA.Idx → Ideal .f32) (i : Fin 16) (d : Fin 128) (c : Fin 512) :
    aT (ops (F := Ideal)) D A 4 (ix3 i d c) = (∑ j : Fin 16, ba D i j d c : EReal) := by
  rw [aT_sum D ht hk ho A i d c 4 le_rfl]
  have e := sum_pairs (M := EReal) i (fun k => if hk : k < 16 then ba D i ⟨k, hk⟩ d c else 0)
  simp only [kt_lt, Fin.is_lt, dif_pos] at e
  refine e.trans (Finset.sum_congr rfl fun j _ => ?_)
  by_cases h : j ≤ i
  · rw [if_pos h]
  · rw [if_neg h, ba_zero D h]

/-- The difference of the halves, from the sums. -/
def mixd (i : Fin 16) (p : Fin 256) (d : Fin 128) : EReal :=
  (∑ j : Fin 16, ba D i j d ⟨p, by omega⟩) * Ideal.div 1 (∑ j : Fin 16, bl D i j ⟨p, by omega⟩)
    - lamv D.lm * ((∑ j : Fin 16, ba D i j d ⟨256 + p, by omega⟩) * Ideal.div 1 (∑ j : Fin 16, bl D i j ⟨256 + p, by omega⟩))

include ht hk ho in
/-- The result block of one body, at an index. -/
theorem outv_at (i : Fin 16) (d : Fin 128) (p : Fin 256) :
    outv (ops (F := Ideal)) D (ix5 0 0 i d p)
      = mixd D i p d * Ideal.rsqrt (Ideal.div (∑ e : Fin 128, mixd D i p e * mixd D i p e) (Ideal.ofBits .f32 0x43000000#32) + Ideal.ofBits .f32 0x358637BD#32)
        * D.sg (ix2 d p) * Ideal.ofBits .f32 0x3F4CCCCD#32 := by
  unfold outv
  generalize (fun _ : TL.Idx => (FloatOps.ofBits .f32 0#32 : Ideal .f32)) = L
  generalize (fun _ : TA.Idx => (FloatOps.ofBits .f32 0#32 : Ideal .f32)) = A
  generalize (fun _ : TV.Idx => (FloatOps.ofBits .bf16 0#16 : Ideal .bf16)) = X
  have h := congrFun (at_orec (ops (F := Ideal)) D (lT ops D L 4) (aT ops D A 4) X (r := i.val) i.isLt le_rfl)
    (ix5 (n0 := 1) (n1 := 1) (n2 := 1) (n3 := 128) (n4 := 256) 0 0 0 d p)
  have hi : (⟨(i : ℕ) % 16, Nat.mod_lt _ (by norm_num)⟩ : Fin 16) = i := Fin.ext (Nat.mod_eq_of_lt i.isLt)
  rw [← emb_o i (inb_o' i) d p]
  refine h.trans ((fin_at _ _ _ _ d p).trans ?_)
  have hl : ∀ c : Fin 512, (at' (lT (ops (F := Ideal)) D L 4) ![(i : ℕ) % 16, 0, 0] Tl.size (inb_l' i) (ix3 (n0 := 1) (n1 := 1) (n2 := 512) 0 0 c) : EReal) = ∑ j : Fin 16, bl D i j c := by
    intro c
    have he := emb_l ((i : ℕ) % 16) (inb_l' i) (Nat.mod_lt _ (by norm_num)) c
    rw [hi] at he
    exact (congrArg (lT (ops (F := Ideal)) D L 4) he).trans (lT_end D ht hk ho L i c)
  have ha : ∀ (d : Fin 128) (c : Fin 512), (at' (aT (ops (F := Ideal)) D A 4) ![(i : ℕ) % 16, 0, 0] Ta.size (inb_a' i) (ix3 (n0 := 1) (n1 := 128) (n2 := 512) 0 d c) : EReal) = ∑ j : Fin 16, ba D i j d c := by
    intro d c
    have he := emb_a ((i : ℕ) % 16) (inb_a' i) (Nat.mod_lt _ (by norm_num)) d c
    rw [hi] at he
    exact (congrArg (aT (ops (F := Ideal)) D A 4) he).trans (aT_end D ht hk ho A i d c)
  have hlm : lmb D = D.lm := funext fun x => lmb_at D x
  have hm : ∀ e : Fin 128, mixv (lmb D) (at' (aT (ops (F := Ideal)) D A 4) ![(i : ℕ) % 16, 0, 0] Ta.size (inb_a' i))
      (at' (lT (ops (F := Ideal)) D L 4) ![(i : ℕ) % 16, 0, 0] Tl.size (inb_l' i)) p e = mixd D i p e := by
    intro e
    unfold mixv mixd
    rw [hl, hl, ha, ha, hlm]
  simp only [hm, sgb_at]

end Cert.AttnIdeal.Proof

end
-- ==== Proof.Blocks.lean ====
/- What the body's blocks hold, and what the result's array holds, in terms of the arguments. -/
module

public import proofs.«01_k».proof.Proof.RowSum
public import proofs.«01_k».proof.Proof.IdealFrame
public import Idealize.ShloMosaic.Lib.Claim
public import Idealize.ShloMosaic.Lib.Pipeline.ValueKit

@[expose] public section

set_option maxRecDepth 16384

noncomputable section

namespace Cert.AttnIdeal.Proof

open Idealize.ShloMosaic Cert.Proof.Diff Cert.AttnIdeal.Gen Idealize.ShloMosaic.TcCoe

variable (m : (ℓ : Loc nD τ sig) → Buf (Elt Ideal) ℓ) (c : Dev nD)

theorem V_stack :
    V m c main_v8 = concatenate S4x64 0
      [⟨S1x64, broadcastInDim S1x64 ![1] bcast_S64_S1x64_1 (shapeCast S64 (m ((c.tc : Thread nD τ).loc main_arg3)) shapeCasts_S1x64_S64)⟩,
       ⟨S1x64, broadcastInDim S1x64 ![1] bcast_S64_S1x64_1 (shapeCast S64 (m ((c.tc : Thread nD τ).loc main_arg4)) shapeCasts_S1x64_S64)⟩,
       ⟨S1x64, broadcastInDim S1x64 ![1] bcast_S64_S1x64_1 (shapeCast S64 (m ((c.tc : Thread nD τ).loc main_arg5)) shapeCasts_S1x64_S64)⟩,
       ⟨S1x64, broadcastInDim S1x64 ![1] bcast_S64_S1x64_1 (shapeCast S64 (m ((c.tc : Thread nD τ).loc main_arg6)) shapeCasts_S1x64_S64)⟩]
      concatenates_S1x64_S1x64_S1x64_S1x64_S4x64_d0 := by
  show StableHlo.after (hostOps0 (F := Ideal)) (fun b => m (c, b)) main_v8 = _
  unfold_abbrev_sides
  after_results
  rfl

theorem V_lam (w : Fin 4) (d : Fin 64) :
    V m c main_v8 (ix2 w d) = match w with
      | 0 => m ((c.tc : Thread nD τ).loc main_arg3) (ix2 0 d)
      | 1 => m ((c.tc : Thread nD τ).loc main_arg4) (ix2 0 d)
      | 2 => m ((c.tc : Thread nD τ).loc main_arg5) (ix2 0 d)
      | 3 => m ((c.tc : Thread nD τ).loc main_arg6) (ix2 0 d) := by
  rw [V_stack]
  fin_cases w
  · pointwise []
  · pointwise []
  · pointwise []
  · pointwise []

theorem V_gain (d : Fin 128) (p : Fin 256) :
    V m c main_v13 (ix2 d p) = m ((c.tc : Thread nD τ).loc main_arg7) (ix2 0 d) := by
  show StableHlo.after (hostOps0 (F := Ideal)) (fun b => m (c, b)) main_v13 (ix2 d p) = _
  unfold_abbrev_sides
  after_results
  pointwise []

theorem V_bound (x : S1x512.Idx) : V m c main_v14 x = m ((c.tc : Thread nD τ).loc main_arg8) Idealize.ShloMosaic.ix0 := by
  show StableHlo.after (hostOps0 (F := Ideal)) (fun b => m (c, b)) main_v14 x = _
  unfold_abbrev_sides
  after_results
  exact congrArg (m ((c.tc : Thread nD τ).loc main_arg8)) (funext fun a => Fin.elim0 a)

theorem grid_size : (cfg0 (F := Ideal) adm).N = 16 := by decide +kernel

theorem index_q : ∀ t : Fin (cfg0 (F := Ideal) adm).N, ((pcfg0 (F := Ideal)).win adm 0).index t = ![t.val / 4, t.val % 4, 0, 0, 0] := by decide +kernel
theorem index_k : ∀ t : Fin (cfg0 (F := Ideal) adm).N, ((pcfg0 (F := Ideal)).win adm 1).index t = ![t.val / 4, t.val % 4, 0, 0, 0] := by decide +kernel
theorem index_v : ∀ t : Fin (cfg0 (F := Ideal) adm).N, ((pcfg0 (F := Ideal)).win adm 2).index t = ![t.val / 4, t.val % 4, 0, 0, 0] := by decide +kernel
theorem index_m : ∀ t : Fin (cfg0 (F := Ideal) adm).N, ((pcfg0 (F := Ideal)).win adm 3).index t = ![0, 0] := by decide +kernel
theorem index_l : ∀ t : Fin (cfg0 (F := Ideal) adm).N, ((pcfg0 (F := Ideal)).win adm 4).index t = ![0, 0] := by decide +kernel
theorem index_g : ∀ t : Fin (cfg0 (F := Ideal) adm).N, ((pcfg0 (F := Ideal)).win adm 5).index t = ![0, 0] := by decide +kernel
theorem index_o : ∀ t : Fin (cfg0 (F := Ideal) adm).N, ((pcfg0 (F := Ideal)).win adm 6).index t = ![t.val / 4, t.val % 4, 0, 0, 0] := by decide +kernel

theorem q_read (t : Fin (cfg0 (F := Ideal) adm).N) (b h : Fin 4) (hb : (b : ℕ) = t / 4) (hh : (h : ℕ) = t % 4) (i : Fin 16) (x : Fin 512) (d : Fin 128) :
    (Din m c t).q (ix5 0 0 i x d) = m ((c.tc : Thread nD τ).loc main_arg0) (ix5 b ⟨h, by omega⟩ i x d) := by
  unfold Din blkv
  dsimp only
  blk_simp
  refine (congrFun (V_arg m c main_arg0 (by decide)) _).trans (congrArg (m ((c.tc : Thread nD τ).loc main_arg0)) (funext fun a => Fin.ext ?_))
  match a with
  | ⟨0, _⟩ =>
    blk_simp
    exact (congrFun (index_q t) 0).trans hb.symm
  | ⟨1, _⟩ =>
    blk_simp
    exact (congrFun (index_q t) 1).trans hh.symm
  | ⟨2, _⟩ =>
    blk_simp
    exact (congrArg (· * 16 + (i : ℕ)) (congrFun (index_q t) 2)).trans (by simp)
  | ⟨3, _⟩ =>
    blk_simp
    exact (congrArg (· * 512 + (x : ℕ)) (congrFun (index_q t) 3)).trans (by simp)
  | ⟨4, _⟩ =>
    blk_simp
    exact (congrArg (· * 128 + (d : ℕ)) (congrFun (index_q t) 4)).trans (by simp)

theorem k_read (t : Fin (cfg0 (F := Ideal) adm).N) (b h : Fin 4) (hb : (b : ℕ) = t / 4) (hh : (h : ℕ) = t % 4) (i : Fin 16) (x : Fin 256) (d : Fin 128) :
    (Din m c t).k (ix5 0 0 i x d) = m ((c.tc : Thread nD τ).loc main_arg1) (ix5 b ⟨h, by omega⟩ i x d) := by
  unfold Din blkv
  dsimp only
  blk_simp
  refine (congrFun (V_arg m c main_arg1 (by decide)) _).trans (congrArg (m ((c.tc : Thread nD τ).loc main_arg1)) (funext fun a => Fin.ext ?_))
  match a with
  | ⟨0, _⟩ =>
    blk_simp
    exact (congrFun (index_k t) 0).trans hb.symm
  | ⟨1, _⟩ =>
    blk_simp
    exact (congrFun (index_k t) 1).trans hh.symm
  | ⟨2, _⟩ =>
    blk_simp
    exact (congrArg (· * 16 + (i : ℕ)) (congrFun (index_k t) 2)).trans (by simp)
  | ⟨3, _⟩ =>
    blk_simp
    exact (congrArg (· * 256 + (x : ℕ)) (congrFun (index_k t) 3)).trans (by simp)
  | ⟨4, _⟩ =>
    blk_simp
    exact (congrArg (· * 128 + (d : ℕ)) (congrFun (index_k t) 4)).trans (by simp)

theorem v_read (t : Fin (cfg0 (F := Ideal) adm).N) (b h : Fin 4) (hb : (b : ℕ) = t / 4) (hh : (h : ℕ) = t % 4) (i : Fin 16) (d : Fin 128) (x : Fin 256) :
    (Din m c t).v (ix5 0 0 i d x) = m ((c.tc : Thread nD τ).loc main_arg2) (ix5 b ⟨h, by omega⟩ i d x) := by
  unfold Din blkv
  dsimp only
  blk_simp
  refine (congrFun (V_arg m c main_arg2 (by decide)) _).trans (congrArg (m ((c.tc : Thread nD τ).loc main_arg2)) (funext fun a => Fin.ext ?_))
  match a with
  | ⟨0, _⟩ =>
    blk_simp
    exact (congrFun (index_v t) 0).trans hb.symm
  | ⟨1, _⟩ =>
    blk_simp
    exact (congrFun (index_v t) 1).trans hh.symm
  | ⟨2, _⟩ =>
    blk_simp
    exact (congrArg (· * 16 + (i : ℕ)) (congrFun (index_v t) 2)).trans (by simp)
  | ⟨3, _⟩ =>
    blk_simp
    exact (congrArg (· * 128 + (d : ℕ)) (congrFun (index_v t) 3)).trans (by simp)
  | ⟨4, _⟩ =>
    blk_simp
    exact (congrArg (· * 256 + (x : ℕ)) (congrFun (index_v t) 4)).trans (by simp)

theorem m_read (t : Fin (cfg0 (F := Ideal) adm).N) (x : TM.Idx) : (Din m c t).mr x = V m c main_v14 x := by
  unfold Din blkv
  dsimp only
  blk_simp
  refine congrArg (V m c main_v14) (funext fun a => Fin.ext ?_)
  match a with
  | ⟨0, _⟩ =>
    blk_simp
    exact congrFun (index_m t) 0
  | ⟨1, _⟩ =>
    blk_simp
    exact (congrArg (· * 512 + (x 1 : ℕ)) (congrFun (index_m t) 1)).trans (by simp)

theorem l_read (t : Fin (cfg0 (F := Ideal) adm).N) (x : TLam.Idx) : (Din m c t).lm x = V m c main_v8 x := by
  unfold Din blkv
  dsimp only
  blk_simp
  refine congrArg (V m c main_v8) (funext fun a => Fin.ext ?_)
  match a with
  | ⟨0, _⟩ =>
    blk_simp
    exact (congrArg (· * 4 + (x 0 : ℕ)) (congrFun (index_l t) 0)).trans (by simp)
  | ⟨1, _⟩ =>
    blk_simp
    exact (congrArg (· * 64 + (x 1 : ℕ)) (congrFun (index_l t) 1)).trans (by simp)

theorem g_read (t : Fin (cfg0 (F := Ideal) adm).N) (x : TG.Idx) : (Din m c t).sg x = V m c main_v13 x := by
  unfold Din blkv
  dsimp only
  blk_simp
  refine congrArg (V m c main_v13) (funext fun a => Fin.ext ?_)
  match a with
  | ⟨0, _⟩ =>
    blk_simp
    exact (congrArg (· * 128 + (x 0 : ℕ)) (congrFun (index_g t) 0)).trans (by simp)
  | ⟨1, _⟩ =>
    blk_simp
    exact (congrArg (· * 256 + (x 1 : ℕ)) (congrFun (index_g t) 1)).trans (by simp)

/-- The result's array once every block is written, from what each body leaves. -/
theorem out_of (G : Fin 4 → Fin 4 → Fin 16 → Fin 128 → Fin 256 → EReal)
    (hG : ∀ (t : Fin (cfg0 (F := Ideal) adm).N) (b h : Fin 4) (_ : (b : ℕ) = t / 4) (_ : (h : ℕ) = t % 4) (i : Fin 16) (d : Fin 128) (p : Fin 256),
      outv (ops (F := Ideal)) (Din m c t) (ix5 0 0 i d p) = G b h i d p) :
    (dats m 0 c).arrAt 6 (cfg0 (F := Ideal) adm).N = fun x : S4x4x16x128x256.Idx => G (x 0) (x 1) (x 2) (x 3) (x 4) := by
  refine (dats m 0 c).arrAt_eq_of_covers 6 _ (by decide +kernel) fun t hf y => ?_
  blk_simp
  have ht : t.val < 16 := by have := t.isLt; exact lt_of_lt_of_eq this grid_size
  refine Eq.trans ?_ (Eq.trans (hG t ⟨t.val / 4, by omega⟩ ⟨t.val % 4, by omega⟩ rfl rfl (y 2) (y 3) (y 4)) ?_)
  · refine congrArg (outv (ops (F := Ideal)) (Din m c t)) (funext fun a => Fin.ext ?_)
    match a with
    | ⟨0, _⟩ => exact Nat.lt_one_iff.mp (y 0).isLt
    | ⟨1, _⟩ => exact Nat.lt_one_iff.mp (y 1).isLt
    | ⟨2, _⟩ => rfl
    | ⟨3, _⟩ => rfl
    | ⟨4, _⟩ => rfl
  · refine congr (congr (congr (congr (congrArg G (Fin.ext (Eq.symm ?_))) (Fin.ext (Eq.symm ?_))) (Fin.ext (Eq.symm ?_))) (Fin.ext (Eq.symm ?_))) (Fin.ext (Eq.symm ?_))
    · blk_simp
      have h0 : (y 0 : ℕ) < 1 := (y 0).isLt
      exact congrFun (index_o t) 0
    · blk_simp
      exact congrFun (index_o t) 1
    · blk_simp
      exact (congrArg (· * 16 + (y 2 : ℕ)) (congrFun (index_o t) 2)).trans (by simp)
    · blk_simp
      exact (congrArg (· * 128 + (y 3 : ℕ)) (congrFun (index_o t) 3)).trans (by simp)
    · blk_simp
      exact (congrArg (· * 256 + (y 4 : ℕ)) (congrFun (index_o t) 4)).trans (by simp)

end Cert.AttnIdeal.Proof

end
-- ==== Proof.RefValue.lean ====
/- The reference's differential attention over the extended reals, entry by entry. -/
module

public import proofs.«01_k».proof.Proof.Gen.RefIdeal.Run
public import Idealize.ShloMosaic.Lib.Pointwise
public import Idealize.ShloMosaic.Lib.WordCmp
public import Idealize.ShloMosaic.PureOps.Reduce

@[expose] public section

set_option maxRecDepth 16384

noncomputable section

namespace Cert.RefIdeal.Proof

open Idealize.ShloMosaic Cert.RefIdeal Cert.RefIdeal.Gen Idealize.ShloMosaic.TcCoe

variable {F : FTy → Type} [FloatOps F]

/-- Queries of one half. -/
def q0 (x : FVec F S4x8x16x512x128 .bf16) : FVec F S4x4x4096x64 .f32 :=
  shapeCast _ (extf .f32 (extractStridedSlice S4x4x16x256x64 ![0, 0, 0, 0, 0] x slices_S4x8x16x512x128_S4x4x16x256x64_0_0_0_0_0) bitsLt_bf16_f32)
    shapeCasts_S4x4x16x256x64_S4x4x4096x64
def q1 (x : FVec F S4x8x16x512x128 .bf16) : FVec F S4x4x4096x64 .f32 :=
  shapeCast _ (extf .f32 (extractStridedSlice S4x4x16x256x64 ![0, 0, 0, 256, 64] x slices_S4x8x16x512x128_S4x4x16x256x64_0_0_0_256_64) bitsLt_bf16_f32)
    shapeCasts_S4x4x16x256x64_S4x4x4096x64
/-- Keys of one half. -/
def k0 (x : FVec F S4x8x16x256x128 .bf16) : FVec F S4x4x4096x64 .f32 :=
  shapeCast _ (extf .f32 (extractStridedSlice S4x4x16x256x64 ![0, 0, 0, 0, 0] x slices_S4x8x16x256x128_S4x4x16x256x64_0_0_0_0_0) bitsLt_bf16_f32)
    shapeCasts_S4x4x16x256x64_S4x4x4096x64
def k1 (x : FVec F S4x8x16x256x128 .bf16) : FVec F S4x4x4096x64 .f32 :=
  shapeCast _ (extf .f32 (extractStridedSlice S4x4x16x256x64 ![0, 0, 0, 0, 64] x slices_S4x8x16x256x128_S4x4x16x256x64_0_0_0_0_64) bitsLt_bf16_f32)
    shapeCasts_S4x4x16x256x64_S4x4x4096x64
/-- The values. -/
def vv (x : FVec F S4x8x16x128x256 .bf16) : FVec F S4x4x4096x128 .f32 :=
  shapeCast _ (extf .f32 (transpose S4x4x16x256x128 [0, 1, 2, 4, 3]
      (extractStridedSlice S4x4x16x128x256 ![0, 0, 0, 0, 0] x slices_S4x8x16x128x256_S4x4x16x128x256_0_0_0_0_0)
      transposes_S4x4x16x128x256_S4x4x16x256x128_0_1_2_4_3) bitsLt_bf16_f32)
    shapeCasts_S4x4x16x256x128_S4x4x4096x128

/-- The weight of the second half. -/
def lam (x3 x4 x5 x6 : FVec F S1x64 .f32) : FVec F S_ .f32 :=
  addf (subf
      (Host.exp (Host.reduceAdd (mulf (shapeCast _ x3 shapeCasts_S1x64_S64) (shapeCast _ x4 shapeCasts_S1x64_S64)) (constant S_ .f32 0x00000000#32) reducesTo_S64_S_d0 h_S_))
      (Host.exp (Host.reduceAdd (mulf (shapeCast _ x5 shapeCasts_S1x64_S64) (shapeCast _ x6 shapeCasts_S1x64_S64)) (constant S_ .f32 0x00000000#32) reducesTo_S64_S_d0 h_S_)))
    (constant S_ .f32 0x3E4CCCCD#32)

/-- The masked scores of one half. -/
def scores (q k : FVec F S4x4x4096x64 .f32) : FVec F S4x4x4096x4096 .f32 :=
  select (broadcastInDim S4x4x4096x4096 ![2, 3] bcast_S4096x4096_S4x4x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (mulf (Host.dotGeneral dot_S4x4x4096x64_S4x4x4096x64_S4x4x4096x4096_3_3_2_2_01_01 none q k)
      (broadcastInDim S4x4x4096x4096 ![] bcast_S_S4x4x4096x4096 (Host.log (constant S_ .f32 0x40000000#32))))
    (broadcastInDim S4x4x4096x4096 ![] bcast_S_S4x4x4096x4096 (id (constant S_ .f32 0xFF800000#32)))

/-- A row's largest score. -/
def top (s : FVec F S4x4x4096x4096 .f32) : FVec F S4x4x4096 .f32 :=
  maximumf (broadcastInDim S4x4x4096 ![] bcast_S_S4x4x4096 (constant S_ .f32 0xFF800000#32))
    (Host.reduce FloatOps.maximumf s (constant S_ .f32 0xFF800000#32) reducesTo_S4x4x4096x4096_S4x4x4096_d3 h_S_)

/-- The exponentials of a row's scores, less its largest. -/
def expd (s : FVec F S4x4x4096x4096 .f32) : FVec F S4x4x4096x4096 .f32 :=
  Host.exp (subf s (broadcastInDim S4x4x4096x4096 ![0, 1, 2, 3] bcast_S4x4x4096x1_S4x4x4096x4096_0_1_2_3
    (broadcastInDim S4x4x4096x1 ![0, 1, 2] bcast_S4x4x4096_S4x4x4096x1_0_1_2 (top s))))

/-- The softmax of the rows. -/
def soft (s : FVec F S4x4x4096x4096 .f32) : FVec F S4x4x4096x4096 .f32 :=
  Host.divf (expd s) (broadcastInDim S4x4x4096x4096 ![0, 1, 2, 3] bcast_S4x4x4096x1_S4x4x4096x4096_0_1_2_3
    (broadcastInDim S4x4x4096x1 ![0, 1, 2] bcast_S4x4x4096_S4x4x4096x1_0_1_2
      (Host.reduceAdd (expd s) (constant S_ .f32 0x00000000#32) reducesTo_S4x4x4096x4096_S4x4x4096_d3 h_S_)))

/-- The difference of the two halves' weights, applied to the values. -/
def mix (a0 a1 : FVec F S4x4x4096x4096 .f32) (l : FVec F S_ .f32) (v : FVec F S4x4x4096x128 .f32) : FVec F S4x4x4096x128 .f32 :=
  Host.dotGeneral dot_S4x4x4096x4096_S4x4x4096x128_S4x4x4096x128_3_2_2_3_01_01 none
    (subf a0 (mulf (broadcastInDim S4x4x4096x4096 ![] bcast_S_S4x4x4096x4096 l) a1)) v

/-- The rows normalised, scaled by the gains and laid out as the result. -/
def norm (o : FVec F S4x4x4096x128 .f32) (g : FVec F S1x128 .f32) : FVec F S4x4x16x128x256 .bf16 :=
  truncf .bf16 (transpose S4x4x16x128x256 [0, 1, 2, 4, 3] (shapeCast _
    (mulf (mulf (mulf o (broadcastInDim S4x4x4096x128 ![0, 1, 2, 3] bcast_S4x4x4096x1_S4x4x4096x128_0_1_2_3
        (Host.rsqrt (addf (Host.divf (broadcastInDim S4x4x4096x1 ![0, 1, 2] bcast_S4x4x4096_S4x4x4096x1_0_1_2
            (Host.reduceAdd (mulf o o) (constant S_ .f32 0x00000000#32) reducesTo_S4x4x4096x128_S4x4x4096_d3 h_S_))
          (broadcastInDim S4x4x4096x1 ![] bcast_S_S4x4x4096x1 (constant S_ .f32 0x43000000#32)))
          (broadcastInDim S4x4x4096x1 ![] bcast_S_S4x4x4096x1 (constant S_ .f32 0x358637BD#32))))))
        (broadcastInDim S4x4x4096x128 ![0, 1, 2, 3] bcast_S1x1x1x128_S4x4x4096x128_0_1_2_3
          (broadcastInDim S1x1x1x128 ![3] bcast_S128_S1x1x1x128_3 (shapeCast _ g shapeCasts_S1x128_S128))))
      (broadcastInDim S4x4x4096x128 ![] bcast_S_S4x4x4096x128 (constant S_ .f32 0x3F4CCCCD#32)))
    shapeCasts_S4x4x4096x128_S4x4x16x256x128) transposes_S4x4x16x256x128_S4x4x16x128x256_0_1_2_4_3) bitsLt_bf16_f32

theorem res_eq (m : (ℓ : Loc nD τ sig) → Buf (Elt F) ℓ) (c : Dev nD) :
    Value.res_main_v94 m c
      = norm (mix (soft (scores (q0 (m ((c.tc : Thread nD τ).loc main_arg0))) (k0 (m ((c.tc : Thread nD τ).loc main_arg1)))))
          (soft (scores (q1 (m ((c.tc : Thread nD τ).loc main_arg0))) (k1 (m ((c.tc : Thread nD τ).loc main_arg1)))))
          (lam (m ((c.tc : Thread nD τ).loc main_arg3)) (m ((c.tc : Thread nD τ).loc main_arg4)) (m ((c.tc : Thread nD τ).loc main_arg5)) (m ((c.tc : Thread nD τ).loc main_arg6)))
          (vv (m ((c.tc : Thread nD τ).loc main_arg2)))) (m ((c.tc : Thread nD τ).loc main_arg7)) := rfl

/-- The row of a matrix at place `p` of tile `i`. -/
abbrev pos (i : Fin 16) (p : Fin 256) : Fin 4096 := ⟨256 * i + p, by omega⟩

theorem pos_div (i : Fin 16) (p : Fin 256) : (256 * (i : ℕ) + p) / 256 = i := by omega
theorem pos_mod (i : Fin 16) (p : Fin 256) : (256 * (i : ℕ) + p) % 256 = p := by omega

theorem q0_at (x : FVec Ideal S4x8x16x512x128 .bf16) (b h : Fin 4) (i : Fin 16) (p : Fin 256) (d : Fin 64) :
    q0 x (ix4 b h (pos i p) d) = x (ix5 b ⟨h, by omega⟩ i ⟨p, by omega⟩ ⟨d, by omega⟩) := by
  pointwise [q0]
  simp only [pos_div, pos_mod]

theorem q1_at (x : FVec Ideal S4x8x16x512x128 .bf16) (b h : Fin 4) (i : Fin 16) (p : Fin 256) (d : Fin 64) :
    q1 x (ix4 b h (pos i p) d) = x (ix5 b ⟨h, by omega⟩ i ⟨256 + p, by omega⟩ ⟨64 + d, by omega⟩) := by
  pointwise [q1]
  simp only [pos_div, pos_mod]

theorem k0_at (x : FVec Ideal S4x8x16x256x128 .bf16) (b h : Fin 4) (i : Fin 16) (p : Fin 256) (d : Fin 64) :
    k0 x (ix4 b h (pos i p) d) = x (ix5 b ⟨h, by omega⟩ i p ⟨d, by omega⟩) := by
  pointwise [k0]
  simp only [pos_div, pos_mod]

theorem k1_at (x : FVec Ideal S4x8x16x256x128 .bf16) (b h : Fin 4) (i : Fin 16) (p : Fin 256) (d : Fin 64) :
    k1 x (ix4 b h (pos i p) d) = x (ix5 b ⟨h, by omega⟩ i p ⟨64 + d, by omega⟩) := by
  pointwise [k1]
  simp only [pos_div, pos_mod]

theorem vv_at (x : FVec Ideal S4x8x16x128x256 .bf16) (b h : Fin 4) (i : Fin 16) (p : Fin 256) (d : Fin 128) :
    vv x (ix4 b h (pos i p) d) = x (ix5 b ⟨h, by omega⟩ i d p) := by
  pointwise [vv]
  simp only [pos_div, pos_mod]

theorem lam_at (x3 x4 x5 x6 : FVec Ideal S1x64 .f32) (z : S_.Idx) :
    lam x3 x4 x5 x6 z = Ideal.exp (∑ d : Fin 64, (x3 (ix2 0 d) : EReal) * x4 (ix2 0 d)) - Ideal.exp (∑ d : Fin 64, (x5 (ix2 0 d) : EReal) * x6 (ix2 0 d))
      + Ideal.ofBits .f32 0x3E4CCCCD#32 := by
  pointwise [lam]

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

theorem neg_inf : Ideal.ofBits .f32 0xFF800000#32 = ⊥ := by simp [Ideal.ofBits, Ideal.ieee]

theorem soft_at (s : FVec Ideal S4x4x4096x4096 .f32) (b h : Fin 4) (P κ : Fin 4096) :
    soft s (ix4 b h P κ) = Ideal.div (Ideal.exp ((s (ix4 b h P κ) : EReal) - top s (ix3 b h P)))
      (∑ κ' : Fin 4096, Ideal.exp ((s (ix4 b h P κ') : EReal) - top s (ix3 b h P))) := by
  pointwise [soft, expd]

theorem mix_at (a0 a1 : FVec Ideal S4x4x4096x4096 .f32) (l : FVec Ideal S_ .f32) (v : FVec Ideal S4x4x4096x128 .f32) (b h : Fin 4) (P : Fin 4096) (d : Fin 128) :
    mix a0 a1 l v (ix4 b h P d) = ∑ κ : Fin 4096, ((a0 (ix4 b h P κ) : EReal) - l ix0 * a1 (ix4 b h P κ)) * v (ix4 b h κ d) := by
  pointwise [mix]

theorem norm_at (o : FVec Ideal S4x4x4096x128 .f32) (g : FVec Ideal S1x128 .f32) (b h : Fin 4) (i : Fin 16) (d : Fin 128) (p : Fin 256) :
    norm o g (ix5 b h i d p)
      = (o (ix4 b h (pos i p) d) : EReal)
          * Ideal.rsqrt (Ideal.div (∑ e : Fin 128, (o (ix4 b h (pos i p) e) : EReal) * o (ix4 b h (pos i p) e)) (Ideal.ofBits .f32 0x43000000#32) + Ideal.ofBits .f32 0x358637BD#32)
        * g (ix2 0 d) * Ideal.ofBits .f32 0x3F4CCCCD#32 := by
  have hp : ∀ hlt, (⟨(i : ℕ) * 256 + p, hlt⟩ : Fin 4096) = pos i p := fun _ => Fin.ext (by show (i : ℕ) * 256 + p = 256 * i + p; omega)
  pointwise [norm]
  simp only [hp]

end Cert.RefIdeal.Proof

end
-- ==== Proof.RefTop.lean ====
/- The reference's masked scores, and the largest of a row, over the extended reals. -/
module

public import proofs.«01_k».proof.Proof.RefValue

@[expose] public section

set_option maxRecDepth 16384

noncomputable section

namespace Cert.RefIdeal.Proof

open Idealize.ShloMosaic Cert.RefIdeal Cert.RefIdeal.Gen Idealize.ShloMosaic.TcCoe

theorem scores_at (q k : FVec Ideal S4x4x4096x64 .f32) (b h : Fin 4) (P κ : Fin 4096) :
    scores q k (ix4 b h P κ)
      = if κ ≤ P then (∑ d : Fin 64, (q (ix4 b h P d) : EReal) * k (ix4 b h κ d)) * ((Real.log 2 : ℝ) : EReal) else ⊥ := by
  pointwise [scores]
  rw [WordCmp.cmpi_sle_ofNat (by have := κ.isLt; omega) (by have := P.isLt; omega), WordCmp.select_ofBool, log_two]
  rw [show (id (constant (F := Ideal) S_ .f32 0xFF800000#32) ix0 : EReal) = ⊥ from neg_inf]
  by_cases hh : κ ≤ P
  · rw [if_pos hh, if_pos (decide_eq_true (Fin.le_def.mp hh))]
  · rw [if_neg hh, if_neg fun e => hh (Fin.le_def.mpr (of_decide_eq_true e))]

section Max

variable {n0 n1 n2 n3 : ℕ} {t u : Shape}

/-- A largest element along the last axis lies above each and below every strict bound. -/
theorem max_between (h : (⟨4, ![n0, n1, n2, n3]⟩ : Shape).ReducesTo [3] t) (hu : 0 < u.numel) (s : (⟨4, ![n0, n1, n2, n3]⟩ : Shape).Idx → EReal)
    (init : u.Idx → EReal) (hi : init (Shape.Idx.first hu) < ⊤) (hs : ∀ x, s x < ⊤) (x : (⟨4, ![n0, n1, n2, n3]⟩ : Shape).Idx) :
    s x ≤ Host.reduce (FloatOps.maximumf (F := Ideal) (φ := .f32)) s init h hu (h.drop x)
      ∧ Host.reduce (FloatOps.maximumf (F := Ideal) (φ := .f32)) s init h hu (h.drop x) < ⊤ := by
  have e : Host.reduce (FloatOps.maximumf (F := Ideal) (φ := .f32)) s init h hu (h.drop x)
      = (Finset.univ.filter fun i => h.drop i = h.drop x).fold (max : EReal → EReal → EReal) (init (Shape.Idx.first hu)) s :=
    Host.reduce_eq_fold (max : EReal → EReal → EReal) s init h hu (h.drop x)
  rw [e]
  exact ⟨Finset.le_fold_max _ |>.mpr (.inr ⟨x, by simp, le_rfl⟩), Finset.fold_max_lt _ |>.mpr ⟨hi, fun y _ => hs y⟩⟩

/-- The maximum with a spread constant, at an index. -/
theorem max_spread {v : Shape} (bc : (⟨0, ![]⟩ : Shape).BroadcastsInDim v ![]) (z : (⟨0, ![]⟩ : Shape).Idx → Ideal .f32) (r : v.Idx → Ideal .f32) (x : v.Idx) (h : ∀ y, z y = (⊥ : EReal)) :
    maximumf (broadcastInDim v ![] bc z) r x = r x := by
  refine (congrArg (fun y : EReal => max y (r x)) (h _)).trans (max_eq_right bot_le)

end Max

theorem drop_at (b h : Fin 4) (P κ : Fin 4096) : reducesTo_S4x4x4096x4096_S4x4x4096_d3.drop (ix4 b h P κ) = ix3 b h P := by
  funext a
  apply Fin.ext
  match a with
  | ⟨0, _⟩ => rfl
  | ⟨1, _⟩ => rfl
  | ⟨2, _⟩ => rfl

/-- A row with a real score and none infinite has a real largest score. -/
theorem top_real (s : FVec Ideal S4x4x4096x4096 .f32) (hs : ∀ x, (s x : EReal) < ⊤) (b h : Fin 4) (P κ : Fin 4096)
    (hb : (⊥ : EReal) < s (ix4 b h P κ)) : ∃ T : ℝ, top s (ix3 b h P) = (T : EReal) := by
  have hm := max_between reducesTo_S4x4x4096x4096_S4x4x4096_d3 h_S_ s (constant (F := Ideal) S_ .f32 0xFF800000#32)
    (by show Ideal.ofBits .f32 0xFF800000#32 < ⊤; rw [neg_inf]; exact bot_lt_top) hs (ix4 b h P κ)
  rw [drop_at] at hm
  have e : top s (ix3 b h P) = Host.reduce FloatOps.maximumf s (constant S_ .f32 0xFF800000#32) reducesTo_S4x4x4096x4096_S4x4x4096_d3 h_S_ (ix3 b h P) := by
    unfold top
    exact max_spread _ _ _ _ fun _ => neg_inf
  rw [e]
  exact ⟨_, (EReal.coe_toReal hm.2.ne (lt_of_lt_of_le hb hm.1).ne').symm⟩

end Cert.RefIdeal.Proof

end
-- ==== Proof.SoftMath.lean ====
/- The arithmetic behind the differential attention: weights taken from a fixed bound in base 2 and normalised at the end are
   the softmax taken from the row's largest score in base e. -/
module

public import Idealize.ShloMosaic.PureOps.Ideal

@[expose] public section

noncomputable section

namespace Cert.Proof.Soft

open Idealize.ShloMosaic

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem exp2_mask (c : Prop) [Decidable c] (x M : ℝ) :
    Ideal.exp2 ((if c then (x : EReal) else ⊥) - (M : EReal)) = ((if c then (2 : ℝ) ^ (x - M) else 0 : ℝ) : EReal) := by
  by_cases h : c
  · rw [if_pos h, if_pos h, ← EReal.coe_sub]; rfl
  · rw [if_neg h, if_neg h, EReal.bot_sub]; simp

theorem exp_mask (c : Prop) [Decidable c] (x T : ℝ) :
    Ideal.exp ((if c then (x : EReal) else ⊥) - (T : EReal)) = ((if c then Real.exp (x - T) else 0 : ℝ) : EReal) := by
  by_cases h : c
  · rw [if_pos h, if_pos h, ← EReal.coe_sub]; rfl
  · rw [if_neg h, if_neg h, EReal.bot_sub]; simp

theorem div_coe (x y : ℝ) (h : y ≠ 0) : Ideal.div (x : EReal) (y : EReal) = ((x * y⁻¹ : ℝ) : EReal) := by
  unfold Ideal.div
  rw [if_neg (by exact_mod_cast h), EReal.coe_mul, EReal.coe_inv]

variable {n : ℕ}

/-- The weight of key `κ` for the query at `P`, from the bound `M`, in base 2. -/
def wt (X : Fin n → ℝ) (M : ℝ) (P κ : Fin n) : ℝ := if κ ≤ P then (2 : ℝ) ^ (X κ - M) else 0

theorem wt_sum_pos (X : Fin n → ℝ) (M : ℝ) (P : Fin n) : 0 < ∑ κ, wt X M P κ := by
  refine Finset.sum_pos' (fun κ _ => ?_) ⟨P, Finset.mem_univ _, ?_⟩
  · unfold wt; split <;> positivity
  · unfold wt; rw [if_pos le_rfl]; positivity

/-- The exponential weight is the base 2 weight, times one factor for the row. -/
theorem exp_eq (X : Fin n → ℝ) (M T : ℝ) (P κ : Fin n) :
    (if κ ≤ P then Real.exp (X κ * Real.log 2 - T) else 0) = Real.exp (M * Real.log 2 - T) * wt X M P κ := by
  unfold wt
  by_cases h : κ ≤ P
  · rw [if_pos h, if_pos h, Real.rpow_def_of_pos (by norm_num), ← Real.exp_add]
    congr 1
    ring
  · rw [if_neg h, if_neg h, mul_zero]

/-- One softmax weight. -/
theorem soft_eq (X : Fin n → ℝ) (M T : ℝ) (P κ : Fin n) :
    Ideal.div (Ideal.exp ((if κ ≤ P then ((X κ * Real.log 2 : ℝ) : EReal) else ⊥) - (T : EReal)))
        (∑ κ', Ideal.exp ((if κ' ≤ P then ((X κ' * Real.log 2 : ℝ) : EReal) else ⊥) - (T : EReal)))
      = ((wt X M P κ * (∑ κ', wt X M P κ')⁻¹ : ℝ) : EReal) := by
  have hW := (wt_sum_pos X M P).ne'
  have hc : Real.exp (M * Real.log 2 - T) ≠ 0 := (Real.exp_pos _).ne'
  simp only [exp_mask, sum_coe, exp_eq X M T P, ← Finset.mul_sum]
  rw [div_coe _ _ (mul_ne_zero hc hW)]
  congr 1
  field_simp

/-- The two halves, normalised at the end and then subtracted, are the difference of the softmaxes applied to the values. -/
theorem core (X0 X1 v : Fin n → ℝ) (M T0 T1 lam : ℝ) (P : Fin n) :
    (∑ κ, (v κ : EReal) * Ideal.exp2 ((if κ ≤ P then (X0 κ : EReal) else ⊥) - (M : EReal)))
          * Ideal.div 1 (∑ κ, Ideal.exp2 ((if κ ≤ P then (X0 κ : EReal) else ⊥) - (M : EReal)))
        - (lam : EReal) * ((∑ κ, (v κ : EReal) * Ideal.exp2 ((if κ ≤ P then (X1 κ : EReal) else ⊥) - (M : EReal)))
          * Ideal.div 1 (∑ κ, Ideal.exp2 ((if κ ≤ P then (X1 κ : EReal) else ⊥) - (M : EReal))))
      = ∑ κ, (Ideal.div (Ideal.exp ((if κ ≤ P then ((X0 κ * Real.log 2 : ℝ) : EReal) else ⊥) - (T0 : EReal)))
              (∑ κ', Ideal.exp ((if κ' ≤ P then ((X0 κ' * Real.log 2 : ℝ) : EReal) else ⊥) - (T0 : EReal)))
            - (lam : EReal) * Ideal.div (Ideal.exp ((if κ ≤ P then ((X1 κ * Real.log 2 : ℝ) : EReal) else ⊥) - (T1 : EReal)))
              (∑ κ', Ideal.exp ((if κ' ≤ P then ((X1 κ' * Real.log 2 : ℝ) : EReal) else ⊥) - (T1 : EReal)))) * (v κ : EReal) := by
  have h0 := (wt_sum_pos X0 M P).ne'
  have h1 := (wt_sum_pos X1 M P).ne'
  simp only [soft_eq X0 M T0 P, soft_eq X1 M T1 P, exp2_mask]
  have e (X : Fin n → ℝ) (κ : Fin n) : (if κ ≤ P then (2 : ℝ) ^ (X κ - M) else 0) = wt X M P κ := rfl
  simp only [e, ← EReal.coe_mul, ← EReal.coe_sub, sum_coe]
  rw [← EReal.coe_one, div_coe _ _ h0, div_coe _ _ h1]
  simp only [← EReal.coe_mul, ← EReal.coe_sub]
  congr 1
  simp only [one_mul, Finset.sum_mul, Finset.mul_sum]
  rw [← Finset.sum_sub_distrib]
  refine Finset.sum_congr rfl fun κ _ => ?_
  ring

/-- A sum over a row's keys, tile by tile. -/
theorem sum_tiles {M : Type} [AddCommMonoid M] (f : Fin 4096 → M) :
    ∑ κ, f κ = ∑ j : Fin 16, ∑ r : Fin 256, f ⟨256 * j + r, by omega⟩ := by
  rw [← Fintype.sum_prod_type']
  refine (Fintype.sum_equiv (finProdFinEquiv : Fin 16 × Fin 256 ≃ Fin (16 * 256)) _ _ fun x => ?_).symm
  refine congrArg f (Fin.ext ?_)
  show 256 * (x.1 : ℕ) + x.2 = x.2 + 256 * x.1
  omega

end Cert.Proof.Soft

end
-- ==== Proof.PreFinite.lean ====
/- What the precondition says of the arguments, at an index: the entries the kernel reads are real, and the lanes of a query tile
   that belong to the other half are zero. -/
module

public import proofs.«01_k».proof.Pre_finite_arguments
public import Idealize.ShloMosaic.Lib.Pointwise
public import Idealize.ShloMosaic.Lib.ReduceAll
public import Idealize.ShloMosaic.Lib.Affine

@[expose] public section

set_option maxRecDepth 16384

noncomputable section

namespace Cert.Pre_finite_arguments

open Idealize.ShloMosaic

/-- The side conditions of the precondition's operations. -/
theorem side : Facts where
  slices_S4x8x16x512x128_S4x4x16x512x128_0_0_0_0_0 := by decide
  bitsLt_bf16_f32 := by decide
  bcast_S_S4x4x16x512x128 := by decide
  reducesTo_S4x4x16x512x128_S_d0_1_2_3_4 := by decide
  h_S_ := by decide
  slices_S4x8x16x256x128_S4x4x16x256x128_0_0_0_0_0 := by decide
  bcast_S_S4x4x16x256x128 := by decide
  reducesTo_S4x4x16x256x128_S_d0_1_2_3_4 := by decide
  slices_S4x8x16x128x256_S4x4x16x128x256_0_0_0_0_0 := by decide
  bcast_S_S4x4x16x128x256 := by decide
  reducesTo_S4x4x16x128x256_S_d0_1_2_3_4 := by decide
  bcast_S_S1x64 := by decide
  reducesTo_S1x64_S_d0_1 := by decide
  reducesTo_S_S_d := by decide
  slices_S4x4x16x512x128_S4x4x16x256x64_0_0_0_0_64 := by decide
  bcast_S_S4x4x16x256x64 := by decide
  reducesTo_S4x4x16x256x64_S_d0_1_2_3_4 := by decide
  slices_S4x4x16x512x128_S4x4x16x256x64_0_0_0_256_0 := by decide

/-- A value whose magnitude is below infinity is real. -/
theorem real_of (x : Ideal .f32) (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  refine ⟨(x : EReal).toReal, (EReal.coe_toReal hlt.1.ne fun e => ?_).symm⟩
  rw [e] at hlt
  simp at hlt

theorem zero_of (x : Ideal .f32) (h : FloatOps.cmpf .oeq x (FloatOps.ofBits (F := Ideal) .f32 0x00000000#32) = 1#1) : (x : EReal) = 0 := by
  have h' : Ideal.cmp .oeq (x : EReal) (Ideal.ofBits .f32 0x00000000#32) = 1#1 := h
  rw [Ideal.ofBits_zero_f32] at h'
  unfold Ideal.cmp at h'
  by_contra hn
  simp [hn] at h'

instance : Subsingleton S_.Idx := ⟨fun _ _ => funext fun a => Fin.elim0 a⟩

/-- A conjunction of comparisons with infinity holds of real entries alone. -/
theorem all_real {s t u : Shape} [Subsingleton t.Idx] {axes : List (Fin s.rank)} (x : s.Idx → Ideal .f32) (init : u.Idx → BitVec 1) (h : s.ReducesTo axes t) (hu : 0 < u.numel)
    (z : (⟨0, ![]⟩ : Shape).Idx → Ideal .f32) (hz : ∀ y, z y = FloatOps.ofBits (F := Ideal) .f32 0x7F800000#32) (bc : (⟨0, ![]⟩ : Shape).BroadcastsInDim s ![]) (j : t.Idx)
    (e : Host.reduce IntOp.andi (cmpf .olt (Host.absf x) (broadcastInDim s ![] bc z)) init h hu j = 1#1) (i : s.Idx) : ∃ r : ℝ, (x i : EReal) = (r : EReal) := by
  have h1 := Host.reduce_andi_all _ _ _ _ _ e i
  refine real_of (x i) ?_
  rw [← hz]
  exact h1

theorem all_zero {s t u : Shape} [Subsingleton t.Idx] {axes : List (Fin s.rank)} (x : s.Idx → Ideal .f32) (init : u.Idx → BitVec 1) (h : s.ReducesTo axes t) (hu : 0 < u.numel)
    (z : (⟨0, ![]⟩ : Shape).Idx → Ideal .f32) (hz : ∀ y, z y = FloatOps.ofBits (F := Ideal) .f32 0x00000000#32) (bc : (⟨0, ![]⟩ : Shape).BroadcastsInDim s ![]) (j : t.Idx)
    (e : Host.reduce IntOp.andi (cmpf .oeq x (broadcastInDim s ![] bc z)) init h hu j = 1#1) (i : s.Idx) : (x i : EReal) = 0 := by
  have h1 := Host.reduce_andi_all _ _ _ _ _ e i
  refine zero_of (x i) ?_
  rw [← hz]
  exact h1

theorem and_split (x y : IVec S_ 1) (h : ∀ i, andi x y i = 1#1) : (∀ i, x i = 1#1) ∧ ∀ i, y i = 1#1 :=
  ⟨fun i => (IntOp.andi_eq_one.mp (h i)).1, fun i => (IntOp.andi_eq_one.mp (h i)).2⟩

/-- The precondition, entry by entry. -/
structure Says (q : FVec Ideal S4x8x16x512x128 .bf16) (k : FVec Ideal S4x8x16x256x128 .bf16) (v : FVec Ideal S4x8x16x128x256 .bf16)
    (x3 x4 x5 x6 : FVec Ideal S1x64 .f32) (x8 : FVec Ideal S_ .f32) : Prop where
  q_real : ∀ (b h : Fin 4) (i : Fin 16) (c : Fin 512) (d : Fin 128), ∃ r : ℝ, (q (ix5 b ⟨h, by omega⟩ i c d) : EReal) = (r : EReal)
  k_real : ∀ (b h : Fin 4) (i : Fin 16) (c : Fin 256) (d : Fin 128), ∃ r : ℝ, (k (ix5 b ⟨h, by omega⟩ i c d) : EReal) = (r : EReal)
  v_real : ∀ (b h : Fin 4) (i : Fin 16) (d : Fin 128) (c : Fin 256), ∃ r : ℝ, (v (ix5 b ⟨h, by omega⟩ i d c) : EReal) = (r : EReal)
  x3_real : ∀ i, ∃ r : ℝ, (x3 i : EReal) = (r : EReal)
  x4_real : ∀ i, ∃ r : ℝ, (x4 i : EReal) = (r : EReal)
  x5_real : ∀ i, ∃ r : ℝ, (x5 i : EReal) = (r : EReal)
  x6_real : ∀ i, ∃ r : ℝ, (x6 i : EReal) = (r : EReal)
  x8_real : ∀ i, ∃ r : ℝ, (x8 i : EReal) = (r : EReal)
  q_high : ∀ (b h : Fin 4) (i : Fin 16) (p : Fin 256) (d : Fin 64), (q (ix5 b ⟨h, by omega⟩ i ⟨p, by omega⟩ ⟨64 + d, by omega⟩) : EReal) = 0
  q_low : ∀ (b h : Fin 4) (i : Fin 16) (p : Fin 256) (d : Fin 64), (q (ix5 b ⟨h, by omega⟩ i ⟨256 + p, by omega⟩ ⟨d, by omega⟩) : EReal) = 0

theorem unpack [Facts] (q : FVec Ideal S4x8x16x512x128 .bf16) (k : FVec Ideal S4x8x16x256x128 .bf16) (v : FVec Ideal S4x8x16x128x256 .bf16)
    (x3 x4 x5 x6 : FVec Ideal S1x64 .f32) (x7 : FVec Ideal S1x128 .f32) (x8 : FVec Ideal S_ .f32)
    (h : fn q k v x3 x4 x5 x6 x7 x8 = fun _ => 1#1) : Says q k v x3 x4 x5 x6 x8 := by
  replace h : ∀ i, fn q k v x3 x4 x5 x6 x7 x8 i = 1#1 := fun i => congrFun h i
  unfold fn fn_part1 fn_part2 fn_part3 at h
  dsimp only at h
  obtain ⟨h, hz2⟩ := and_split _ _ h
  obtain ⟨h, hz1⟩ := and_split _ _ h
  obtain ⟨h, h8⟩ := and_split _ _ h
  obtain ⟨h, h6⟩ := and_split _ _ h
  obtain ⟨h, h5⟩ := and_split _ _ h
  obtain ⟨h, h4⟩ := and_split _ _ h
  obtain ⟨h, h3⟩ := and_split _ _ h
  obtain ⟨h, hv⟩ := and_split _ _ h
  obtain ⟨hq, hk⟩ := and_split _ _ h
  refine ⟨fun b hd i c d => ?_, fun b hd i c d => ?_, fun b hd i c d => ?_, all_real _ _ _ _ _ (fun _ => rfl) _ _ (h3 ix0), all_real _ _ _ _ _ (fun _ => rfl) _ _ (h4 ix0),
    all_real _ _ _ _ _ (fun _ => rfl) _ _ (h5 ix0), all_real _ _ _ _ _ (fun _ => rfl) _ _ (h6 ix0), ?_, fun b hd i p d => ?_, fun b hd i p d => ?_⟩
  · obtain ⟨r, hr⟩ := all_real _ _ _ _ _ (fun _ => rfl) _ _ (hq ix0) (ix5 b hd i c d)
    refine ⟨r, Eq.trans (Eq.symm ?_) hr⟩
    pointwise []
  · obtain ⟨r, hr⟩ := all_real _ _ _ _ _ (fun _ => rfl) _ _ (hk ix0) (ix5 b hd i c d)
    refine ⟨r, Eq.trans (Eq.symm ?_) hr⟩
    pointwise []
  · obtain ⟨r, hr⟩ := all_real _ _ _ _ _ (fun _ => rfl) _ _ (hv ix0) (ix5 b hd i c d)
    refine ⟨r, Eq.trans (Eq.symm ?_) hr⟩
    pointwise []
  · intro i
    exact real_of _ (Host.reduce_andi_all _ _ _ _ _ (h8 ix0) i)
  · refine Eq.trans (Eq.symm ?_) (all_zero _ _ _ _ _ (fun _ => rfl) _ _ (hz1 ix0) (ix5 b hd i p d))
    pointwise []
  · refine Eq.trans (Eq.symm ?_) (all_zero _ _ _ _ _ (fun _ => rfl) _ _ (hz2 ix0) (ix5 b hd i p d))
    pointwise []

end Cert.Pre_finite_arguments

end
-- ==== Proof.Value.lean ====
/- The tiled differential attention and the reference's agree, entry by entry, on real arguments. -/
module

public import proofs.«01_k».proof.Proof.Blocks
public import proofs.«01_k».proof.Proof.RefTop
public import proofs.«01_k».proof.Proof.SoftMath
public import proofs.«01_k».proof.Proof.PreFinite

@[expose] public section

set_option maxRecDepth 16384

noncomputable section

namespace Cert.Proof.Value

open Idealize.ShloMosaic Cert.Proof.Diff Cert.Proof.Soft Cert.RefIdeal.Proof Cert.AttnIdeal.Proof

theorem sum_halves (f : Fin 128 → ℝ) : ∑ d, f d = (∑ d : Fin 64, f ⟨d, by omega⟩) + ∑ d : Fin 64, f ⟨64 + d, by omega⟩ :=
  Fin.sum_univ_add (a := 64) (b := 64) f

theorem pos_cover (κ : Fin 4096) : ∃ j r, κ = pos j r :=
  ⟨⟨κ / 256, by omega⟩, ⟨κ % 256, by omega⟩, Fin.ext (by show (κ : ℕ) = 256 * (κ / 256) + κ % 256; omega)⟩

theorem pos_le (i j : Fin 16) (p r : Fin 256) : pos j r ≤ pos i p ↔ 256 * (j : ℕ) + r ≤ 256 * i + p := Iff.rfl

section Kernel

variable (D : Inp Ideal) (qr : Fin 16 → Fin 512 → Fin 128 → ℝ) (kr vr : Fin 4096 → Fin 128 → ℝ) (M lam : ℝ)
  (hq : ∀ i c d, (D.q (ix5 0 0 i c d) : EReal) = qr i c d) (hk : ∀ j r d, (D.k (ix5 0 0 j r d) : EReal) = kr (pos j r) d)
  (hv : ∀ j d r, (D.v (ix5 0 0 j d r) : EReal) = vr (pos j r) d) (hm : ∀ x, (D.mr x : EReal) = M)

include hq hk in
/-- A score is the product of the key's and the query's lanes, where the key is not after the query. -/
theorem ks_real (i j : Fin 16) (r p : Fin 256) (c : Fin 512) (hc : (c : ℕ) % 256 = p) (X : ℝ) (hX : ∑ d, kr (pos j r) d * qr i c d = X) :
    ks D i j r c = if pos j r ≤ pos i p then (X : EReal) else ⊥ := by
  unfold ks
  rw [hc]
  by_cases h : 256 * (j : ℕ) + r ≤ 256 * i + p
  · rw [if_pos h, if_pos ((pos_le i j p r).mpr h), ← hX, ← sum_coe]
    refine Finset.sum_congr rfl fun d _ => ?_
    rw [hq, hk, EReal.coe_mul]
  · rw [if_neg h, if_neg fun e => h ((pos_le i j p r).mp e)]

include hq hk hm in
theorem bl_real (i : Fin 16) (p : Fin 256) (c : Fin 512) (hc : (c : ℕ) % 256 = p) (X : Fin 4096 → ℝ) (hX : ∀ κ, ∑ d, kr κ d * qr i c d = X κ) :
    ∑ j : Fin 16, bl D i j c = ∑ κ, Ideal.exp2 ((if κ ≤ pos i p then (X κ : EReal) else ⊥) - (M : EReal)) := by
  rw [sum_tiles]
  unfold bl
  refine Finset.sum_congr rfl fun j _ => Finset.sum_congr rfl fun r _ => ?_
  rw [hm, ks_real D qr kr hq hk i j r p c hc (X (pos j r)) (hX _)]

include hq hk hv hm in
theorem ba_real (i : Fin 16) (p : Fin 256) (d : Fin 128) (c : Fin 512) (hc : (c : ℕ) % 256 = p) (X : Fin 4096 → ℝ) (hX : ∀ κ, ∑ d, kr κ d * qr i c d = X κ) :
    ∑ j : Fin 16, ba D i j d c = ∑ κ, (vr κ d : EReal) * Ideal.exp2 ((if κ ≤ pos i p then (X κ : EReal) else ⊥) - (M : EReal)) := by
  rw [sum_tiles]
  unfold ba
  refine Finset.sum_congr rfl fun j _ => Finset.sum_congr rfl fun r _ => ?_
  rw [hm, hv, ks_real D qr kr hq hk i j r p c hc (X (pos j r)) (hX _)]

include hq hk hv hm in
/-- The difference of the halves in the kernel's own form, over all the keys. -/
theorem mixd_real (hl : lamv D.lm = lam) (i : Fin 16) (p : Fin 256) (d : Fin 128) (X0 X1 : Fin 4096 → ℝ)
    (h0 : ∀ κ, ∑ e, kr κ e * qr i ⟨p, by omega⟩ e = X0 κ) (h1 : ∀ κ, ∑ e, kr κ e * qr i ⟨256 + p, by omega⟩ e = X1 κ) :
    mixd D i p d
      = (∑ κ, (vr κ d : EReal) * Ideal.exp2 ((if κ ≤ pos i p then (X0 κ : EReal) else ⊥) - (M : EReal)))
          * Ideal.div 1 (∑ κ, Ideal.exp2 ((if κ ≤ pos i p then (X0 κ : EReal) else ⊥) - (M : EReal)))
        - (lam : EReal) * ((∑ κ, (vr κ d : EReal) * Ideal.exp2 ((if κ ≤ pos i p then (X1 κ : EReal) else ⊥) - (M : EReal)))
          * Ideal.div 1 (∑ κ, Ideal.exp2 ((if κ ≤ pos i p then (X1 κ : EReal) else ⊥) - (M : EReal)))) := by
  have hp : (p : ℕ) % 256 = p := Nat.mod_eq_of_lt p.isLt
  have hp' : (256 + (p : ℕ)) % 256 = p := by omega
  unfold mixd
  rw [hl, ba_real D qr kr vr M hq hk hv hm i p d ⟨p, _⟩ hp X0 h0, ba_real D qr kr vr M hq hk hv hm i p d ⟨256 + p, _⟩ hp' X1 h1,
    bl_real D qr kr M hq hk hm i p ⟨p, _⟩ hp X0 h0, bl_real D qr kr M hq hk hm i p ⟨256 + p, _⟩ hp' X1 h1]

end Kernel

section Reference

open Cert.RefIdeal Cert.RefIdeal.Gen

/-- A half's softmax weight, when its queries and keys are real. -/
theorem soft_real (q k : FVec Ideal S4x4x4096x64 .f32) (hq : ∀ b h P d, ∃ r : ℝ, (q (ix4 b h P d) : EReal) = r) (hk : ∀ b h P d, ∃ r : ℝ, (k (ix4 b h P d) : EReal) = r)
    (b h : Fin 4) (P : Fin 4096) (X : Fin 4096 → ℝ) (hX : ∀ κ, (∑ d : Fin 64, (q (ix4 b h P d) : EReal) * k (ix4 b h κ d)) = (X κ : EReal)) :
    ∃ T : ℝ, ∀ κ, soft (scores q k) (ix4 b h P κ)
      = Ideal.div (Ideal.exp ((if κ ≤ P then ((X κ * Real.log 2 : ℝ) : EReal) else ⊥) - (T : EReal)))
          (∑ κ', Ideal.exp ((if κ' ≤ P then ((X κ' * Real.log 2 : ℝ) : EReal) else ⊥) - (T : EReal))) := by
  have hlt : ∀ x, (scores q k x : EReal) < ⊤ := by
    intro x
    obtain ⟨b', h', P', κ', rfl⟩ : ∃ (b' h' : Fin 4) (P' κ' : Fin 4096), x = ix4 b' h' P' κ' := by
      refine ⟨x 0, x 1, x 2, x 3, funext fun a => ?_⟩
      match a with
      | ⟨0, _⟩ => rfl
      | ⟨1, _⟩ => rfl
      | ⟨2, _⟩ => rfl
      | ⟨3, _⟩ => rfl
    rw [scores_at]
    by_cases hc : κ' ≤ P'
    · rw [if_pos hc]
      choose qr hqr using hq b' h' P'
      choose kr hkr using hk b' h' κ'
      simp only [hqr, hkr, ← EReal.coe_mul, sum_coe]
      exact EReal.coe_lt_top _
    · rw [if_neg hc]
      exact bot_lt_top
  have hs : ∀ κ, (scores q k (ix4 b h P κ) : EReal) = if κ ≤ P then ((X κ * Real.log 2 : ℝ) : EReal) else ⊥ := by
    intro κ
    rw [scores_at, hX, EReal.coe_mul]
  obtain ⟨T, hT⟩ := top_real (scores q k) hlt b h P P (by rw [hs, if_pos le_rfl]; exact EReal.bot_lt_coe _)
  refine ⟨T, fun κ => ?_⟩
  rw [soft_at, hT]
  simp only [hs]

end Reference

theorem fifth_real : ∃ r : ℝ, Ideal.ofBits .f32 0x3E4CCCCD#32 = (r : EReal) := by
  refine ⟨(Ideal.ofBits .f32 0x3E4CCCCD#32).toReal, (EReal.coe_toReal ?_ ?_).symm⟩
  · simp [Ideal.ofBits, Ideal.ieee, ← EReal.coe_mul]
  · simp [Ideal.ofBits, Ideal.ieee, ← EReal.coe_mul]

/-- The weight of the second half is real. -/
theorem lam_real (x3 x4 x5 x6 : Fin 64 → EReal) (h3 : ∀ d, ∃ r : ℝ, x3 d = r) (h4 : ∀ d, ∃ r : ℝ, x4 d = r) (h5 : ∀ d, ∃ r : ℝ, x5 d = r) (h6 : ∀ d, ∃ r : ℝ, x6 d = r) :
    ∃ r : ℝ, Ideal.exp (∑ d, x3 d * x4 d) - Ideal.exp (∑ d, x5 d * x6 d) + Ideal.ofBits .f32 0x3E4CCCCD#32 = (r : EReal) := by
  obtain ⟨e, he⟩ := fifth_real
  choose r3 h3 using h3
  choose r4 h4 using h4
  choose r5 h5 using h5
  choose r6 h6 using h6
  rw [he]
  simp only [h3, h4, h5, h6, ← EReal.coe_mul, sum_coe, Ideal.exp_coe, ← EReal.coe_sub, ← EReal.coe_add]
  exact ⟨_, rfl⟩

section Both

open Cert.AttnIdeal Cert.AttnIdeal.Gen Idealize.ShloMosaic.TcCoe

variable (m : (ℓ : Loc nD τ sig) → Buf (Elt Ideal) ℓ) (c : Dev nD)

/-- The reference of the kernel's arguments. -/
def mixr : FVec Ideal Cert.RefIdeal.S4x4x4096x128 .f32 :=
  mix (soft (scores (q0 (F := Ideal) (m ((c.tc : Thread nD τ).loc main_arg0))) (k0 (F := Ideal) (m ((c.tc : Thread nD τ).loc main_arg1)))))
    (soft (scores (q1 (F := Ideal) (m ((c.tc : Thread nD τ).loc main_arg0))) (k1 (F := Ideal) (m ((c.tc : Thread nD τ).loc main_arg1)))))
    (Cert.RefIdeal.Proof.lam (F := Ideal) (m ((c.tc : Thread nD τ).loc main_arg3)) (m ((c.tc : Thread nD τ).loc main_arg4)) (m ((c.tc : Thread nD τ).loc main_arg5)) (m ((c.tc : Thread nD τ).loc main_arg6)))
    (vv (F := Ideal) (m ((c.tc : Thread nD τ).loc main_arg2)))

variable (S : Cert.Pre_finite_arguments.Says (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg8)))

theorem lamv_eq (t : Fin (cfg0 (F := Ideal) adm).N) :
    lamv (Din m c t).lm = Cert.RefIdeal.Proof.lam (F := Ideal) (m ((c.tc : Thread nD τ).loc main_arg3)) (m ((c.tc : Thread nD τ).loc main_arg4)) (m ((c.tc : Thread nD τ).loc main_arg5))
      (m ((c.tc : Thread nD τ).loc main_arg6)) Idealize.ShloMosaic.ix0 := by
  rw [lam_at]
  unfold lamv
  have h0 : ∀ d : Fin 64, ((Din m c t).lm (ix2 0 d) : EReal) = m ((c.tc : Thread nD τ).loc main_arg3) (ix2 0 d) := fun d => (l_read m c t _).trans (V_lam m c 0 d)
  have h1 : ∀ d : Fin 64, ((Din m c t).lm (ix2 1 d) : EReal) = m ((c.tc : Thread nD τ).loc main_arg4) (ix2 0 d) := fun d => (l_read m c t _).trans (V_lam m c 1 d)
  have h2 : ∀ d : Fin 64, ((Din m c t).lm (ix2 2 d) : EReal) = m ((c.tc : Thread nD τ).loc main_arg5) (ix2 0 d) := fun d => (l_read m c t _).trans (V_lam m c 2 d)
  have h3 : ∀ d : Fin 64, ((Din m c t).lm (ix2 3 d) : EReal) = m ((c.tc : Thread nD τ).loc main_arg6) (ix2 0 d) := fun d => (l_read m c t _).trans (V_lam m c 3 d)
  simp only [h0, h1, h2, h3]

include S in
/-- The differences of the halves agree. -/
theorem mix_eq (t : Fin (cfg0 (F := Ideal) adm).N) (b h : Fin 4) (hb : (b : ℕ) = t / 4) (hh : (h : ℕ) = t % 4) (i : Fin 16) (p : Fin 256) (d : Fin 128) :
    mixd (Din m c t) i p d = mixr m c (ix4 b h (pos i p) d) := by
  choose qr hqr using S.q_real b h
  choose kr hkr using S.k_real b h
  choose vr hvr using S.v_real b h
  obtain ⟨M, hM⟩ := S.x8_real Idealize.ShloMosaic.ix0
  obtain ⟨lam, hlam⟩ := lam_real (fun d => m ((c.tc : Thread nD τ).loc main_arg3) (ix2 0 d)) (fun d => m ((c.tc : Thread nD τ).loc main_arg4) (ix2 0 d))
    (fun d => m ((c.tc : Thread nD τ).loc main_arg5) (ix2 0 d)) (fun d => m ((c.tc : Thread nD τ).loc main_arg6) (ix2 0 d))
    (fun d => S.x3_real _) (fun d => S.x4_real _) (fun d => S.x5_real _) (fun d => S.x6_real _)
  have hl : Cert.RefIdeal.Proof.lam (F := Ideal) (m ((c.tc : Thread nD τ).loc main_arg3)) (m ((c.tc : Thread nD τ).loc main_arg4)) (m ((c.tc : Thread nD τ).loc main_arg5))
      (m ((c.tc : Thread nD τ).loc main_arg6)) Idealize.ShloMosaic.ix0 = (lam : EReal) := (lam_at _ _ _ _ _).trans hlam
  have hz1 : ∀ e : Fin 64, qr i ⟨p, by omega⟩ ⟨64 + e, by omega⟩ = 0 := fun e => by
    have := (hqr i ⟨p, by omega⟩ ⟨64 + e, by omega⟩).symm.trans (S.q_high b h i p e)
    exact_mod_cast this
  have hz0 : ∀ e : Fin 64, qr i ⟨256 + p, by omega⟩ ⟨e, by omega⟩ = 0 := fun e => by
    have := (hqr i ⟨256 + p, by omega⟩ ⟨e, by omega⟩).symm.trans (S.q_low b h i p e)
    exact_mod_cast this
  let kf : Fin 4096 → Fin 128 → ℝ := fun κ e => kr ⟨κ / 256, by omega⟩ ⟨κ % 256, by omega⟩ e
  let vf : Fin 4096 → Fin 128 → ℝ := fun κ e => vr ⟨κ / 256, by omega⟩ e ⟨κ % 256, by omega⟩
  have hkf : ∀ j r e, kf (pos j r) e = kr j r e := fun j r e => by
    show kr ⟨(256 * (j : ℕ) + r) / 256, _⟩ ⟨(256 * (j : ℕ) + r) % 256, _⟩ e = _
    simp only [pos_div, pos_mod]
  have hvf : ∀ j r e, vf (pos j r) e = vr j e r := fun j r e => by
    show vr ⟨(256 * (j : ℕ) + r) / 256, _⟩ e ⟨(256 * (j : ℕ) + r) % 256, _⟩ = _
    simp only [pos_div, pos_mod]
  clear_value kf vf
  let X0 : Fin 4096 → ℝ := fun κ => ∑ e : Fin 64, qr i ⟨p, by omega⟩ ⟨e, by omega⟩ * kf κ ⟨e, by omega⟩
  let X1 : Fin 4096 → ℝ := fun κ => ∑ e : Fin 64, qr i ⟨256 + p, by omega⟩ ⟨64 + e, by omega⟩ * kf κ ⟨64 + e, by omega⟩
  have h0 : ∀ κ, ∑ e, kf κ e * qr i ⟨p, by omega⟩ e = X0 κ := fun κ => by
    rw [sum_halves]
    simp only [hz1, mul_zero, Finset.sum_const_zero, add_zero]
    exact Finset.sum_congr rfl fun e _ => mul_comm _ _
  have h1 : ∀ κ, ∑ e, kf κ e * qr i ⟨256 + p, by omega⟩ e = X1 κ := fun κ => by
    rw [sum_halves]
    simp only [hz0, mul_zero, Finset.sum_const_zero, zero_add]
    exact Finset.sum_congr rfl fun e _ => mul_comm _ _
  have hq0 : ∀ b h P e, ∃ r : ℝ, (q0 (F := Ideal) (m ((c.tc : Thread nD τ).loc main_arg0)) (ix4 b h P e) : EReal) = r := fun b h P e => by
    obtain ⟨j, r, rfl⟩ := pos_cover P
    rw [q0_at]
    exact S.q_real b h j _ _
  have hq1 : ∀ b h P e, ∃ r : ℝ, (q1 (F := Ideal) (m ((c.tc : Thread nD τ).loc main_arg0)) (ix4 b h P e) : EReal) = r := fun b h P e => by
    obtain ⟨j, r, rfl⟩ := pos_cover P
    rw [q1_at]
    exact S.q_real b h j _ _
  have hk0 : ∀ b h P e, ∃ r : ℝ, (k0 (F := Ideal) (m ((c.tc : Thread nD τ).loc main_arg1)) (ix4 b h P e) : EReal) = r := fun b h P e => by
    obtain ⟨j, r, rfl⟩ := pos_cover P
    rw [k0_at]
    exact S.k_real b h j _ _
  have hk1 : ∀ b h P e, ∃ r : ℝ, (k1 (F := Ideal) (m ((c.tc : Thread nD τ).loc main_arg1)) (ix4 b h P e) : EReal) = r := fun b h P e => by
    obtain ⟨j, r, rfl⟩ := pos_cover P
    rw [k1_at]
    exact S.k_real b h j _ _
  obtain ⟨T0, hT0⟩ := soft_real _ _ hq0 hk0 b h (pos i p) X0 fun κ => by
    obtain ⟨j, r, rfl⟩ := pos_cover κ
    rw [← sum_coe]
    refine Finset.sum_congr rfl fun e _ => ?_
    rw [q0_at, k0_at, hqr, hkr, hkf, EReal.coe_mul]
  obtain ⟨T1, hT1⟩ := soft_real _ _ hq1 hk1 b h (pos i p) X1 fun κ => by
    obtain ⟨j, r, rfl⟩ := pos_cover κ
    rw [← sum_coe]
    refine Finset.sum_congr rfl fun e _ => ?_
    rw [q1_at, k1_at, hqr, hkr, hkf, EReal.coe_mul]
  have hv : ∀ κ, (vv (F := Ideal) (m ((c.tc : Thread nD τ).loc main_arg2)) (ix4 b h κ d) : EReal) = vf κ d := fun κ => by
    obtain ⟨j, r, rfl⟩ := pos_cover κ
    rw [vv_at, hvr, hvf]
  rw [mixd_real (Din m c t) qr kf vf M lam (fun i x e => (q_read m c t b h hb hh i x e).trans (hqr i x e))
    (fun j r e => (k_read m c t b h hb hh j r e).trans ((hkr j r e).trans (by rw [hkf])))
    (fun j e r => (v_read m c t b h hb hh j e r).trans ((hvr j e r).trans (by rw [hvf])))
    (fun x => (m_read m c t x).trans ((V_bound m c x).trans hM)) ((lamv_eq m c t).trans hl) i p d X0 X1 h0 h1]
  rw [core X0 X1 (fun κ => vf κ d) M T0 T1 lam (pos i p)]
  unfold mixr
  rw [mix_at, hl]
  simp only [hT0, hT1, hv]

include S in
/-- The result's array is the reference's. -/
theorem out_eq :
    (dats m 0 c).arrAt 6 (cfg0 (F := Ideal) adm).N
      = Cert.RefIdeal.Proof.norm (mixr m c) (m ((c.tc : Thread nD τ).loc main_arg7)) := by
  refine (out_of m c (fun b h i d p => Cert.RefIdeal.Proof.norm (mixr m c) (m ((c.tc : Thread nD τ).loc main_arg7)) (ix5 b h i d p)) ?_).trans ?_
  · intro t b h hb hh i d p
    have hg : ((Din m c t).sg (ix2 d p) : EReal) = m ((c.tc : Thread nD τ).loc main_arg7) (ix2 0 d) := (g_read m c t _).trans (V_gain m c d p)
    refine (outv_at (Din m c t) rfl rfl rfl i d p).trans ?_
    rw [norm_at]
    simp only [mix_eq m c S t b h hb hh, hg]
  · funext x
    refine congrArg _ (funext fun a => ?_)
    match a with
    | ⟨0, _⟩ => rfl
    | ⟨1, _⟩ => rfl
    | ⟨2, _⟩ => rfl
    | ⟨3, _⟩ => rfl
    | ⟨4, _⟩ => rfl

end Both

end Cert.Proof.Value

end
-- ==== Proof.MlpBody.lean ====
/- What one grid point of the feed-forward kernel leaves, as the payloads of the loads over the carried rows. -/
module

public import proofs.«01_k».proof.Proof.Gen.MlpIdeal.Value
public import Idealize.ShloMosaic.Lib.WritesUnit
public import Idealize.ShloMosaic.Lib.WholeRead
public import Idealize.ShloMosaic.Lib.Pointwise

@[expose] public section

set_option maxRecDepth 16384

noncomputable section

namespace Cert.MlpIdeal.Proof

open Idealize.ShloMosaic Cert.MlpIdeal.Gen Idealize.ShloMosaic.TcCoe

variable {F : FTy → Type} [FloatOps F]

/-- The buffer of rows: eight kept ones, then a tile's. -/
def cont (p : Vec F S8x2816 .f32) (u : Vec F S512x2816 .f32) : Vec F S520x2816 .f32 := fun y =>
  if h : (y 0).val < 8 then p (ix2 ⟨(y 0).val, h⟩ (y 1)) else u (ix2 ⟨(y 0).val - 8, by have : (y 0).val < 520 := (y 0).isLt; omega⟩ (y 1))

/-- The 512 rows from row `j` on. -/
def win (j : Fin 9) (s : Vec F S520x2816 .f32) : Vec F S512x2816 .f32 := fun y =>
  s (ix2 ⟨j + (y 0).val, by have : (y 0).val < 512 := (y 0).isLt; omega⟩ (y 1))

/-- One row of the taps. -/
def row (j : Fin 3) (s : Vec F S3x2816 .f32) : Vec F S1x2816 .f32 := fun y => s (ix2 j (y 1))

/-- The first eight rows. -/
def head (s : Vec F S520x2816 .f32) : Vec F S8x2816 .f32 := fun y =>
  s (ix2 ⟨(y 0).val, by have : (y 0).val < 8 := (y 0).isLt; omega⟩ (y 1))

theorem ld_whole {sg : RefSig} {κ : Kind} {sp : Space} {s : Shape} {e : EltTy} {m : Memref sg κ sp s e} (h : m.IsWhole) (X : s.Idx → Elt F e)
    {off : Fin s.rank → Nat} (ho : off = fun _ => 0) (inb : ∀ a, off a + s.size a ≤ s.size a) :
    View.readAt (Elt F) m.view (Rect.unit off s.size inb).toLoadRect (h.unread X) = X := by
  subst ho
  funext x
  refine (h.readAt_unread X _ x).trans ?_
  show X ((Rect.whole s).emb x) = X x
  rw [Rect.emb_whole_apply]

theorem zero2 : (![0, 0] : Fin 2 → ℕ) = fun _ => 0 := by
  funext a
  match a with
  | ⟨0, _⟩ => rfl
  | ⟨1, _⟩ => rfl

theorem ld_row {m : Memref sig .tc .vmem S3x2816 .f32} (h : m.IsWhole) (X : Vec F S3x2816 .f32) (j : Fin 3)
    (inb : ∀ a, (![(j : ℕ), 0] : Fin 2 → ℕ) a + (![1, 2816] : Fin 2 → ℕ) a ≤ S3x2816.size a) :
    View.readAt (Elt F) m.view (Rect.unit (s := S3x2816) ![(j : ℕ), 0] ![1, 2816] inb).toLoadRect (h.unread X) = row j X := by
  funext x
  refine (h.readAt_unread X _ x).trans (congrArg X (funext fun a => Fin.ext ?_))
  match a with
  | ⟨0, _⟩ =>
    have h0 : (x 0).val < 1 := (x 0).isLt
    show (j : ℕ) + 1 * (x 0).val = j
    omega
  | ⟨1, _⟩ =>
    show 0 + 1 * (x 1).val = (x 1).val
    omega

theorem read_two (v : View sig .tc .vmem S520x2816 .f32) (f : v.ty.Contents (Elt F)) (u : Vec F S512x2816 .f32) (p : Vec F S8x2816 .f32) :
    v.read (Elt F) (v.writes (Elt F) f
      [⟨Rect.unit (s := S520x2816) ![8, 0] ![512, 2816] inb_S520x2816_S512x2816_8_0, u⟩, ⟨Rect.unit (s := S520x2816) ![0, 0] ![8, 2816] inb_S520x2816_S8x2816_0_0, p⟩])
      = cont p u := by
  funext y
  have hy : (y 0).val < 520 := (y 0).isLt
  unfold cont
  by_cases h : (y 0).val < 8
  · rw [dif_pos h]
    refine (View.read_writes_cons_rows_of_not_mem v f _ _ _ y (o := 8) (W := 512) rfl rfl (Or.inl h)).trans ?_
    exact View.read_writes_cons_rows_of_mem v f _ _ _ y _ (o := 0) rfl (by show (y 0).val = 0 + (y 0).val; omega) rfl
  · rw [dif_neg h]
    exact View.read_writes_cons_rows_of_mem v f _ _ _ y _ (o := 8) rfl (by show (y 0).val = 8 + ((y 0).val - 8); omega) rfl

theorem read_one (v : View sig .tc .vmem S520x2816 .f32) (f : v.ty.Contents (Elt F)) (u : Vec F S512x2816 .f32) :
    v.read (Elt F) (v.writes (Elt F) f [⟨Rect.unit (s := S520x2816) ![8, 0] ![512, 2816] inb_S520x2816_S512x2816_8_0, u⟩])
      = cont (head (v.read (Elt F) f)) u := by
  funext y
  have hy : (y 0).val < 520 := (y 0).isLt
  unfold cont
  by_cases h : (y 0).val < 8
  · rw [dif_pos h]
    refine (View.read_writes_cons_rows_of_not_mem v f _ _ _ y (o := 8) (W := 512) rfl rfl (Or.inl h)).trans ?_
    refine congrArg (v.read (Elt F) f) (funext fun a => ?_)
    match a with
    | ⟨0, _⟩ => rfl
    | ⟨1, _⟩ => rfl
  · rw [dif_neg h]
    exact View.read_writes_cons_rows_of_mem v f _ _ _ y _ (o := 8) rfl (by show (y 0).val = 8 + ((y 0).val - 8); omega) rfl

theorem read_head (v : View sig .tc .vmem S520x2816 .f32) (f : v.ty.Contents (Elt F)) (p : Vec F S8x2816 .f32) (L : List (View.Piece (Elt F) S520x2816 .f32)) :
    head (v.read (Elt F) (v.writes (Elt F) f
      (⟨Rect.unit (s := S520x2816) ![0, 0] ![8, 2816] inb_S520x2816_S8x2816_0_0, p⟩ :: L))) = p := by
  funext y
  exact View.read_writes_cons_rows_of_mem v f _ _ _ _ _ (o := 0) rfl (by show (y 0).val = 0 + (y 0).val; omega) rfl

theorem ld_win (v : View sig .tc .vmem S520x2816 .f32) (f : v.ty.Contents (Elt F)) (j : Fin 9)
    (inb : ∀ a, (![(j : ℕ), 0] : Fin 2 → ℕ) a + (![512, 2816] : Fin 2 → ℕ) a ≤ S520x2816.size a) :
    View.readAt (Elt F) v (Rect.unit (s := S520x2816) ![(j : ℕ), 0] ![512, 2816] inb).toLoadRect f = win j (v.read (Elt F) f) := by
  funext x
  refine congrArg (v.read (Elt F) f) (funext fun a => Fin.ext ?_)
  match a with
  | ⟨0, _⟩ =>
    show (j : ℕ) + 1 * (x 0).val = j + (x 0).val
    omega
  | ⟨1, _⟩ =>
    show 0 + 1 * (x 1).val = (x 1).val
    omega

/-- From row 8 on the kept rows are not read. -/
theorem win_8 (p p' : Vec F S8x2816 .f32) (u : Vec F S512x2816 .f32) : win 8 (cont p u) = win 8 (cont p' u) := by
  funext y
  have h : ¬(8 + (y 0).val < 8) := by omega
  have e : ∀ q : Vec F S8x2816 .f32, win 8 (cont q u) y = u (ix2 ⟨8 + (y 0).val - 8, by have : (y 0).val < 512 := (y 0).isLt; omega⟩ (y 1)) := fun q => dif_neg h
  exact (e p).trans (e p').symm

/-- A tile's result, the eight rows before it given. -/
def tile (p : Vec F S8x2816 .f32) (x0 : Vec F S512x1024 .bf16) (x1 : Vec F S512x1024 .f32) (x2 : Vec F S1024x5632 .bf16) (x3 : Vec F S3x2816 .f32)
    (x4 : Vec F S1x2816 .f32) (x5 : Vec F S2816x1024 .bf16) : Vec F S512x1024 .f32 :=
  k0_pay2 (k0_pay6 x0 x2) (k0_pay8 x4 (win 6 (cont p (k0_pay7 x0 x2))) (row 0 x3)) (win 7 (cont p (k0_pay7 x0 x2))) (row 1 x3)
    (win 8 (cont p (k0_pay7 x0 x2))) (row 2 x3) x1 x5

section Cases

variable (c : Dev nD) (i : grid0.Coords) (arg1 : Memref sig .tc .vmem S512x1024 .bf16) (harg1 : arg1.IsWhole) (arg2 : Memref sig .tc .vmem S512x1024 .f32) (harg2 : arg2.IsWhole) (arg3 : Memref sig .tc .vmem S1024x5632 .bf16) (harg3 : arg3.IsWhole) (arg4 : Memref sig .tc .vmem S3x2816 .f32) (harg4 : arg4.IsWhole) (arg5 : Memref sig .tc .vmem S1x2816 .f32) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S520x2816 .f32) (harg8 : arg8.IsWhole)
    (x0 : Vec F S512x1024 .bf16) (x1 : Vec F S512x1024 .f32) (x2 : Vec F S1024x5632 .bf16) (x3 : Vec F S3x2816 .f32) (x4 : Vec F S1x2816 .f32) (x5 : Vec F S2816x1024 .bf16) (xs0 : Vec F S520x2816 .f32)

theorem out_A (hc0 : _) :
    out0_A_6 c i arg1 harg1 arg2 harg2 arg3 harg3 arg4 harg4 arg5 harg5 arg6 harg6 arg7 harg7 arg8 harg8 hc0 x0 x1 x2 x3 x4 x5
      = tile k0_pay3 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  refine (View.canon_unit_zero zero2 _ _).trans ?_
  have e1 := ld_whole (F := F) harg1 x0 zero2 inb_S512x1024_S512x1024_0_0
  have e2 := ld_whole (F := F) harg2 x1 zero2 inb_S512x1024_S512x1024_0_0
  have e3 := ld_whole (F := F) harg3 x2 zero2 inb_S1024x5632_S1024x5632_0_0
  have e5 := ld_whole (F := F) harg5 x4 zero2 inb_S1x2816_S1x2816_0_0
  have e6 := ld_whole (F := F) harg6 x5 zero2 inb_S2816x1024_S2816x1024_0_0
  have r0 := ld_row (F := F) harg4 x3 0 inb_S3x2816_S1x2816_0_0
  have r1 := ld_row (F := F) harg4 x3 1 inb_S3x2816_S1x2816_1_0
  have r2 := ld_row (F := F) harg4 x3 2 inb_S3x2816_S1x2816_2_0
  have u7 := congr (congrArg (k0_pay7 (F := F)) e1) e3
  have wj : ∀ (j : Fin 9) (inb : ∀ a, (![(j : ℕ), 0] : Fin 2 → ℕ) a + (![512, 2816] : Fin 2 → ℕ) a ≤ S520x2816.size a) (u : Vec F S512x2816 .f32),
      View.readAt (Elt F) arg8.view (Rect.unit (s := S520x2816) ![(j : ℕ), 0] ![512, 2816] inb).toLoadRect (arg8.view.writes (Elt F) arg8.view.junk
        [⟨Rect.unit (s := S520x2816) ![8, 0] ![512, 2816] inb_S520x2816_S512x2816_8_0, u⟩, ⟨Rect.unit (s := S520x2816) ![0, 0] ![8, 2816] inb_S520x2816_S8x2816_0_0, k0_pay3⟩])
        = win j (cont k0_pay3 u) := fun j inb u => (ld_win _ _ j inb).trans (congrArg (win j) (read_two _ _ u k0_pay3))
  simp only [kernelRun0_A.sl.r_1, kernelRun0_A.sl.r_2, kernelRun0_A.sl.v23, kernelRun0_A.sl.v30, kernelRun0_A.sl.r_3, kernelRun0_A.sl.v36, kernelRun0_A.sl.HS0_2]
  unfold tile
  exact congr (congr (congr (congr (congr (congr (congr (congrArg k0_pay2 (congr (congrArg k0_pay6 e1) e3))
    (congr (congr (congrArg k0_pay8 e5) ((wj 6 inb_S520x2816_S512x2816_6_0 _).trans (congrArg (fun u => win 6 (cont k0_pay3 u)) u7))) r0))
    ((wj 7 inb_S520x2816_S512x2816_7_0 _).trans (congrArg (fun u => win 7 (cont k0_pay3 u)) u7))) r1)
    ((wj 8 inb_S520x2816_S512x2816_8_0 _).trans (congrArg (fun u => win 8 (cont k0_pay3 u)) u7))) r2) e2) e6

theorem out_B (hc0 : _) :
    out0_B_6 c i arg1 harg1 arg2 harg2 arg3 harg3 arg4 harg4 arg5 harg5 arg6 harg6 arg7 harg7 arg8 harg8 hc0 x0 x1 x2 x3 x4 x5 xs0
      = tile (head xs0) x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xs0)]
  unfold kernelRun0_B
  dsimp only
  refine (View.canon_unit_zero zero2 _ _).trans ?_
  have e1 := ld_whole (F := F) harg1 x0 zero2 inb_S512x1024_S512x1024_0_0
  have e2 := ld_whole (F := F) harg2 x1 zero2 inb_S512x1024_S512x1024_0_0
  have e3 := ld_whole (F := F) harg3 x2 zero2 inb_S1024x5632_S1024x5632_0_0
  have e5 := ld_whole (F := F) harg5 x4 zero2 inb_S1x2816_S1x2816_0_0
  have e6 := ld_whole (F := F) harg6 x5 zero2 inb_S2816x1024_S2816x1024_0_0
  have r0 := ld_row (F := F) harg4 x3 0 inb_S3x2816_S1x2816_0_0
  have r1 := ld_row (F := F) harg4 x3 1 inb_S3x2816_S1x2816_1_0
  have r2 := ld_row (F := F) harg4 x3 2 inb_S3x2816_S1x2816_2_0
  have u7 := congr (congrArg (k0_pay7 (F := F)) e1) e3
  have wj : ∀ (j : Fin 9) (inb : ∀ a, (![(j : ℕ), 0] : Fin 2 → ℕ) a + (![512, 2816] : Fin 2 → ℕ) a ≤ S520x2816.size a) (u : Vec F S512x2816 .f32),
      View.readAt (Elt F) arg8.view (Rect.unit (s := S520x2816) ![(j : ℕ), 0] ![512, 2816] inb).toLoadRect (arg8.view.writes (Elt F) (harg8.unread xs0)
        [⟨Rect.unit (s := S520x2816) ![8, 0] ![512, 2816] inb_S520x2816_S512x2816_8_0, u⟩])
        = win j (cont (head xs0) u) := fun j inb u => (ld_win _ _ j inb).trans (congrArg (win j)
          ((read_one _ _ u).trans (congrArg (fun z => cont (head z) u) (harg8.read_unread xs0))))
  have w8 : ∀ (inb : ∀ a, (![((8 : Fin 9) : ℕ), 0] : Fin 2 → ℕ) a + (![512, 2816] : Fin 2 → ℕ) a ≤ S520x2816.size a) (u : Vec F S512x2816 .f32),
      View.readAt (Elt F) arg8.view (Rect.unit (s := S520x2816) ![((8 : Fin 9) : ℕ), 0] ![512, 2816] inb).toLoadRect (arg8.view.writes (Elt F) arg8.view.junk
        [⟨Rect.unit (s := S520x2816) ![8, 0] ![512, 2816] inb_S520x2816_S512x2816_8_0, u⟩])
        = win 8 (cont (head xs0) u) := fun inb u => ((ld_win _ _ 8 inb).trans (congrArg (win 8) (read_one _ _ u))).trans (win_8 _ _ u)
  simp only [kernelRun0_B.sl.r_1, kernelRun0_B.sl.r_2, kernelRun0_B.sl.r_3, kernelRun0_B.sl.r_4, kernelRun0_B.sl.v36, kernelRun0_B.sl.HS0_1]
  unfold tile
  exact congr (congr (congr (congr (congr (congr (congr (congrArg k0_pay2 (congr (congrArg k0_pay6 e1) e3))
    (congr (congr (congrArg k0_pay8 e5) ((wj 6 inb_S520x2816_S512x2816_6_0 _).trans (congrArg (fun u => win 6 (cont (head xs0) u)) u7))) r0))
    ((wj 7 inb_S520x2816_S512x2816_7_0 _).trans (congrArg (fun u => win 7 (cont (head xs0) u)) u7))) r1)
    ((w8 inb_S520x2816_S512x2816_8_0 _).trans (congrArg (fun u => win 8 (cont (head xs0) u)) u7))) r2) e2) e6

theorem sout_A (hc0 : _) :
    head (sout0_A_0 c i arg1 harg1 arg2 harg2 arg3 harg3 arg4 harg4 arg5 harg5 arg6 harg6 arg7 harg7 arg8 harg8 hc0 x0 x1 x2 x3 x4 x5)
      = k0_pay1 (k0_pay5 x0 x2) := by
  unfold sout0_A_0
  unfold kernelRun0_A
  dsimp only
  refine (read_head (F := F) VS0_0 VS0_0.junk _ _).trans ?_
  simp only [kernelRun0_A.sl.r]
  have e1 := ld_whole (F := F) harg1 x0 zero2 inb_S512x1024_S512x1024_0_0
  have e3 := ld_whole (F := F) harg3 x2 zero2 inb_S1024x5632_S1024x5632_0_0
  exact congrArg k0_pay1 (congr (congrArg k0_pay5 e1) e3)

theorem sout_B (hc0 : _) :
    head (sout0_B_0 c i arg1 harg1 arg2 harg2 arg3 harg3 arg4 harg4 arg5 harg5 arg6 harg6 arg7 harg7 arg8 harg8 hc0 x0 x1 x2 x3 x4 x5 xs0)
      = k0_pay1 (k0_pay5 x0 x2) := by
  unfold sout0_B_0
  unfold kernelRun0_B
  dsimp only
  refine (read_head (F := F) VS0_0 VS0_0.junk _ _).trans ?_
  simp only [kernelRun0_B.sl.r]
  have e1 := ld_whole (F := F) harg1 x0 zero2 inb_S512x1024_S512x1024_0_0
  have e3 := ld_whole (F := F) harg3 x2 zero2 inb_S1024x5632_S1024x5632_0_0
  exact congrArg k0_pay1 (congr (congrArg k0_pay5 e1) e3)

end Cases

end Cert.MlpIdeal.Proof

end
-- ==== Proof.MlpMath.lean ====
/- One entry of the convolutional feed-forward sub-layer over the extended reals, from its arguments' entries. -/
module

public import Idealize.ShloMosaic.Lib.Pointwise

@[expose] public section

noncomputable section

namespace Cert.Proof.Mlp

open Idealize.ShloMosaic

/-- The activation: the tanh form of the Gaussian error unit. -/
def gelu (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * (y * y))))))

variable (h : Fin 16384 → Fin 1024 → EReal) (x : Fin 16384 → Fin 1024 → EReal) (wu : Fin 1024 → Fin 5632 → EReal) (w : Fin 3 → Fin 2816 → EReal)
  (b : Fin 2816 → EReal) (wd : Fin 2816 → Fin 1024 → EReal)

/-- The half of the up-projection the convolution reads. -/
def up (R : Fin 16384) (f : Fin 2816) : EReal := ∑ k, h R k * wu k ⟨f, by omega⟩
/-- The gating half. -/
def gate (R : Fin 16384) (f : Fin 2816) : EReal := ∑ k, h R k * wu k ⟨2816 + f, by omega⟩

/-- The row `j` before row `R` of its sequence of 4096, zero before the sequence's first. -/
def back (j : ℕ) (R : Fin 16384) (f : Fin 2816) : EReal := if (R : ℕ) % 4096 < j then 0 else up h wu ⟨R - j, by omega⟩ f

/-- The causal convolution of three taps. -/
def conv (R : Fin 16384) (f : Fin 2816) : EReal :=
  b f + back h wu 2 R f * w 0 f + back h wu 1 R f * w 1 f + up h wu R f * w 2 f

/-- The sub-layer's result. -/
def res (R : Fin 16384) (o : Fin 1024) : EReal := x R o + ∑ f, gelu (conv h wu w b R f) * gate h wu R f * wd f o

end Cert.Proof.Mlp

end
-- ==== Proof.MlpOps.lean ====
/- The arithmetic of the feed-forward kernel over the extended reals, entry by entry. -/
module

public import proofs.«01_k».proof.Proof.MlpBody
public import proofs.«01_k».proof.Proof.MlpMath

@[expose] public section

set_option maxRecDepth 16384

noncomputable section

namespace Cert.MlpIdeal.Proof

open Idealize.ShloMosaic Cert.MlpIdeal.Gen Cert.Proof.Mlp

theorem pay5_at (x0 : Vec Ideal S512x1024 .bf16) (x2 : Vec Ideal S1024x5632 .bf16) (r : Fin 512) (f : Fin 2816) :
    k0_pay5 (F := Ideal) x0 x2 (ix2 r f) = ∑ k : Fin 1024, (x0 (ix2 r k) : EReal) * x2 (ix2 k ⟨f, by omega⟩) := by
  pointwise [k0_pay5, k0_pay4]

theorem pay6_at (x0 : Vec Ideal S512x1024 .bf16) (x2 : Vec Ideal S1024x5632 .bf16) (r : Fin 512) (f : Fin 2816) :
    k0_pay6 (F := Ideal) x0 x2 (ix2 r f) = ∑ k : Fin 1024, (x0 (ix2 r k) : EReal) * x2 (ix2 k ⟨2816 + f, by omega⟩) := by
  pointwise [k0_pay6, k0_pay4]

theorem pay7_at (x0 : Vec Ideal S512x1024 .bf16) (x2 : Vec Ideal S1024x5632 .bf16) (r : Fin 512) (f : Fin 2816) :
    k0_pay7 (F := Ideal) x0 x2 (ix2 r f) = k0_pay5 (F := Ideal) x0 x2 (ix2 r f) := by
  pointwise [k0_pay7]

theorem pay1_at (u : Vec Ideal S512x2816 .f32) (r : Fin 8) (f : Fin 2816) : k0_pay1 (F := Ideal) u (ix2 r f) = u (ix2 ⟨504 + r, by omega⟩ f) := by
  pointwise [k0_pay1]

theorem pay3_at (r : Fin 8) (f : Fin 2816) : k0_pay3 (F := Ideal) (ix2 r f) = (0 : EReal) := by
  pointwise [k0_pay3]

theorem pay8_at (b : Vec Ideal S1x2816 .f32) (s : Vec Ideal S512x2816 .f32) (w : Vec Ideal S1x2816 .f32) (r : Fin 512) (f : Fin 2816) :
    k0_pay8 (F := Ideal) b s w (ix2 r f) = (b (ix2 0 f) : EReal) + s (ix2 r f) * w (ix2 0 f) := by
  pointwise [k0_pay8]

theorem pay2_at (g y s1 : Vec Ideal S512x2816 .f32) (w1 : Vec Ideal S1x2816 .f32) (s2 : Vec Ideal S512x2816 .f32) (w2 : Vec Ideal S1x2816 .f32)
    (x1 : Vec Ideal S512x1024 .f32) (x5 : Vec Ideal S2816x1024 .bf16) (r : Fin 512) (o : Fin 1024) :
    k0_pay2 (F := Ideal) g y s1 w1 s2 w2 x1 x5 (ix2 r o)
      = (x1 (ix2 r o) : EReal) + ∑ f : Fin 2816, gelu ((y (ix2 r f) : EReal) + s1 (ix2 r f) * w1 (ix2 0 f) + s2 (ix2 r f) * w2 (ix2 0 f)) * g (ix2 r f) * x5 (ix2 f o) := by
  unfold gelu
  pointwise [k0_pay2]

/-- The tile's row `r`, place `f`, read `j` rows back: from the kept rows when before the tile's first. -/
def prev (p : Vec Ideal S8x2816 .f32) (u : Vec Ideal S512x2816 .f32) (j : Fin 9) (r : Fin 512) (f : Fin 2816) : EReal :=
  if h : (r : ℕ) < j then p (ix2 ⟨8 + r - j, by omega⟩ f) else u (ix2 ⟨r - j, by omega⟩ f)

theorem win_at (p : Vec Ideal S8x2816 .f32) (u : Vec Ideal S512x2816 .f32) (j i : Fin 9) (hj : (i : ℕ) + j = 8) (r : Fin 512) (f : Fin 2816) :
    (win i (cont p u) (ix2 r f) : EReal) = prev p u j r f := by
  unfold prev
  show dite ((i : ℕ) + (r : ℕ) < 8) _ _ = _
  by_cases h : (r : ℕ) < j
  · rw [dif_pos h]
    refine (dif_pos (show (i : ℕ) + (r : ℕ) < 8 by omega)).trans ?_
    exact congrArg (fun q => (p (ix2 q f) : EReal)) (Fin.ext (by show (i : ℕ) + r = 8 + r - j; omega))
  · rw [dif_neg h]
    refine (dif_neg (show ¬((i : ℕ) + (r : ℕ) < 8) by omega)).trans ?_
    exact congrArg (fun q => (u (ix2 q f) : EReal)) (Fin.ext (by show (i : ℕ) + r - 8 = r - j; omega))

theorem tile_at (p : Vec Ideal S8x2816 .f32) (x0 : Vec Ideal S512x1024 .bf16) (x1 : Vec Ideal S512x1024 .f32) (x2 : Vec Ideal S1024x5632 .bf16)
    (x3 : Vec Ideal S3x2816 .f32) (x4 : Vec Ideal S1x2816 .f32) (x5 : Vec Ideal S2816x1024 .bf16) (r : Fin 512) (o : Fin 1024) :
    tile (F := Ideal) p x0 x1 x2 x3 x4 x5 (ix2 r o)
      = (x1 (ix2 r o) : EReal) + ∑ f : Fin 2816, gelu ((x4 (ix2 0 f) : EReal) + prev p (k0_pay5 x0 x2) 2 r f * x3 (ix2 0 f) + prev p (k0_pay5 x0 x2) 1 r f * x3 (ix2 1 f)
          + k0_pay5 (F := Ideal) x0 x2 (ix2 r f) * x3 (ix2 2 f)) * k0_pay6 (F := Ideal) x0 x2 (ix2 r f) * x5 (ix2 f o) := by
  have h7 : k0_pay7 (F := Ideal) x0 x2 = k0_pay5 (F := Ideal) x0 x2 := by
    funext y
    obtain ⟨r, f, rfl⟩ : ∃ (r : Fin 512) (f : Fin 2816), y = ix2 r f := by
      refine ⟨y 0, y 1, funext fun a => ?_⟩
      match a with
      | ⟨0, _⟩ => rfl
      | ⟨1, _⟩ => rfl
    exact pay7_at x0 x2 r f
  unfold tile
  rw [pay2_at, h7]
  refine congrArg (fun z => (x1 (ix2 r o) : EReal) + z) (Finset.sum_congr rfl fun f _ => ?_)
  rw [pay8_at, win_at p _ 2 6 rfl, win_at p _ 1 7 rfl, win_at p _ 0 8 rfl]
  rfl

end Cert.MlpIdeal.Proof

end
-- ==== Proof.MlpRef.lean ====
/- The reference's feed-forward sub-layer over the extended reals, entry by entry. -/
module

public import proofs.«01_k».proof.Proof.Gen.MlpRefIdeal.Run
public import proofs.«01_k».proof.Proof.MlpMath

@[expose] public section

set_option maxRecDepth 16384

noncomputable section

namespace Cert.MlpRefIdeal.Proof

open Idealize.ShloMosaic Cert.MlpRefIdeal Cert.MlpRefIdeal.Gen Idealize.ShloMosaic.TcCoe Cert.Proof.Mlp

variable {F : FTy → Type} [FloatOps F]

/-- The up-projection. -/
def upv (x0 : FVec F S16384x1024 .bf16) (x2 : FVec F S1024x5632 .bf16) : FVec F S4x4096x5632 .f32 :=
  Host.dotGeneral dot_S4x4096x1024_S1024x5632_S4x4096x5632_2_0_01_1_n_n none (shapeCast _ (extf .f32 x0 bitsLt_bf16_f32) shapeCasts_S16384x1024_S4x4096x1024)
    (extf .f32 x2 bitsLt_bf16_f32)
def half0 (v : FVec F S4x4096x5632 .f32) : FVec F S4x4096x2816 .f32 := extractStridedSlice S4x4096x2816 ![0, 0, 0] v slices_S4x4096x5632_S4x4096x2816_0_0_0
def half1 (v : FVec F S4x4096x5632 .f32) : FVec F S4x4096x2816 .f32 := extractStridedSlice S4x4096x2816 ![0, 0, 2816] v slices_S4x4096x5632_S4x4096x2816_0_0_2816

/-- Two zero rows before each sequence. -/
def padv (u : FVec F S4x4096x2816 .f32) : FVec F S4x4098x2816 .f32 :=
  pad S4x4098x2816 ![0, 2, 0] ![0, 0, 0] ![0, 0, 0] u (sitofp .f32 (constantI S_ 32 0#32)) pads_S4x4096x2816_S4x4098x2816_000_200_000 h_S_

def lane (v : FVec F S2816 .f32) : FVec F S4x4096x2816 .f32 :=
  broadcastInDim S4x4096x2816 ![0, 1, 2] bcast_S1x1x2816_S4x4096x2816_0_1_2 (broadcastInDim S1x1x2816 ![2] bcast_S2816_S1x1x2816_2 v)

/-- The convolution over the padded rows. -/
def convv (p : FVec F S4x4098x2816 .f32) (x3 : FVec F S1x3x2816 .f32) (x4 : FVec F S1x2816 .f32) : FVec F S4x4096x2816 .f32 :=
  addf (addf (addf (lane (shapeCast _ x4 shapeCasts_S1x2816_S2816))
      (mulf (extractStridedSlice S4x4096x2816 ![0, 0, 0] p slices_S4x4098x2816_S4x4096x2816_0_0_0)
        (lane (shapeCast _ (extractStridedSlice S1x2816 ![0, 0] (shapeCast _ x3 shapeCasts_S1x3x2816_S3x2816) slices_S3x2816_S1x2816_0_0) shapeCasts_S1x2816_S2816))))
      (mulf (extractStridedSlice S4x4096x2816 ![0, 1, 0] p slices_S4x4098x2816_S4x4096x2816_0_1_0)
        (lane (shapeCast _ (extractStridedSlice S1x2816 ![1, 0] (shapeCast _ x3 shapeCasts_S1x3x2816_S3x2816) slices_S3x2816_S1x2816_1_0) shapeCasts_S1x2816_S2816))))
    (mulf (extractStridedSlice S4x4096x2816 ![0, 2, 0] p slices_S4x4098x2816_S4x4096x2816_0_2_0)
      (lane (shapeCast _ (extractStridedSlice S1x2816 ![2, 0] (shapeCast _ x3 shapeCasts_S1x3x2816_S3x2816) slices_S3x2816_S1x2816_2_0) shapeCasts_S1x2816_S2816)))

def geluv (y : FVec F S4x4096x2816 .f32) : FVec F S4x4096x2816 .f32 :=
  mulf y (mulf (broadcastInDim S4x4096x2816 ![] bcast_S_S4x4096x2816 (constant S_ .f32 0x3F000000#32))
    (addf (broadcastInDim S4x4096x2816 ![] bcast_S_S4x4096x2816 (constant S_ .f32 0x3F800000#32))
      (Host.tanh (mulf (broadcastInDim S4x4096x2816 ![] bcast_S_S4x4096x2816 (constant S_ .f32 0x3F4C422A#32))
        (addf y (mulf (broadcastInDim S4x4096x2816 ![] bcast_S_S4x4096x2816 (constant S_ .f32 0x3D372713#32)) (mulf (mulf y y) y)))))))

def downv (a : FVec F S4x4096x2816 .f32) (x1 : FVec F S16384x1024 .f32) (x5 : FVec F S2816x1024 .bf16) : FVec F S16384x1024 .f32 :=
  shapeCast _ (addf (shapeCast _ x1 shapeCasts_S16384x1024_S4x4096x1024)
    (Host.dotGeneral dot_S4x4096x2816_S2816x1024_S4x4096x1024_2_0_01_1_n_n none a (extf .f32 x5 bitsLt_bf16_f32))) shapeCasts_S4x4096x1024_S16384x1024

def resv (x0 : FVec F S16384x1024 .bf16) (x1 : FVec F S16384x1024 .f32) (x2 : FVec F S1024x5632 .bf16) (x3 : FVec F S1x3x2816 .f32) (x4 : FVec F S1x2816 .f32)
    (x5 : FVec F S2816x1024 .bf16) : FVec F S16384x1024 .f32 :=
  downv (mulf (geluv (convv (padv (half0 (upv x0 x2))) x3 x4)) (half1 (upv x0 x2))) x1 x5

theorem res_eq (m : (ℓ : Loc nD τ sig) → Buf (Elt F) ℓ) (c : Dev nD) :
    Value.res_main_v50 m c
      = resv (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := rfl

/-- Row `s` of sequence `b`. -/
abbrev at4 (b : Fin 4) (s : Fin 4096) : Fin 16384 := ⟨4096 * b + s, by omega⟩
theorem at4_div (b : Fin 4) (s : Fin 4096) : (4096 * (b : ℕ) + s) / 4096 = b := by omega
theorem at4_mod (b : Fin 4) (s : Fin 4096) : (4096 * (b : ℕ) + s) % 4096 = s := by omega
theorem at4_cast (b : Fin 4) (s : Fin 4096) : ∀ hlt, (⟨(b : ℕ) * 4096 + s, hlt⟩ : Fin 16384) = at4 b s := fun _ => Fin.ext (by show (b : ℕ) * 4096 + s = 4096 * b + s; omega)

theorem upv_at (x0 : FVec Ideal S16384x1024 .bf16) (x2 : FVec Ideal S1024x5632 .bf16) (b : Fin 4) (s : Fin 4096) (f : Fin 5632) :
    upv x0 x2 (ix3 b s f) = ∑ k : Fin 1024, (x0 (ix2 (at4 b s) k) : EReal) * x2 (ix2 k f) := by
  pointwise [upv]
  simp only [at4_cast]

theorem padv_at (u : FVec Ideal S4x4096x2816 .f32) (b : Fin 4) (s : Fin 4098) (f : Fin 2816) :
    padv u (ix3 b s f) = if h : (s : ℕ) < 2 then (0 : EReal) else u (ix3 b ⟨s - 2, by omega⟩ f) := by
  pointwise [padv]
  have hs : (s : ℕ) < 4098 := s.isLt
  have hz : (FloatOps.sitofp .f32 (0#32) : Ideal .f32) = (0 : EReal) := by
    show (((0#32).toInt : ℝ) : EReal) = 0
    simp
  by_cases h : (s : ℕ) < 2
  · rw [dif_pos h, dif_neg (by omega)]
    exact hz
  · rw [dif_neg h, dif_pos (by omega)]

theorem convv_at (p : FVec Ideal S4x4098x2816 .f32) (x3 : FVec Ideal S1x3x2816 .f32) (x4 : FVec Ideal S1x2816 .f32) (b : Fin 4) (s : Fin 4096) (f : Fin 2816) :
    convv p x3 x4 (ix3 b s f) = (x4 (ix2 0 f) : EReal) + p (ix3 b ⟨s, by omega⟩ f) * x3 (ix3 0 0 f) + p (ix3 b ⟨1 + s, by omega⟩ f) * x3 (ix3 0 1 f)
      + p (ix3 b ⟨2 + s, by omega⟩ f) * x3 (ix3 0 2 f) := by
  pointwise [convv, lane]

theorem geluv_at (y : FVec Ideal S4x4096x2816 .f32) (b : Fin 4) (s : Fin 4096) (f : Fin 2816) :
    geluv y (ix3 b s f) = gelu (y (ix3 b s f)) := by
  unfold gelu
  pointwise [geluv]
  rw [mul_comm (y (ix3 b s f) * y (ix3 b s f) : EReal) (y (ix3 b s f))]

theorem downv_at (a : FVec Ideal S4x4096x2816 .f32) (x1 : FVec Ideal S16384x1024 .f32) (x5 : FVec Ideal S2816x1024 .bf16) (b : Fin 4) (s : Fin 4096) (o : Fin 1024) :
    downv a x1 x5 (ix2 (at4 b s) o) = (x1 (ix2 (at4 b s) o) : EReal) + ∑ f : Fin 2816, a (ix3 b s f) * x5 (ix2 f o) := by
  pointwise [downv]
  simp only [at4_div, at4_mod, at4_cast]

theorem half0_at (v : FVec Ideal S4x4096x5632 .f32) (b : Fin 4) (s : Fin 4096) (f : Fin 2816) : half0 v (ix3 b s f) = v (ix3 b s ⟨f, by omega⟩) := by
  pointwise [half0]

theorem half1_at (v : FVec Ideal S4x4096x5632 .f32) (b : Fin 4) (s : Fin 4096) (f : Fin 2816) : half1 v (ix3 b s f) = v (ix3 b s ⟨2816 + f, by omega⟩) := by
  pointwise [half1]

/-- A padded row is the row two before it. -/
theorem pad_back (x0 : FVec Ideal S16384x1024 .bf16) (x2 : FVec Ideal S1024x5632 .bf16) (b : Fin 4) (s : Fin 4096) (f : Fin 2816) (j : Fin 3) :
    padv (half0 (upv x0 x2)) (ix3 b ⟨(2 - (j : ℕ)) + s, by omega⟩ f)
      = back (fun R k => x0 (ix2 R k)) (fun k o => x2 (ix2 k o)) j (at4 b s) f := by
  rw [padv_at]
  unfold back up
  by_cases h : (s : ℕ) < j
  · rw [dif_pos (by show 2 - (j : ℕ) + s < 2; omega), if_pos (by rw [at4_mod]; exact h)]
  · rw [dif_neg (by show ¬(2 - (j : ℕ) + s < 2); omega), if_neg (by rw [at4_mod]; exact h), half0_at, upv_at]
    refine Finset.sum_congr rfl fun k _ => ?_
    refine congrArg (fun R => (x0 (ix2 R k) : EReal) * x2 (ix2 k _)) (Fin.ext ?_)
    show 4096 * (b : ℕ) + (2 - (j : ℕ) + s - 2) = 4096 * (b : ℕ) + s - j
    omega

/-- The reference's entry. -/
theorem resv_at (x0 : FVec Ideal S16384x1024 .bf16) (x1 : FVec Ideal S16384x1024 .f32) (x2 : FVec Ideal S1024x5632 .bf16) (x3 : FVec Ideal S1x3x2816 .f32)
    (x4 : FVec Ideal S1x2816 .f32) (x5 : FVec Ideal S2816x1024 .bf16) (b : Fin 4) (s : Fin 4096) (o : Fin 1024) :
    resv x0 x1 x2 x3 x4 x5 (ix2 (at4 b s) o)
      = res (fun R k => x0 (ix2 R k)) (fun R k => x1 (ix2 R k)) (fun k f => x2 (ix2 k f)) (fun j f => x3 (ix3 0 j f)) (fun f => x4 (ix2 0 f))
          (fun f o => x5 (ix2 f o)) (at4 b s) o := by
  unfold resv
  rw [downv_at]
  unfold res
  refine congrArg (fun z => (x1 (ix2 (at4 b s) o) : EReal) + z) (Finset.sum_congr rfl fun f _ => congrArg (fun z => z * (x5 (ix2 f o) : EReal)) ?_)
  refine (congr (congrArg (fun y z : EReal => y * z) (geluv_at _ b s f)) (half1_at _ b s f)).trans ?_
  rw [convv_at, upv_at]
  have b2 := pad_back x0 x2 b s f 2
  have b1 := pad_back x0 x2 b s f 1
  have b0 := pad_back x0 x2 b s f 0
  unfold conv gate
  refine congrArg (fun y => gelu y * _) ?_
  refine congr (congrArg (fun y z : EReal => y + z) (congr (congrArg (fun y z : EReal => y + z) (congrArg (fun z => (x4 (ix2 0 f) : EReal) + z * x3 (ix3 0 0 f)) ?_))
    (congrArg (fun z => z * (x3 (ix3 0 1 f) : EReal)) ?_))) (congrArg (fun z => z * (x3 (ix3 0 2 f) : EReal)) ?_)
  · refine Eq.trans (congrArg (fun q => padv (half0 (upv x0 x2)) (ix3 b q f)) (Fin.ext ?_)) b2
    show (s : ℕ) = 2 - 2 + s
    omega
  · exact b1
  · refine b0.trans ?_
    unfold back
    exact if_neg (by show ¬(_ < 0); omega)

end Cert.MlpRefIdeal.Proof

end
-- ==== Proof.MlpValue.lean ====
/- The feed-forward kernel's result array is the reference's, entry by entry. -/
module

public import proofs.«01_k».proof.Proof.MlpOps
public import proofs.«01_k».proof.Proof.MlpRef
public import Idealize.ShloMosaic.Lib.Claim
public import Idealize.ShloMosaic.Lib.Pipeline.ValueKit

@[expose] public section

set_option maxRecDepth 16384

noncomputable section

namespace Cert.MlpIdeal.Proof

open Idealize.ShloMosaic Cert.MlpIdeal.Gen Cert.Proof.Mlp Idealize.ShloMosaic.TcCoe

variable (m : (ℓ : Loc nD τ sig) → Buf (Elt Ideal) ℓ) (c : Dev nD)

theorem V_taps (j : Fin 3) (f : Fin 2816) : V m c main_v0 (ix2 j f) = m ((c.tc : Thread nD τ).loc main_arg3) (ix3 0 j f) := by
  show StableHlo.after (hostOps0 (F := Ideal)) (fun b => m (c, b)) main_v0 (ix2 j f) = _
  unfold_abbrev_sides
  after_results
  pointwise []

theorem V_bias (f : Fin 2816) : V m c main_v2 (ix2 0 f) = m ((c.tc : Thread nD τ).loc main_arg4) (ix2 0 f) := by
  show StableHlo.after (hostOps0 (F := Ideal)) (fun b => m (c, b)) main_v2 (ix2 0 f) = _
  unfold_abbrev_sides
  after_results
  pointwise []

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val, 0] := (by decide +kernel : ∀ t : Fin grid0.N, _)

theorem t_lt (t : Fin cfg0.N) : t.val < 32 := lt_of_lt_of_eq t.isLt N_0

/-- Row `r` of tile `t`. -/
abbrev grow (t : Fin cfg0.N) (r : Fin 512) : Fin 16384 := ⟨512 * t.val + r, by have := t_lt t; omega⟩

theorem rd_0 (t : Fin cfg0.N) (r : Fin 512) (k : Fin 1024) : iblk m c 0 t (ix2 r k) = m ((c.tc : Thread nD τ).loc main_arg0) (ix2 (grow t r) k) := by
  unfold iblk
  blk_simp
  refine (congrFun (V_main_arg0 m c) _).trans (congrArg (m ((c.tc : Thread nD τ).loc main_arg0)) (funext fun a => Fin.ext ?_))
  match a with
  | ⟨0, _⟩ =>
    blk_simp
    exact (congrArg (· * 512 + (r : ℕ)) (congrFun (index_0 t) 0)).trans (by show t.val * 512 + (r : ℕ) = 512 * t.val + r; omega)
  | ⟨1, _⟩ =>
    blk_simp
    exact (congrArg (· * 1024 + (k : ℕ)) (congrFun (index_0 t) 1)).trans (by simp)

theorem rd_1 (t : Fin cfg0.N) (r : Fin 512) (k : Fin 1024) : iblk m c 1 t (ix2 r k) = m ((c.tc : Thread nD τ).loc main_arg1) (ix2 (grow t r) k) := by
  unfold iblk
  blk_simp
  refine (congrFun (V_main_arg1 m c) _).trans (congrArg (m ((c.tc : Thread nD τ).loc main_arg1)) (funext fun a => Fin.ext ?_))
  match a with
  | ⟨0, _⟩ =>
    blk_simp
    exact (congrArg (· * 512 + (r : ℕ)) (congrFun (index_1 t) 0)).trans (by show t.val * 512 + (r : ℕ) = 512 * t.val + r; omega)
  | ⟨1, _⟩ =>
    blk_simp
    exact (congrArg (· * 1024 + (k : ℕ)) (congrFun (index_1 t) 1)).trans (by simp)

theorem rd_2 (t : Fin cfg0.N) (k : Fin 1024) (f : Fin 5632) : iblk m c 2 t (ix2 k f) = m ((c.tc : Thread nD τ).loc main_arg2) (ix2 k f) := by
  unfold iblk
  blk_simp
  refine (congrFun (V_main_arg2 m c) _).trans (congrArg (m ((c.tc : Thread nD τ).loc main_arg2)) (funext fun a => Fin.ext ?_))
  match a with
  | ⟨0, _⟩ =>
    blk_simp
    exact (congrArg (· * 1024 + (k : ℕ)) (congrFun (index_2 t) 0)).trans (by simp)
  | ⟨1, _⟩ =>
    blk_simp
    exact (congrArg (· * 5632 + (f : ℕ)) (congrFun (index_2 t) 1)).trans (by simp)

theorem rd_3 (t : Fin cfg0.N) (j : Fin 3) (f : Fin 2816) : iblk m c 3 t (ix2 j f) = m ((c.tc : Thread nD τ).loc main_arg3) (ix3 0 j f) := by
  unfold iblk
  blk_simp
  refine (congrArg (V m c main_v0) (funext fun a => Fin.ext ?_)).trans (V_taps m c j f)
  match a with
  | ⟨0, _⟩ =>
    blk_simp
    exact (congrArg (· * 3 + (j : ℕ)) (congrFun (index_3 t) 0)).trans (by simp)
  | ⟨1, _⟩ =>
    blk_simp
    exact (congrArg (· * 2816 + (f : ℕ)) (congrFun (index_3 t) 1)).trans (by simp)

theorem rd_4 (t : Fin cfg0.N) (f : Fin 2816) : iblk m c 4 t (ix2 0 f) = m ((c.tc : Thread nD τ).loc main_arg4) (ix2 0 f) := by
  unfold iblk
  blk_simp
  refine (congrArg (V m c main_v2) (funext fun a => Fin.ext ?_)).trans (V_bias m c f)
  match a with
  | ⟨0, _⟩ =>
    blk_simp
    exact congrFun (index_4 t) 0
  | ⟨1, _⟩ =>
    blk_simp
    exact (congrArg (· * 2816 + (f : ℕ)) (congrFun (index_4 t) 1)).trans (by simp)

theorem rd_5 (t : Fin cfg0.N) (f : Fin 2816) (o : Fin 1024) : iblk m c 5 t (ix2 f o) = m ((c.tc : Thread nD τ).loc main_arg5) (ix2 f o) := by
  unfold iblk
  blk_simp
  refine (congrFun (V_main_arg5 m c) _).trans (congrArg (m ((c.tc : Thread nD τ).loc main_arg5)) (funext fun a => Fin.ext ?_))
  match a with
  | ⟨0, _⟩ =>
    blk_simp
    exact (congrArg (· * 2816 + (f : ℕ)) (congrFun (index_5 t) 0)).trans (by simp)
  | ⟨1, _⟩ =>
    blk_simp
    exact (congrArg (· * 1024 + (o : ℕ)) (congrFun (index_5 t) 1)).trans (by simp)

/-- The arguments, read by their coordinates. -/
def hA : Fin 16384 → Fin 1024 → EReal := fun R k => m ((c.tc : Thread nD τ).loc main_arg0) (ix2 R k)
def xA : Fin 16384 → Fin 1024 → EReal := fun R k => m ((c.tc : Thread nD τ).loc main_arg1) (ix2 R k)
def uA : Fin 1024 → Fin 5632 → EReal := fun k f => m ((c.tc : Thread nD τ).loc main_arg2) (ix2 k f)
def wA : Fin 3 → Fin 2816 → EReal := fun j f => m ((c.tc : Thread nD τ).loc main_arg3) (ix3 0 j f)
def bA : Fin 2816 → EReal := fun f => m ((c.tc : Thread nD τ).loc main_arg4) (ix2 0 f)
def dA : Fin 2816 → Fin 1024 → EReal := fun f o => m ((c.tc : Thread nD τ).loc main_arg5) (ix2 f o)

theorem up_tile (t : Fin cfg0.N) (r : Fin 512) (f : Fin 2816) :
    (k0_pay5 (F := Ideal) (iblk m c 0 t) (iblk m c 2 t) (ix2 r f) : EReal) = up (hA m c) (uA m c) (grow t r) f := by
  refine (pay5_at (iblk m c 0 t) (iblk m c 2 t) r f).trans (Finset.sum_congr rfl fun k _ => ?_)
  exact congr (congrArg (fun y z : EReal => y * z) (rd_0 m c t r k)) (rd_2 m c t k _)

theorem gate_tile (t : Fin cfg0.N) (r : Fin 512) (f : Fin 2816) :
    (k0_pay6 (F := Ideal) (iblk m c 0 t) (iblk m c 2 t) (ix2 r f) : EReal) = gate (hA m c) (uA m c) (grow t r) f := by
  refine (pay6_at (iblk m c 0 t) (iblk m c 2 t) r f).trans (Finset.sum_congr rfl fun k _ => ?_)
  exact congr (congrArg (fun y z : EReal => y * z) (rd_0 m c t r k)) (rd_2 m c t k _)

/-- The rows a point keeps for the next are the last of its tile. -/
theorem kept (t : Fin cfg0.N) : head (outsAt0 m c t.val t.isLt).2 = k0_pay1 (F := Ideal) (k0_pay5 (F := Ideal) (iblk m c 0 t) (iblk m c 2 t)) := by
  by_cases h : t.val % 8 = 0
  · rw [outsAt0_A m c t h]
    dsimp only
    exact sout_A (F := Ideal) c _ _ _ _ _ _ _ _ _ _ _ _ _ _ _ _ _ _ _ _ _ _ _ _
  · rw [outsAt0_B m c t h]
    dsimp only
    exact sout_B (F := Ideal) c _ _ _ _ _ _ _ _ _ _ _ _ _ _ _ _ _ _ _ _ _ _ _ _ _

/-- The eight rows before tile `t`. -/
def before (t : Fin cfg0.N) : Vec Ideal S8x2816 .f32 :=
  if t.val % 8 = 0 then k0_pay3 (F := Ideal) else head (outsAt0 m c (t.val - 1) (Nat.lt_of_le_of_lt (Nat.sub_le _ _) t.isLt)).2

theorem out_tile (t : Fin cfg0.N) :
    (outsAt0 m c t.val t.isLt).1 = tile (F := Ideal) (before m c t) (iblk m c 0 t) (iblk m c 1 t) (iblk m c 2 t) (iblk m c 3 t) (iblk m c 4 t) (iblk m c 5 t) := by
  unfold before
  by_cases h : t.val % 8 = 0
  · rw [outsAt0_A m c t h, if_pos h]
    dsimp only
    exact out_A (F := Ideal) c _ _ _ _ _ _ _ _ _ _ _ _ _ _ _ _ _ _ _ _ _ _ _ _
  · rw [outsAt0_B m c t h, if_neg h]
    dsimp only
    exact out_B (F := Ideal) c _ _ _ _ _ _ _ _ _ _ _ _ _ _ _ _ _ _ _ _ _ _ _ _ _

/-- A row `j ≤ 2` back, within the tile or kept from the one before it, is the sequence's. -/
theorem prev_tile (t : Fin cfg0.N) (j : Fin 9) (hj : (j : ℕ) ≤ 2) (r : Fin 512) (f : Fin 2816) :
    prev (before m c t) (k0_pay5 (F := Ideal) (iblk m c 0 t) (iblk m c 2 t)) j r f = back (hA m c) (uA m c) j (grow t r) f := by
  have ht := t_lt t
  unfold prev back
  by_cases h : (r : ℕ) < j
  · rw [dif_pos h]
    unfold before
    by_cases h8 : t.val % 8 = 0
    · rw [if_pos h8, if_pos (by show (512 * t.val + (r : ℕ)) % 4096 < j; omega)]
      exact pay3_at _ f
    · rw [if_neg h8, if_neg (by show ¬((512 * t.val + (r : ℕ)) % 4096 < j); omega)]
      have hk := kept m c ⟨t.val - 1, Nat.lt_of_le_of_lt (Nat.sub_le _ _) t.isLt⟩
      refine (congrFun hk _).trans ?_
      refine (pay1_at _ _ f).trans ((up_tile m c _ _ f).trans (congrArg (fun R => up (hA m c) (uA m c) R f) (Fin.ext ?_)))
      show 512 * (t.val - 1) + (504 + (8 + (r : ℕ) - j)) = 512 * t.val + r - j
      omega
  · rw [dif_neg h, if_neg (by show ¬((512 * t.val + (r : ℕ)) % 4096 < j); omega)]
    refine (up_tile m c t _ f).trans (congrArg (fun R => up (hA m c) (uA m c) R f) (Fin.ext ?_))
    show 512 * t.val + ((r : ℕ) - j) = 512 * t.val + r - j
    omega

theorem out_at (t : Fin cfg0.N) (r : Fin 512) (o : Fin 1024) :
    ((outsAt0 m c t.val t.isLt).1 (ix2 r o) : EReal) = res (hA m c) (xA m c) (uA m c) (wA m c) (bA m c) (dA m c) (grow t r) o := by
  rw [out_tile m c t]
  refine (tile_at _ _ _ _ _ _ _ r o).trans ?_
  unfold res conv
  refine congr (congrArg (fun y z : EReal => y + z) (rd_1 m c t r o)) (Finset.sum_congr rfl fun f _ => ?_)
  rw [prev_tile m c t 2 (by decide) r f, prev_tile m c t 1 (by decide) r f, up_tile, gate_tile]
  refine congr (congrArg (fun y z : EReal => y * z) (congrArg (fun y => gelu y * _) ?_)) (rd_5 m c t f o)
  refine congr (congrArg (fun y z : EReal => y + z) (congr (congrArg (fun y z : EReal => y + z)
    (congr (congrArg (fun y z : EReal => y + z) (rd_4 m c t f)) (congrArg (fun z : EReal => _ * z) (rd_3 m c t 0 f))))
    (congrArg (fun z : EReal => _ * z) (rd_3 m c t 1 f)))) (congrArg (fun z : EReal => _ * z) (rd_3 m c t 2 f))

/-- The kernel's array, once every tile is written. -/
theorem arr_eq : (dats m 0 c).arrAt 6 cfg0.N
    = fun x : S16384x1024.Idx => res (hA m c) (xA m c) (uA m c) (wA m c) (bA m c) (dA m c) (x 0) (x 1) := by
  refine (dats m 0 c).arrAt_eq_of_covers 6 _ (by decide +kernel) fun t hf y => ?_
  blk_simp
  refine Eq.trans ?_ (Eq.trans (out_at m c t (y 0) (y 1)) ?_)
  · refine congrArg (outsAt0 m c t.val t.isLt).1 (funext fun a => ?_)
    match a with
    | ⟨0, _⟩ => rfl
    | ⟨1, _⟩ => rfl
  · refine congr (congrArg _ (Fin.ext (Eq.symm ?_))) (Fin.ext (Eq.symm ?_))
    · blk_simp
      exact (congrArg (· * 512 + (y 0 : ℕ)) (congrFun (index_6 t) 0)).trans (by show t.val * 512 + (y 0 : ℕ) = 512 * t.val + (y 0 : ℕ); omega)
    · blk_simp
      exact (congrArg (· * 1024 + (y 1 : ℕ)) (congrFun (index_6 t) 1)).trans (by simp)

/-- The kernel's array is the reference's of the same arguments. -/
theorem arr_ref : (dats m 0 c).arrAt 6 cfg0.N
    = Cert.MlpRefIdeal.Proof.resv (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [arr_eq]
  funext x
  obtain ⟨b, s, o, rfl⟩ : ∃ (b : Fin 4) (s : Fin 4096) (o : Fin 1024), x = ix2 (Cert.MlpRefIdeal.Proof.at4 b s) o := by
    have h0 : (x 0).val < 16384 := (x 0).isLt
    refine ⟨⟨(x 0).val / 4096, by omega⟩, ⟨(x 0).val % 4096, by omega⟩, x 1, funext fun a => ?_⟩
    match a with
    | ⟨0, _⟩ => exact Fin.ext (by show (x 0).val = 4096 * ((x 0).val / 4096) + (x 0).val % 4096; omega)
    | ⟨1, _⟩ => rfl
  exact (Cert.MlpRefIdeal.Proof.resv_at _ _ _ _ _ _ b s o).symm

end Cert.MlpIdeal.Proof

end
-- ==== Proof.lean ====
/-
  The proof of `Cert.Claim` (Defs.lean).

  * The frames of the kernel's two programs: `Cert.Attn.Proof.run` and `Cert.AttnIdeal.Proof.run` (Proof/AttnFrame.lean,
    Proof/IdealFrame.lean), the body walked in Proof/AttnBody.lean, Proof/AttnRun.lean and their two copies for the idealized
    program.
  * The frame of the reference: its generated run; it declares no semaphore.
  * `algebraic`: the kernel's result array as its blocks leave it is the reference's (Proof/Value.lean), from the sums over the key
    tiles (Proof/RowSum.lean), the softmax identity (Proof/SoftMath.lean) and the reference read at an index (Proof/RefValue.lean,
    Proof/RefTop.lean).
  * `preserves`: the one statement of the named constant, the additive mask as minus infinity.
  * The feed-forward call: the frames are the generated ones; what a grid point leaves is read off its stores (Proof/MlpBody.lean),
    entry by entry (Proof/MlpOps.lean), the eight rows a point keeps for the next being the last of its tile (Proof/MlpValue.lean), and
    the reference read at an index (Proof/MlpRef.lean) is the same formula (Proof/MlpMath.lean).
-/
module

public import proofs.«01_k».proof.Defs
public import proofs.«01_k».proof.Proof.Gen.Attn
public import proofs.«01_k».proof.Proof.Gen.AttnIdeal
public import proofs.«01_k».proof.Proof.Gen.RefIdeal
public import proofs.«01_k».proof.Proof.Gen.RefIdeal.Run
public import proofs.«01_k».proof.Proof.AttnFrame
public import proofs.«01_k».proof.Proof.IdealFrame
public import proofs.«01_k».proof.Proof.Value
public import proofs.«01_k».proof.Proof.Gen.Mlp.Frame
public import proofs.«01_k».proof.Proof.Gen.MlpIdeal.Frame
public import proofs.«01_k».proof.Proof.Gen.MlpRefIdeal
public import proofs.«01_k».proof.Proof.MlpValue

@[expose] public section

noncomputable section

namespace Cert.Proof

open Idealize.ShloMosaic Idealize.SL.Sem

/-- The kernel as printed: its run leaves the arguments and the counters. -/
theorem frame_p : Cert.quiescent_Attn := fun m ρ _ =>
  (θ_run Cert.Attn.defs _ _).mono (fun _ h => ⟨fun c => (h.1 c).1, h.2⟩) (Cert.Attn.Proof.run (F := Bits) m ρ)

/-- The idealized kernel, from any memory. -/
theorem frame_pi : Cert.quiescent_AttnIdeal := fun m ρ _ =>
  (θ_run Cert.AttnIdeal.defs _ _).mono (fun _ h => ⟨fun c => (h.1 c).1, h.2⟩) (Cert.AttnIdeal.Proof.run (F := Ideal) m ρ)

/-- The reference, from any memory: a program of host operations that declares no semaphore. -/
theorem frame_ri : Cert.quiescent_RefIdeal := fun m ρ _ =>
  (θ_run Cert.RefIdeal.defs _ _).mono (fun r h => ⟨fun c => (h c).2, Idealize.ShloMosaic.sem_eq_zero_of_no_sems (by decide) r.2⟩)
    (Cert.RefIdeal.Value.run (F := Ideal) m ρ)

/-- The one named constant: the mask. -/
theorem preserves : Cert.preserves_Attn_AttnIdeal := IdealRules.named_const.statement Cert.AttnIdeal.κ "mask" .f32 0xF149F2CA#32 ⊥ rfl

section Value

variable [Cert.Pre_finite_arguments.Facts]

theorem frame_pi_pre : Cert.quiescent_AttnIdeal_pre_finite_arguments := fun m ρ _ =>
  (θ_run Cert.AttnIdeal.defs _ _).mono (fun _ h => ⟨fun c => (h.1 c).1, h.2⟩) (Cert.AttnIdeal.Proof.run (F := Ideal) m ρ)

theorem frame_ri_pre : Cert.quiescent_RefIdeal_pre_finite_arguments := fun m ρ _ =>
  (θ_run Cert.RefIdeal.defs _ _).mono (fun r h => ⟨fun c => (h c).2, Idealize.ShloMosaic.sem_eq_zero_of_no_sems (by decide) r.2⟩)
    (Cert.RefIdeal.Value.run (F := Ideal) m ρ)

/-- On arguments the precondition admits, the kernel and the reference leave the same array. -/
theorem algebraic : Cert.algebraic_AttnIdeal_RefIdeal_pre_finite_arguments := by
  intro m g m' g' hp hm
  refine ⟨fun c => Cert.RefIdeal.Proof.norm (Value.mixr m c) (m ((c.tc : Thread Cert.AttnIdeal.nD Cert.AttnIdeal.τ).loc Cert.AttnIdeal.main_arg7)), ?_, ?_⟩
  · refine (θ_run Cert.AttnIdeal.defs _ _).mono (fun r h c => ⟨?_, (h.1 c).1⟩) (Cert.AttnIdeal.Proof.run (F := Ideal) m g)
    exact (h.1 c).2.trans (Value.out_eq m c (Cert.Pre_finite_arguments.unpack _ _ _ _ _ _ _ _ _ (hp c)))
  · refine (θ_run Cert.RefIdeal.defs _ _).mono (fun r h c => ⟨(h c).1.trans ?_, (h c).2⟩) (Cert.RefIdeal.Value.run (F := Ideal) m' g')
    obtain ⟨e0, e1, e2, e3, e4, e5, e6, e7, _⟩ := hm c
    rw [Cert.RefIdeal.Proof.res_eq, e0, e1, e2, e3, e4, e5, e6, e7]
    rfl

end Value

/-- The feed-forward kernel as printed. -/
theorem frame_mlp : Cert.quiescent_Mlp := fun m ρ _ => Cert.Mlp.Gen.frame m ρ

/-- The idealized feed-forward kernel. -/
theorem frame_mlp_ideal : Cert.quiescent_MlpIdeal := fun m ρ _ => Cert.MlpIdeal.Gen.frame m ρ

/-- The feed-forward reference: a program of host operations that declares no semaphore. -/
theorem frame_mlp_ref : Cert.quiescent_MlpRefIdeal := fun m ρ _ =>
  (θ_run Cert.MlpRefIdeal.defs _ _).mono (fun r h => ⟨fun c => (h c).2, Idealize.ShloMosaic.sem_eq_zero_of_no_sems (by decide) r.2⟩)
    (Cert.MlpRefIdeal.Value.run (F := Ideal) m ρ)

/-- On any arguments the feed-forward kernel and its reference leave the same array. -/
theorem algebraic_mlp : Cert.algebraic_MlpIdeal_MlpRefIdeal := by
  intro m g m' g' _ hm
  refine ⟨fun c => Cert.MlpRefIdeal.Proof.resv (F := Ideal) (m ((c.tc : Thread Cert.MlpIdeal.nD Cert.MlpIdeal.τ).loc Cert.MlpIdeal.main_arg0))
    (m ((c.tc : Thread Cert.MlpIdeal.nD Cert.MlpIdeal.τ).loc Cert.MlpIdeal.main_arg1)) (m ((c.tc : Thread Cert.MlpIdeal.nD Cert.MlpIdeal.τ).loc Cert.MlpIdeal.main_arg2))
    (m ((c.tc : Thread Cert.MlpIdeal.nD Cert.MlpIdeal.τ).loc Cert.MlpIdeal.main_arg3)) (m ((c.tc : Thread Cert.MlpIdeal.nD Cert.MlpIdeal.τ).loc Cert.MlpIdeal.main_arg4))
    (m ((c.tc : Thread Cert.MlpIdeal.nD Cert.MlpIdeal.τ).loc Cert.MlpIdeal.main_arg5)), ?_, ?_⟩
  · exact (θ_run Cert.MlpIdeal.defs _ _).mono (fun r h c => ⟨(h c).1.trans (Cert.MlpIdeal.Proof.arr_ref m c), (h c).2⟩) (Cert.MlpIdeal.Value.run_blocks (F := Ideal) m g)
  · refine (θ_run Cert.MlpRefIdeal.defs _ _).mono (fun r h c => ⟨(h c).1.trans ?_, (h c).2⟩) (Cert.MlpRefIdeal.Value.run (F := Ideal) m' g')
    obtain ⟨e0, e1, e2, e3, e4, e5⟩ := hm c
    rw [Cert.MlpRefIdeal.Proof.res_eq, e0, e1, e2, e3, e4, e5]

theorem claim : Cert.Claim := ⟨Cert.Attn.Gen.facts, Cert.AttnIdeal.Gen.facts, Cert.RefIdeal.Gen.facts, Cert.Mlp.Gen.facts, Cert.MlpIdeal.Gen.facts,
  Cert.MlpRefIdeal.Gen.facts, Cert.Pre_finite_arguments.side,
  frame_p, frame_pi, @frame_pi_pre Cert.Pre_finite_arguments.side, frame_ri, @frame_ri_pre Cert.Pre_finite_arguments.side,
  frame_mlp, frame_mlp_ideal, frame_mlp_ref, preserves,
  @algebraic Cert.Pre_finite_arguments.side, trivial, algebraic_mlp⟩

end Cert.Proof

end
